-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10)
      ∧ r.2.mem ((c.tc : Thread Cert.Reference11Ideal.nD Cert.Reference11Ideal.τ).loc Cert.Reference11Ideal.main_arg11) = m ((c.tc : Thread Cert.Reference11Ideal.nD Cert.Reference11Ideal.τ).loc Cert.Reference11Ideal.main_arg11))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)) (v3 : (c : Dev Cert.KernelIdeal.nD) → Buf (Elt Ideal) ((c.tc : Thread Cert.KernelIdeal.nD Cert.KernelIdeal.τ).loc Cert.KernelIdeal.main_v32_3)) (v4 : (c : Dev Cert.KernelIdeal.nD) → Buf (Elt Ideal) ((c.tc : Thread Cert.KernelIdeal.nD Cert.KernelIdeal.τ).loc Cert.KernelIdeal.main_v32_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_2) = v2 c
          ∧ r.2.mem ((c.tc : Thread Cert.KernelIdeal.nD Cert.KernelIdeal.τ).loc Cert.KernelIdeal.main_v32_3) = v3 c
          ∧ r.2.mem ((c.tc : Thread Cert.KernelIdeal.nD Cert.KernelIdeal.τ).loc Cert.KernelIdeal.main_v32_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_v40) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_v9) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_v30) = v2 c
          ∧ r.2.mem ((c.tc : Thread Cert.Reference5Ideal.nD Cert.Reference5Ideal.τ).loc Cert.Reference5Ideal.main_v31) = v3 c
          ∧ r.2.mem ((c.tc : Thread Cert.Reference5Ideal.nD Cert.Reference5Ideal.τ).loc Cert.Reference5Ideal.main_v32) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)) (v6 : (c : Dev Cert.Kernel6Ideal.nD) → Buf (Elt Ideal) ((c.tc : Thread Cert.Kernel6Ideal.nD Cert.Kernel6Ideal.τ).loc Cert.Kernel6Ideal.main_v0_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_v0_5) = v5 c
          ∧ r.2.mem ((c.tc : Thread Cert.Kernel6Ideal.nD Cert.Kernel6Ideal.τ).loc Cert.Kernel6Ideal.main_v0_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v77) = v0 c
          ∧ r.2.mem ((c.tc : Thread Cert.Reference6Ideal.nD Cert.Reference6Ideal.τ).loc Cert.Reference6Ideal.main_v78) = v1 c
          ∧ r.2.mem ((c.tc : Thread Cert.Reference6Ideal.nD Cert.Reference6Ideal.τ).loc Cert.Reference6Ideal.main_v79) = v2 c
          ∧ r.2.mem ((c.tc : Thread Cert.Reference6Ideal.nD Cert.Reference6Ideal.τ).loc Cert.Reference6Ideal.main_v80) = v3 c
          ∧ r.2.mem ((c.tc : Thread Cert.Reference6Ideal.nD Cert.Reference6Ideal.τ).loc Cert.Reference6Ideal.main_v81) = v4 c
          ∧ r.2.mem ((c.tc : Thread Cert.Reference6Ideal.nD Cert.Reference6Ideal.τ).loc Cert.Reference6Ideal.main_v82) = v5 c
          ∧ r.2.mem ((c.tc : Thread Cert.Reference6Ideal.nD Cert.Reference6Ideal.τ).loc Cert.Reference6Ideal.main_v61) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_v21) = v1 c
          ∧ r.2.mem ((c.tc : Thread Cert.Reference7Ideal.nD Cert.Reference7Ideal.τ).loc Cert.Reference7Ideal.main_v23) = v2 c
          ∧ r.2.mem ((c.tc : Thread Cert.Reference7Ideal.nD Cert.Reference7Ideal.τ).loc Cert.Reference7Ideal.main_v24) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)
      ∧ m' ((c.tc : Thread Cert.Reference11Ideal.nD Cert.Reference11Ideal.τ).loc Cert.Reference11Ideal.main_arg11) = m ((c.tc : Thread Cert.Kernel11Ideal.nD Cert.Kernel11Ideal.τ).loc Cert.Kernel11Ideal.main_arg11)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)) (v4 : (c : Dev Cert.Kernel11Ideal.nD) → Buf (Elt Ideal) ((c.tc : Thread Cert.Kernel11Ideal.nD Cert.Kernel11Ideal.τ).loc Cert.Kernel11Ideal.main_v0_4)) (v5 : (c : Dev Cert.Kernel11Ideal.nD) → Buf (Elt Ideal) ((c.tc : Thread Cert.Kernel11Ideal.nD Cert.Kernel11Ideal.τ).loc Cert.Kernel11Ideal.main_v0_5)) (v6 : (c : Dev Cert.Kernel11Ideal.nD) → Buf (Elt Ideal) ((c.tc : Thread Cert.Kernel11Ideal.nD Cert.Kernel11Ideal.τ).loc Cert.Kernel11Ideal.main_v0_6)) (v7 : (c : Dev Cert.Kernel11Ideal.nD) → Buf (Elt Ideal) ((c.tc : Thread Cert.Kernel11Ideal.nD Cert.Kernel11Ideal.τ).loc Cert.Kernel11Ideal.main_v0_7)) (v8 : (c : Dev Cert.Kernel11Ideal.nD) → Buf (Elt Ideal) ((c.tc : Thread Cert.Kernel11Ideal.nD Cert.Kernel11Ideal.τ).loc Cert.Kernel11Ideal.main_v0_8)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_v0_4) = v4 c
          ∧ r.2.mem ((c.tc : Thread Cert.Kernel11Ideal.nD Cert.Kernel11Ideal.τ).loc Cert.Kernel11Ideal.main_v0_5) = v5 c
          ∧ r.2.mem ((c.tc : Thread Cert.Kernel11Ideal.nD Cert.Kernel11Ideal.τ).loc Cert.Kernel11Ideal.main_v0_6) = v6 c
          ∧ r.2.mem ((c.tc : Thread Cert.Kernel11Ideal.nD Cert.Kernel11Ideal.τ).loc Cert.Kernel11Ideal.main_v0_7) = v7 c
          ∧ r.2.mem ((c.tc : Thread Cert.Kernel11Ideal.nD Cert.Kernel11Ideal.τ).loc Cert.Kernel11Ideal.main_v0_8) = v8 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
          ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_v47) = v3 c
          ∧ r.2.mem ((c.tc : Thread Cert.Reference11Ideal.nD Cert.Reference11Ideal.τ).loc Cert.Reference11Ideal.main_v28) = v4 c
          ∧ r.2.mem ((c.tc : Thread Cert.Reference11Ideal.nD Cert.Reference11Ideal.τ).loc Cert.Reference11Ideal.main_v34) = v5 c
          ∧ r.2.mem ((c.tc : Thread Cert.Reference11Ideal.nD Cert.Reference11Ideal.τ).loc Cert.Reference11Ideal.main_v71) = v6 c
          ∧ r.2.mem ((c.tc : Thread Cert.Reference11Ideal.nD Cert.Reference11Ideal.τ).loc Cert.Reference11Ideal.main_v52) = v7 c
          ∧ r.2.mem ((c.tc : Thread Cert.Reference11Ideal.nD Cert.Reference11Ideal.τ).loc Cert.Reference11Ideal.main_v58) = v8 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10)
          ∧ r.2.mem ((c.tc : Thread Cert.Reference11Ideal.nD Cert.Reference11Ideal.τ).loc Cert.Reference11Ideal.main_arg11) = m' ((c.tc : Thread Cert.Reference11Ideal.nD Cert.Reference11Ideal.τ).loc Cert.Reference11Ideal.main_arg11))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite4 : Cert.Pre_finite4.Facts) (hPre_finite5 : Cert.Pre_finite5.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .bf16) (main_arg5 : FVec F S2816x1024 .bf16) (main_v13 : IVec S_ 1) (main_v15 : FVec F S2816x1024 .f32) (main_v16 : FVec F S2816x1024 .f32) : IVec S_ 1 :=
  let main_v17 : IVec S2816x1024 1 := cmpf .olt main_v15 main_v16
  let main_c_5 : IVec S_ 1 := constantI S_ 1 1#1
  let main_v18 : IVec S_ 1 := (fun x v => Host.reduce IntOp.andi x v reducesTo_S2816x1024_S_d0_1 h_S_) main_v17 main_c_5
  let main_v19 : IVec S_ 1 := andi main_v13 main_v18
  let main_v20 : FVec F S2816x1024 .f32 := (extf .f32 · bitsLt_bf16_f32) main_arg4
  let main_v21 : FVec F S2816x1024 .f32 := Host.absf main_v20
  let main_cst_6 : FVec F S_ .f32 := constant S_ .f32 0x7F800000#32
  let main_v22 : FVec F S2816x1024 .f32 := broadcastInDim S2816x1024 ![] bcast_S_S2816x1024 main_cst_6
  let main_v23 : IVec S2816x1024 1 := cmpf .olt main_v21 main_v22
  let main_c_7 : IVec S_ 1 := constantI S_ 1 1#1
  let main_v24 : IVec S_ 1 := (fun x v => Host.reduce IntOp.andi x v reducesTo_S2816x1024_S_d0_1 h_S_) main_v23 main_c_7
  let main_v25 : IVec S_ 1 := andi main_v19 main_v24
  let main_v26 : FVec F S2816x1024 .f32 := (extf .f32 · bitsLt_bf16_f32) main_arg5
  let main_v27 : FVec F S2816x1024 .f32 := Host.absf main_v26
  let main_cst_8 : FVec F S_ .f32 := constant S_ .f32 0x7F800000#32
  let main_v28 : FVec F S2816x1024 .f32 := broadcastInDim S2816x1024 ![] bcast_S_S2816x1024 main_cst_8
  let main_v29 : IVec S2816x1024 1 := cmpf .olt main_v27 main_v28
  let main_c_9 : IVec S_ 1 := constantI S_ 1 1#1
  let main_v30 : IVec S_ 1 := (fun x v => Host.reduce IntOp.andi x v reducesTo_S2816x1024_S_d0_1 h_S_) main_v29 main_c_9
  let main_v31 : IVec S_ 1 := andi main_v25 main_v30
  main_v31

def fn {F : FTy → Type} [FloatOps F] (main_arg0 : FVec F S8192x1024 .f32) (main_arg1 : FVec F S8192x1024 .f32) (main_arg2 : FVec F S1x1024 .f32) (main_arg3 : FVec F S2816x1024 .bf16) (main_arg4 : FVec F S2816x1024 .bf16) (main_arg5 : FVec F S2816x1024 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S2816x1024 .f32 := (extf .f32 · bitsLt_bf16_f32) main_arg3
  let main_v15 : FVec F S2816x1024 .f32 := Host.absf main_v14
  let main_cst_4 : FVec F S_ .f32 := constant S_ .f32 0x7F800000#32
  let main_v16 : FVec F S2816x1024 .f32 := broadcastInDim S2816x1024 ![] bcast_S_S2816x1024 main_cst_4
  fn_part1 (F := F) main_arg4 main_arg5 main_v13 main_v15 main_v16
-- ==== Pre_finite4.lean ====
abbrev S8192x5120 : Shape := ⟨2, ![8192, 5120]⟩
abbrev S8192x1024 : Shape := ⟨2, ![8192, 1024]⟩
abbrev S1x1024 : Shape := ⟨2, ![1, 1024]⟩
abbrev S5120x1024 : Shape := ⟨2, ![5120, 1024]⟩
abbrev S_ : Shape := ⟨0, ![]⟩

class Facts : Prop where
  bitsLt_bf16_f32 : FTy.bits .bf16 < FTy.bits .f32
  bcast_S_S8192x5120 : S_.BroadcastsInDim S8192x5120 (![] : Fin 0 → Fin S8192x5120.rank)
  reducesTo_S8192x5120_S_d0_1 : S8192x5120.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S5120x1024 : S_.BroadcastsInDim S5120x1024 (![] : Fin 0 → Fin S5120x1024.rank)
  reducesTo_S5120x1024_S_d0_1 : S5120x1024.ReducesTo [0, 1] S_

variable [Facts]

def fn_part1 {F : FTy → Type} [FloatOps F] (main_arg4 : FVec F S5120x1024 .bf16) (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  let main_v20 : FVec F S5120x1024 .f32 := (extf .f32 · bitsLt_bf16_f32) main_arg4
  let main_v21 : FVec F S5120x1024 .f32 := Host.absf main_v20
  let main_cst_6 : FVec F S_ .f32 := constant S_ .f32 0x7F800000#32
  let main_v22 : FVec F S5120x1024 .f32 := broadcastInDim S5120x1024 ![] bcast_S_S5120x1024 main_cst_6
  let main_v23 : IVec S5120x1024 1 := cmpf .olt main_v21 main_v22
  let main_c_7 : IVec S_ 1 := constantI S_ 1 1#1
  let main_v24 : IVec S_ 1 := (fun x v => Host.reduce IntOp.andi x v reducesTo_S5120x1024_S_d0_1 h_S_) main_v23 main_c_7
  let main_v25 : IVec S_ 1 := andi main_v19 main_v24
  main_v25

def fn {F : FTy → Type} [FloatOps F] (main_arg0 : FVec F S8192x5120 .bf16) (main_arg1 : FVec F S8192x1024 .f32) (main_arg2 : FVec F S8192x1024 .f32) (main_arg3 : FVec F S1x1024 .f32) (main_arg4 : FVec F S5120x1024 .bf16) : IVec S_ 1 :=
  let main_v0 : FVec F S8192x5120 .f32 := (extf .f32 · bitsLt_bf16_f32) main_arg0
  let main_v1 : FVec F S8192x5120 .f32 := Host.absf main_v0
  let main_cst : FVec F S_ .f32 := constant S_ .f32 0x7F800000#32
  let main_v2 : FVec F S8192x5120 .f32 := broadcastInDim S8192x5120 ![] bcast_S_S8192x5120 main_cst
  let main_v3 : IVec S8192x5120 1 := cmpf .olt main_v1 main_v2
  let main_c : IVec S_ 1 := constantI S_ 1 1#1
  let main_v4 : IVec S_ 1 := (fun x v => Host.reduce IntOp.andi x v reducesTo_S8192x5120_S_d0_1 h_S_) main_v3 main_c
  let main_v5 : FVec F S8192x1024 .f32 := Host.absf main_arg1
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v4 main_v8
  let main_v10 : FVec F S8192x1024 .f32 := Host.absf main_arg2
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_arg4 main_v14 main_v15 main_v16
-- ==== Pre_finite5.lean ====
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .bf16) (main_v14 : IVec S_ 1) (main_v16 : FVec F S2816x1024 .f32) (main_cst_4 : FVec F S_ .f32) : IVec S_ 1 :=
  let main_v17 : FVec F S2816x1024 .f32 := broadcastInDim S2816x1024 ![] bcast_S_S2816x1024 main_cst_4
  let main_v18 : IVec S2816x1024 1 := cmpf .olt main_v16 main_v17
  let main_c_5 : IVec S_ 1 := constantI S_ 1 1#1
  let main_v19 : IVec S_ 1 := (fun x v => Host.reduce IntOp.andi x v reducesTo_S2816x1024_S_d0_1 h_S_) main_v18 main_c_5
  let main_v20 : IVec S_ 1 := andi main_v14 main_v19
  let main_v21 : FVec F S2816x1024 .f32 := (extf .f32 · bitsLt_bf16_f32) main_arg4
  let main_v22 : FVec F S2816x1024 .f32 := Host.absf main_v21
  let main_cst_6 : FVec F S_ .f32 := constant S_ .f32 0x7F800000#32
  let main_v23 : FVec F S2816x1024 .f32 := broadcastInDim S2816x1024 ![] bcast_S_S2816x1024 main_cst_6
  let main_v24 : IVec S2816x1024 1 := cmpf .olt main_v22 main_v23
  let main_c_7 : IVec S_ 1 := constantI S_ 1 1#1
  let main_v25 : IVec S_ 1 := (fun x v => Host.reduce IntOp.andi x v reducesTo_S2816x1024_S_d0_1 h_S_) main_v24 main_c_7
  let main_v26 : IVec S_ 1 := andi main_v20 main_v25
  main_v26

def fn {F : FTy → Type} [FloatOps F] (main_arg0 : FVec F S8192x1024 .f32) (main_arg1 : FVec F S1x1024 .f32) (main_arg2 : FVec F S2816x1024 .bf16) (main_arg3 : FVec F S2816x1024 .bf16) (main_arg4 : FVec F S2816x1024 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S2816x1024 .f32 := (extf .f32 · bitsLt_bf16_f32) main_arg2
  let main_v10 : FVec F S2816x1024 .f32 := Host.absf main_v9
  let main_cst_2 : FVec F S_ .f32 := constant S_ .f32 0x7F800000#32
  let main_v11 : FVec F S2816x1024 .f32 := broadcastInDim S2816x1024 ![] bcast_S_S2816x1024 main_cst_2
  let main_v12 : IVec S2816x1024 1 := cmpf .olt main_v10 main_v11
  let main_c_3 : IVec S_ 1 := constantI S_ 1 1#1
  let main_v13 : IVec S_ 1 := (fun x v => Host.reduce IntOp.andi x v reducesTo_S2816x1024_S_d0_1 h_S_) main_v12 main_c_3
  let main_v14 : IVec S_ 1 := andi main_v8 main_v13
  let main_v15 : FVec F S2816x1024 .f32 := (extf .f32 · bitsLt_bf16_f32) main_arg3
  let main_v16 : FVec F S2816x1024 .f32 := Host.absf main_v15
  let main_cst_4 : FVec F S_ .f32 := constant S_ .f32 0x7F800000#32
  fn_part1 (F := F) main_arg4 main_v14 main_v16 main_cst_4
-- ==== Pre_finite6.lean ====
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_v31 : IVec S_ 1) (main_v34 : IVec S8192x1024 1) : IVec S_ 1 :=
  let main_c_11 : IVec S_ 1 := constantI S_ 1 1#1
  let main_v35 : IVec S_ 1 := (fun x v => Host.reduce IntOp.andi x v reducesTo_S8192x1024_S_d0_1 h_S_) main_v34 main_c_11
  let main_v36 : IVec S_ 1 := andi main_v31 main_v35
  main_v36

def fn_part1 {F : FTy → Type} [FloatOps F] (main_arg4 : FVec F S2816x1024 .bf16) (main_arg5 : FVec F S1x1024 .f32) (main_arg6 : FVec F S8192x1024 .f32) (main_v14 : IVec S_ 1) (main_v16 : FVec F S2816x1024 .f32) (main_cst_4 : FVec F S_ .f32) : IVec S_ 1 :=
  let main_v17 : FVec F S2816x1024 .f32 := broadcastInDim S2816x1024 ![] bcast_S_S2816x1024 main_cst_4
  let main_v18 : IVec S2816x1024 1 := cmpf .olt main_v16 main_v17
  let main_c_5 : IVec S_ 1 := constantI S_ 1 1#1
  let main_v19 : IVec S_ 1 := (fun x v => Host.reduce IntOp.andi x v reducesTo_S2816x1024_S_d0_1 h_S_) main_v18 main_c_5
  let main_v20 : IVec S_ 1 := andi main_v14 main_v19
  let main_v21 : FVec F S2816x1024 .f32 := (extf .f32 · bitsLt_bf16_f32) main_arg4
  let main_v22 : FVec F S2816x1024 .f32 := Host.absf main_v21
  let main_cst_6 : FVec F S_ .f32 := constant S_ .f32 0x7F800000#32
  let main_v23 : FVec F S2816x1024 .f32 := broadcastInDim S2816x1024 ![] bcast_S_S2816x1024 main_cst_6
  let main_v24 : IVec S2816x1024 1 := cmpf .olt main_v22 main_v23
  let main_c_7 : IVec S_ 1 := constantI S_ 1 1#1
  let main_v25 : IVec S_ 1 := (fun x v => Host.reduce IntOp.andi x v reducesTo_S2816x1024_S_d0_1 h_S_) main_v24 main_c_7
  let main_v26 : IVec S_ 1 := andi main_v20 main_v25
  let main_v27 : FVec F S1x1024 .f32 := Host.absf main_arg5
  let main_cst_8 : FVec F S_ .f32 := constant S_ .f32 0x7F800000#32
  let main_v28 : FVec F S1x1024 .f32 := broadcastInDim S1x1024 ![] bcast_S_S1x1024 main_cst_8
  let main_v29 : IVec S1x1024 1 := cmpf .olt main_v27 main_v28
  let main_c_9 : IVec S_ 1 := constantI S_ 1 1#1
  let main_v30 : IVec S_ 1 := (fun x v => Host.reduce IntOp.andi x v reducesTo_S1x1024_S_d0_1 h_S_) main_v29 main_c_9
  let main_v31 : IVec S_ 1 := andi main_v26 main_v30
  let main_v32 : FVec F S8192x1024 .f32 := Host.absf main_arg6
  let main_cst_10 : FVec F S_ .f32 := constant S_ .f32 0x7F800000#32
  let main_v33 : FVec F S8192x1024 .f32 := broadcastInDim S8192x1024 ![] bcast_S_S8192x1024 main_cst_10
  let main_v34 : IVec S8192x1024 1 := cmpf .olt main_v32 main_v33
  fn_part2 (F := F) main_v31 main_v34

def fn {F : FTy → Type} [FloatOps F] (main_arg0 : FVec F S8192x1024 .f32) (main_arg1 : FVec F S1x1024 .f32) (main_arg2 : FVec F S2816x1024 .bf16) (main_arg3 : FVec F S2816x1024 .bf16) (main_arg4 : FVec F S2816x1024 .bf16) (main_arg5 : FVec F S1x1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S2816x1024 .f32 := (extf .f32 · bitsLt_bf16_f32) main_arg2
  let main_v10 : FVec F S2816x1024 .f32 := Host.absf main_v9
  let main_cst_2 : FVec F S_ .f32 := constant S_ .f32 0x7F800000#32
  let main_v11 : FVec F S2816x1024 .f32 := broadcastInDim S2816x1024 ![] bcast_S_S2816x1024 main_cst_2
  let main_v12 : IVec S2816x1024 1 := cmpf .olt main_v10 main_v11
  let main_c_3 : IVec S_ 1 := constantI S_ 1 1#1
  let main_v13 : IVec S_ 1 := (fun x v => Host.reduce IntOp.andi x v reducesTo_S2816x1024_S_d0_1 h_S_) main_v12 main_c_3
  let main_v14 : IVec S_ 1 := andi main_v8 main_v13
  let main_v15 : FVec F S2816x1024 .f32 := (extf .f32 · bitsLt_bf16_f32) main_arg3
  let main_v16 : FVec F S2816x1024 .f32 := Host.absf main_v15
  let main_cst_4 : FVec F S_ .f32 := constant S_ .f32 0x7F800000#32
  fn_part1 (F := F) main_arg4 main_arg5 main_arg6 main_v14 main_v16 main_cst_4
-- ==== Kernel.lean ====
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S256x1024 : Shape := ⟨2, ![256, 1024]⟩
abbrev S256x2816 : Shape := ⟨2, ![256, 2816]⟩
abbrev S3 : Shape := ⟨1, ![3]⟩
abbrev S1 : Shape := ⟨1, ![1]⟩
abbrev S1024x1024 : Shape := ⟨2, ![1024, 1024]⟩
abbrev S768x1024 : Shape := ⟨2, ![768, 1024]⟩
abbrev S256x768 : Shape := ⟨2, ![256, 768]⟩
abbrev S256 : Shape := ⟨1, ![256]⟩
abbrev S256x1 : Shape := ⟨2, ![256, 1]⟩
abbrev S1024 : Shape := ⟨1, ![1024]⟩

abbrev nBuf : Space → Nat
  | .hbm => 51
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2816x1024, .bf16⟩
  | .hbm, ⟨4, _⟩ => ⟨S2816x1024, .bf16⟩
  | .hbm, ⟨5, _⟩ => ⟨S2816x1024, .bf16⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .bf16⟩
  | .hbm, ⟨44, _⟩ => ⟨S8192x2816, .f32⟩
  | .hbm, ⟨45, _⟩ => ⟨S8192x2816, .bf16⟩
  | .hbm, ⟨46, _⟩ => ⟨S8192x1024, .f32⟩
  | .hbm, ⟨47, _⟩ => ⟨S8192x2816, .bf16⟩
  | .hbm, ⟨48, _⟩ => ⟨S8192x2816, .bf16⟩
  | .hbm, ⟨49, _⟩ => ⟨S8192x1024, .bf16⟩
  | .hbm, ⟨50, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x1024, .f32⟩
  | .local _ .vmem, ⟨10, _⟩ => ⟨S256x1024, .f32⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S2816x1024, .bf16⟩
  | .local _ .vmem, ⟨19, _⟩ => ⟨S2816x1024, .bf16⟩
  | .local _ .vmem, ⟨20, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32_0 : Ref sig .tc := ⟨.hbm, 46, rfl⟩
abbrev main_v32_1 : Ref sig .tc := ⟨.hbm, 47, rfl⟩
abbrev main_v32_2 : Ref sig .tc := ⟨.hbm, 48, rfl⟩
abbrev main_v32_3 : Ref sig .tc := ⟨.hbm, 49, rfl⟩
abbrev main_v32_4 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S8192x1024 : Shape := ⟨2, ![8192, 1024]⟩
abbrev S1x1024 : Shape := ⟨2, ![1, 1024]⟩
abbrev S2816x1024 : Shape := ⟨2, ![2816, 1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩

abbrev nBuf : Space → Nat
  | .hbm => 138
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S2816x1024, .bf16⟩
  | 4 => ⟨S2816x1024, .bf16⟩
  | 5 => ⟨S2816x1024, .bf16⟩
  | 6 => ⟨S2816x1024, .f32⟩
  | 7 => ⟨S1024x2816, .f32⟩
  | 8 => ⟨S2816x1024, .f32⟩
  | 9 => ⟨S1024x2816, .f32⟩
  | 10 => ⟨S2816x1024, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S8192x1024, .f32⟩
  | 29 => ⟨S8192x1024, .f32⟩
  | 30 => ⟨S8192x2816, .f32⟩
  | 31 => ⟨S8192x2816, .f32⟩
  | 32 => ⟨S8192x2816, .f32⟩
  | 33 => ⟨S_, .f32⟩
  | 34 => ⟨S8192x2816, .f32⟩
  | 35 => ⟨S8192x2816, .f32⟩
  | 36 => ⟨S_, .f32⟩
  | 37 => ⟨S8192x2816, .f32⟩
  | 38 => ⟨S8192x2816, .f32⟩
  | 39 => ⟨S_, .f32⟩
  | 40 => ⟨S8192x2816, .f32⟩
  | 41 => ⟨S8192x2816, .f32⟩
  | 42 => ⟨S8192x2816, .f32⟩
  | 43 => ⟨S8192x2816, .f32⟩
  | 44 => ⟨S8192x2816, .f32⟩
  | 45 => ⟨S8192x2816, .f32⟩
  | 46 => ⟨S8192x1024, .f32⟩
  | 47 => ⟨S_, .f32⟩
  | 48 => ⟨S8192x1024, .f32⟩
  | 49 => ⟨S8192x1024, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S8192x2816, .f32⟩
  | 56 => ⟨S8192x2816, .f32⟩
  | 57 => ⟨S8192x2816, .f32⟩
  | 58 => ⟨S8192x1024, .f32⟩
  | 59 => ⟨S8192x2816, .f32⟩
  | 60 => ⟨S8192x2816, .f32⟩
  | 61 => ⟨S8192x2816, .f32⟩
  | 62 => ⟨S8192x2816, .f32⟩
  | 63 => ⟨S8192x1024, .f32⟩
  | 64 => ⟨S8192x1024, .f32⟩
  | 65 => ⟨S8192x1024, .f32⟩
  | 66 => ⟨S_, .f32⟩
  | 67 => ⟨S1024, .f32⟩
  | 68 => ⟨S1x1024, .f32⟩
  | 69 => ⟨S8192x1024, .f32⟩
  | 70 => ⟨S8192x1024, .f32⟩
  | 71 => ⟨S8192x1024, .f32⟩
  | 72 => ⟨S_, .f32⟩
  | 73 => ⟨S8192, .f32⟩
  | 74 => ⟨S8192x1, .f32⟩
  | 75 => ⟨S8192x1024, .f32⟩
  | 76 => ⟨S8192x1024, .f32⟩
  | 77 => ⟨S8192x1024, .f32⟩
  | 78 => ⟨S8192x1, .f32⟩
  | 79 => ⟨S_, .f32⟩
  | 80 => ⟨S8192x1, .f32⟩
  | 81 => ⟨S8192x1, .f32⟩
  | 82 => ⟨S_, .f32⟩
  | 83 => ⟨S8192, .f32⟩
  | 84 => ⟨S8192x1024, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S_, .f32⟩
  | 91 => ⟨S8192, .f32⟩
  | 92 => ⟨S8192x1, .f32⟩
  | 93 => ⟨S_, .f32⟩
  | 94 => ⟨S8192x1, .f32⟩
  | 95 => ⟨S8192x1, .f32⟩
  | 96 => ⟨S_, .f32⟩
  | 97 => ⟨S8192x1, .f32⟩
  | 98 => ⟨S8192x1, .f32⟩
  | 99 => ⟨S8192x1, .f32⟩
  | 100 => ⟨S8192x1024, .f32⟩
  | 101 => ⟨S8192x1024, .f32⟩
  | 102 => ⟨S8192x1024, .f32⟩
  | 103 => ⟨S8192x1024, .f32⟩
  | 104 => ⟨S8192x2816, .f32⟩
  | 105 => ⟨S8192x2816, .f32⟩
  | 106 => ⟨S8192x2816, .f32⟩
  | 107 => ⟨S8192x2816, .f32⟩
  | 108 => ⟨S_, .f32⟩
  | 109 => ⟨S8192x2816, .f32⟩
  | 110 => ⟨S8192x2816, .f32⟩
  | 111 => ⟨S_, .f32⟩
  | 112 => ⟨S8192x2816, .f32⟩
  | 113 => ⟨S8192x2816, .f32⟩
  | 114 => ⟨S_, .f32⟩
  | 115 => ⟨S8192x2816, .f32⟩
  | 116 => ⟨S8192x2816, .f32⟩
  | 117 => ⟨S8192x2816, .f32⟩
  | 118 => ⟨S8192x2816, .f32⟩
  | 119 => ⟨S8192x2816, .f32⟩
  | 120 => ⟨S8192x1024, .f32⟩
  | 121 => ⟨S_, .f32⟩
  | 122 => ⟨S8192x1024, .f32⟩
  | 123 => ⟨S8192x1024, .f32⟩
  | 124 => ⟨S8192x1024, .f32⟩
  | 125 => ⟨S_, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x2816, .f32⟩
  | 1 => ⟨S8192x2816, .f32⟩
  | 2 => ⟨S8192x2816, .f32⟩
  | 3 => ⟨S8192x2816, .f32⟩
  | 4 => ⟨S8192x2816, .f32⟩
  | 5 => ⟨S8192x2816, .f32⟩
  | 6 => ⟨S8192x2816, .f32⟩
  | 7 => ⟨S8192x2816, .bf16⟩
  | 8 => ⟨S8192x2816, .bf16⟩
  | 9 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v21_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v21_1 : Ref sig .tc := ⟨.hbm, 42, rfl⟩
abbrev main_v21_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_7 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_9 : Ref sig .tc := ⟨.hbm, 90, rfl⟩
abbrev main_v59 : Ref sig .tc := ⟨.hbm, 91, rfl⟩
abbrev main_v60 : Ref sig .tc := ⟨.hbm, 92, rfl⟩
abbrev main_cst_10 : Ref sig .tc := ⟨.hbm, 93, rfl⟩
abbrev main_v61 : Ref sig .tc := ⟨.hbm, 94, rfl⟩
abbrev main_v62 : Ref sig .tc := ⟨.hbm, 95, rfl⟩
abbrev main_cst_11 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_call2_v0 : Ref sig .tc := ⟨.hbm, 106, rfl⟩
abbrev main_call2_v1 : Ref sig .tc := ⟨.hbm, 107, rfl⟩
abbrev main_call2_cst : Ref sig .tc := ⟨.hbm, 108, rfl⟩
abbrev main_call2_v2 : Ref sig .tc := ⟨.hbm, 109, rfl⟩
abbrev main_call2_v3 : Ref sig .tc := ⟨.hbm, 110, rfl⟩
abbrev main_call2_cst_0 : Ref sig .tc := ⟨.hbm, 111, rfl⟩
abbrev main_call2_v4 : Ref sig .tc := ⟨.hbm, 112, rfl⟩
abbrev main_v72_2 : Ref sig .tc := ⟨.hbm, 113, rfl⟩
abbrev main_call2_cst_1 : Ref sig .tc := ⟨.hbm, 114, rfl⟩
abbrev main_call2_v6 : Ref sig .tc := ⟨.hbm, 115, rfl⟩
abbrev main_call2_v7 : Ref sig .tc := ⟨.hbm, 116, rfl⟩
abbrev main_v72_1 : Ref sig .tc := ⟨.hbm, 117, rfl⟩
abbrev main_v72_0 : Ref sig .tc := ⟨.hbm, 118, rfl⟩
abbrev main_v73 : Ref sig .tc := ⟨.hbm, 119, rfl⟩
abbrev main_v74 : Ref sig .tc := ⟨.hbm, 120, rfl⟩
abbrev main_cst_12 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_cst_13 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩

abbrev nD : Nat := 1
abbrev τ : Topo := Topo.v7x

variable {F : FTy → Type} [FloatOps F]
-- ==== Kernel2.lean ====
abbrev S8192x2816 : Shape := ⟨2, ![8192, 2816]⟩
abbrev S8192x1024 : Shape := ⟨2, ![8192, 1024]⟩
abbrev S2816x1024 : Shape := ⟨2, ![2816, 1024]⟩
abbrev S8192x256 : Shape := ⟨2, ![8192, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S8192x256, .bf16⟩
  | .local _ .vmem, ⟨1, _⟩ => ⟨S8192x256, .bf16⟩
  | .local _ .vmem, ⟨2, _⟩ => ⟨S8192x1024, .bf16⟩
  | .local _ .vmem, ⟨3, _⟩ => ⟨S256x1024, .bf16⟩
  | .local _ .vmem, ⟨4, _⟩ => ⟨S256x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x1024, .f32⟩
  | .hbm, ⟨3, _⟩ => ⟨S8192x2816, .f32⟩
  | .hbm, ⟨4, _⟩ => ⟨S_, .f32⟩
  | .hbm, ⟨5, _⟩ => ⟨S2816x1024, .f32⟩
  | .hbm, ⟨6, _⟩ => ⟨S1024x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S8192x5120 : Shape := ⟨2, ![8192, 5120]⟩
abbrev S8192x1024 : Shape := ⟨2, ![8192, 1024]⟩
abbrev S5120x1024 : Shape := ⟨2, ![5120, 1024]⟩
abbrev S1x5120 : Shape := ⟨2, ![1, 5120]⟩
abbrev S8192x256 : Shape := ⟨2, ![8192, 256]⟩
abbrev S256x1024 : Shape := ⟨2, ![256, 1024]⟩
abbrev S1x256 : Shape := ⟨2, ![1, 256]⟩
abbrev S256 : Shape := ⟨1, ![256]⟩

abbrev nBuf : Space → Nat
  | .hbm => 4
  | .vmem => 7
  | .smem => 0
  | _ => 0

abbrev bufTy : (tb : Table) → Fin (tcTables nBuf tb) → BufTy
  | .hbm, ⟨0, _⟩ => ⟨S8192x5120, .bf16⟩
  | .hbm, ⟨1, _⟩ => ⟨S8192x1024, .bf16⟩
  | .hbm, ⟨2, _⟩ => ⟨S5120x1024, .bf16⟩
  | .hbm, ⟨3, _⟩ => ⟨S1x5120, .f32⟩
  | .local _ .vmem, ⟨0, _⟩ => ⟨S8192x256, .bf16⟩
  | .local _ .vmem, ⟨1, _⟩ => ⟨S8192x256, .bf16⟩
  | .local _ .vmem, ⟨2, _⟩ => ⟨S8192x1024, .bf16⟩
  | .local _ .vmem, ⟨3, _⟩ => ⟨S256x1024, .bf16⟩
  | .local _ .vmem, ⟨4, _⟩ => ⟨S256x1024, .bf16⟩
  | .local _ .vmem, ⟨5, _⟩ => ⟨S1x256, .f32⟩
  | .local _ .vmem, ⟨6, _⟩ => ⟨S1x256, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8192x5120 : Shape := ⟨2, ![8192, 5120]⟩
abbrev S8192x1024 : Shape := ⟨2, ![8192, 1024]⟩
abbrev S_ : Shape := ⟨0, ![]⟩
abbrev S5120x1024 : Shape := ⟨2, ![5120, 1024]⟩
abbrev S1x5120 : Shape := ⟨2, ![1, 5120]⟩
abbrev S1024x5120 : Shape := ⟨2, ![1024, 5120]⟩
abbrev S5120 : Shape := ⟨1, ![5120]⟩

abbrev nBuf : Space → Nat
  | .hbm => 19
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S5120x1024, .f32⟩
  | .hbm, ⟨5, _⟩ => ⟨S_, .f32⟩
  | .hbm, ⟨6, _⟩ => ⟨S1x5120, .f32⟩
  | .hbm, ⟨7, _⟩ => ⟨S1024x5120, .f32⟩
  | .hbm, ⟨8, _⟩ => ⟨S8192x5120, .f32⟩
  | .hbm, ⟨9, _⟩ => ⟨S8192x5120, .f32⟩
  | .hbm, ⟨10, _⟩ => ⟨S8192x5120, .f32⟩
  | .hbm, ⟨11, _⟩ => ⟨S8192x5120, .f32⟩
  | .hbm, ⟨12, _⟩ => ⟨S_, .f32⟩
  | .hbm, ⟨13, _⟩ => ⟨S5120, .f32⟩
  | .hbm, ⟨14, _⟩ => ⟨S1x5120, .f32⟩
  | .hbm, ⟨15, _⟩ => ⟨S5120x1024, .f32⟩
  | .hbm, ⟨16, _⟩ => ⟨S1024x5120, .f32⟩
  | .hbm, ⟨17, _⟩ => ⟨S5120x1024, .f32⟩
  | .hbm, ⟨18, _⟩ => ⟨S5120x1024, .bf16⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel4.lean ====
abbrev S8192x5120 : Shape := ⟨2, ![8192, 5120]⟩
abbrev S8192x1024 : Shape := ⟨2, ![8192, 1024]⟩
abbrev S1x1024 : Shape := ⟨2, ![1, 1024]⟩
abbrev S5120x1024 : Shape := ⟨2, ![5120, 1024]⟩
abbrev S512x5120 : Shape := ⟨2, ![512, 5120]⟩
abbrev S512x1024 : Shape := ⟨2, ![512, 1024]⟩
abbrev S_ : Shape := ⟨0, ![]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x5120, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S5120x1024, .bf16⟩
  | .hbm, ⟨5, _⟩ => ⟨S8192x1024, .f32⟩
  | .hbm, ⟨6, _⟩ => ⟨S1x1024, .f32⟩
  | .local _ .vmem, ⟨0, _⟩ => ⟨S512x5120, .bf16⟩
  | .local _ .vmem, ⟨1, _⟩ => ⟨S512x5120, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S5120x1024, .bf16⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference4Ideal.lean ====
abbrev S8192x5120 : Shape := ⟨2, ![8192, 5120]⟩
abbrev S8192x1024 : Shape := ⟨2, ![8192, 1024]⟩
abbrev S1x1024 : Shape := ⟨2, ![1, 1024]⟩
abbrev S5120x1024 : Shape := ⟨2, ![5120, 1024]⟩
abbrev S1024x5120 : Shape := ⟨2, ![1024, 5120]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S5120x1024, .bf16⟩
  | .hbm, ⟨5, _⟩ => ⟨S5120x1024, .f32⟩
  | .hbm, ⟨6, _⟩ => ⟨S1024x5120, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x5120, .f32⟩
  | .hbm, ⟨27, _⟩ => ⟨S8192x5120, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S3 : Shape := ⟨1, ![3]⟩
abbrev S1 : Shape := ⟨1, ![1]⟩
abbrev S_ : Shape := ⟨0, ![]⟩
abbrev S512 : Shape := ⟨1, ![512]⟩
abbrev S512x1 : Shape := ⟨2, ![512, 1]⟩
abbrev S1024x1024 : Shape := ⟨2, ![1024, 1024]⟩
abbrev S768x1024 : Shape := ⟨2, ![768, 1024]⟩
abbrev S512x768 : Shape := ⟨2, ![512, 768]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S8192x1024, .f32⟩
  | .hbm, ⟨6, _⟩ => ⟨S8192x1024, .bf16⟩
  | .hbm, ⟨7, _⟩ => ⟨S8192x2816, .bf16⟩
  | .hbm, ⟨8, _⟩ => ⟨S8192x2816, .bf16⟩
  | .hbm, ⟨9, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S2816x1024, .bf16⟩
  | .local _ .vmem, ⟨14, _⟩ => ⟨S2816x1024, .bf16⟩
  | .local _ .vmem, ⟨15, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S8192x1024 : Shape := ⟨2, ![8192, 1024]⟩
abbrev S1x1024 : Shape := ⟨2, ![1, 1024]⟩
abbrev S2816x1024 : Shape := ⟨2, ![2816, 1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | .hbm, ⟨55, _⟩ => ⟨S8192x2816, .bf16⟩
  | .hbm, ⟨56, _⟩ => ⟨S8192x2816, .bf16⟩
  | .hbm, ⟨57, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v19_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v19_1 : Ref sig .tc := ⟨.hbm, 38, rfl⟩
abbrev main_v19_0 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v24 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S2816x1024 : Shape := ⟨2, ![2816, 1024]⟩
abbrev S8192x2816 : Shape := ⟨2, ![8192, 2816]⟩
abbrev S8x128 : Shape := ⟨2, ![8, 128]⟩
abbrev S512x1024 : Shape := ⟨2, ![512, 1024]⟩
abbrev S512x2816 : Shape := ⟨2, ![512, 2816]⟩
abbrev S3 : Shape := ⟨1, ![3]⟩
abbrev S1 : Shape := ⟨1, ![1]⟩
abbrev S_ : Shape := ⟨0, ![]⟩
abbrev S512 : Shape := ⟨1, ![512]⟩
abbrev S512x1 : Shape := ⟨2, ![512, 1]⟩
abbrev S1024x1024 : Shape := ⟨2, ![1024, 1024]⟩
abbrev S768x1024 : Shape := ⟨2, ![768, 1024]⟩
abbrev S512x768 : Shape := ⟨2, ![512, 768]⟩
abbrev S1x1 : Shape := ⟨2, ![1, 1]⟩
abbrev S1024 : Shape := ⟨1, ![1024]⟩

abbrev nBuf : Space → Nat
  | .hbm => 14
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | .hbm, ⟨9, _⟩ => ⟨S8192x2816, .bf16⟩
  | .hbm, ⟨10, _⟩ => ⟨S8192x2816, .bf16⟩
  | .hbm, ⟨11, _⟩ => ⟨S8192x2816, .bf16⟩
  | .hbm, ⟨12, _⟩ => ⟨S8x128, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S8x128, .f32⟩
  | .local _ .vmem, ⟨17, _⟩ => ⟨S1x1024, .f32⟩
  | .local _ .vmem, ⟨18, _⟩ => ⟨S2816x1024, .bf16⟩
  | .local _ .vmem, ⟨19, _⟩ => ⟨S2816x1024, .bf16⟩
  | .local _ .vmem, ⟨20, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference6Ideal.lean ====
abbrev S8192x1024 : Shape := ⟨2, ![8192, 1024]⟩
abbrev S1x1024 : Shape := ⟨2, ![1, 1024]⟩
abbrev S2816x1024 : Shape := ⟨2, ![2816, 1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩
abbrev S8x128 : Shape := ⟨2, ![8, 128]⟩

abbrev nBuf : Space → Nat
  | .hbm => 126
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S1x1024, .f32⟩
  | .hbm, ⟨6, _⟩ => ⟨S8192x1024, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S_, .f32⟩
  | .hbm, ⟨83, _⟩ => ⟨S8192, .f32⟩
  | .hbm, ⟨84, _⟩ => ⟨S8192, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S8192, .f32⟩
  | .hbm, ⟨93, _⟩ => ⟨S_, .f32⟩
  | .hbm, ⟨94, _⟩ => ⟨S8192, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S1024, .f32⟩
  | .hbm, ⟨101, _⟩ => ⟨S1x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S_, .f32⟩
  | .hbm, ⟨106, _⟩ => ⟨S8192, .f32⟩
  | .hbm, ⟨107, _⟩ => ⟨S8192x1, .f32⟩
  | .hbm, ⟨108, _⟩ => ⟨S8192x1024, .f32⟩
  | .hbm, ⟨109, _⟩ => ⟨S8192x1024, .f32⟩
  | .hbm, ⟨110, _⟩ => ⟨S8192x1, .f32⟩
  | .hbm, ⟨111, _⟩ => ⟨S_, .f32⟩
  | .hbm, ⟨112, _⟩ => ⟨S8192x1, .f32⟩
  | .hbm, ⟨113, _⟩ => ⟨S8192x1, .f32⟩
  | .hbm, ⟨114, _⟩ => ⟨S_, .f32⟩
  | .hbm, ⟨115, _⟩ => ⟨S8192, .f32⟩
  | .hbm, ⟨116, _⟩ => ⟨S8192x1024, .f32⟩
  | .hbm, ⟨117, _⟩ => ⟨S8192x1024, .f32⟩
  | .hbm, ⟨118, _⟩ => ⟨S8192x1024, .f32⟩
  | .hbm, ⟨119, _⟩ => ⟨S8192x1024, .f32⟩
  | .hbm, ⟨120, _⟩ => ⟨S8192x1024, .f32⟩
  | .hbm, ⟨121, _⟩ => ⟨S8192x1024, .bf16⟩
  | .hbm, ⟨122, _⟩ => ⟨S8192x2816, .bf16⟩
  | .hbm, ⟨123, _⟩ => ⟨S8192x2816, .bf16⟩
  | .hbm, ⟨124, _⟩ => ⟨S8192x2816, .bf16⟩
  | .hbm, ⟨125, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v19_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v19_1 : Ref sig .tc := ⟨.hbm, 40, rfl⟩
abbrev main_v19_0 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v24 : Ref sig .tc := ⟨.hbm, 50, rfl⟩
abbrev main_v25 : Ref sig .tc := ⟨.hbm, 51, rfl⟩
abbrev main_cst_3 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_4 : Ref sig .tc := ⟨.hbm, 57, rfl⟩
abbrev main_v30 : Ref sig .tc := ⟨.hbm, 58, rfl⟩
abbrev main_v31 : Ref sig .tc := ⟨.hbm, 59, rfl⟩
abbrev main_cst_5 : Ref sig .tc := ⟨.hbm, 60, rfl⟩
abbrev main_v32 : Ref sig .tc := ⟨.hbm, 61, rfl⟩
abbrev main_v33 : Ref sig .tc := ⟨.hbm, 62, rfl⟩
abbrev main_cst_6 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_7 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_8 : Ref sig .tc := ⟨.hbm, 77, rfl⟩
abbrev main_v46 : Ref sig .tc := ⟨.hbm, 78, rfl⟩
abbrev main_v47 : Ref sig .tc := ⟨.hbm, 79, rfl⟩
abbrev main_cst_9 : Ref sig .tc := ⟨.hbm, 80, rfl⟩
abbrev main_v48 : Ref sig .tc := ⟨.hbm, 81, rfl⟩
abbrev main_cst_10 : Ref sig .tc := ⟨.hbm, 82, rfl⟩
abbrev main_v49 : Ref sig .tc := ⟨.hbm, 83, rfl⟩
abbrev main_v50 : Ref sig .tc := ⟨.hbm, 84, rfl⟩
abbrev main_cst_11 : Ref sig .tc := ⟨.hbm, 85, rfl⟩
abbrev main_v51 : Ref sig .tc := ⟨.hbm, 86, rfl⟩
abbrev main_cst_12 : Ref sig .tc := ⟨.hbm, 87, rfl⟩
abbrev main_v52 : Ref sig .tc := ⟨.hbm, 88, rfl⟩
abbrev main_cst_13 : Ref sig .tc := ⟨.hbm, 89, rfl⟩
abbrev main_cst_14 : Ref sig .tc := ⟨.hbm, 90, rfl⟩
abbrev main_v53 : Ref sig .tc := ⟨.hbm, 91, rfl⟩
abbrev main_v54 : Ref sig .tc := ⟨.hbm, 92, rfl⟩
abbrev main_cst_15 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_16 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_17 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_18 : Ref sig .tc := ⟨.hbm, 111, rfl⟩
abbrev main_v70 : Ref sig .tc := ⟨.hbm, 112, rfl⟩
abbrev main_v71 : Ref sig .tc := ⟨.hbm, 113, rfl⟩
abbrev main_cst_19 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩

abbrev nD : Nat := 1
abbrev τ : Topo := Topo.v7x

variable {F : FTy → Type} [FloatOps F]
-- ==== Kernel7.lean ====
abbrev S8192x1024 : Shape := ⟨2, ![8192, 1024]⟩
abbrev S1x1024 : Shape := ⟨2, ![1, 1024]⟩
abbrev S5120x1024 : Shape := ⟨2, ![5120, 1024]⟩
abbrev S1x5120 : Shape := ⟨2, ![1, 5120]⟩
abbrev S4x18x2048x128 : Shape := ⟨4, ![4, 18, 2048, 128]⟩
abbrev S8192x768 : Shape := ⟨2, ![8192, 768]⟩
abbrev S8192x2048 : Shape := ⟨2, ![8192, 2048]⟩
abbrev S512x1024 : Shape := ⟨2, ![512, 1024]⟩
abbrev S1x18x512x128 : Shape := ⟨4, ![1, 18, 512, 128]⟩
abbrev S512x768 : Shape := ⟨2, ![512, 768]⟩
abbrev S512x2048 : Shape := ⟨2, ![512, 2048]⟩
abbrev S_ : Shape := ⟨0, ![]⟩
abbrev S512 : Shape := ⟨1, ![512]⟩
abbrev S512x1 : Shape := ⟨2, ![512, 1]⟩
abbrev S1280x1024 : Shape := ⟨2, ![1280, 1024]⟩
abbrev S512x1280 : Shape := ⟨2, ![512, 1280]⟩
abbrev S1x1280 : Shape := ⟨2, ![1, 1280]⟩
abbrev S512x128 : Shape := ⟨2, ![512, 128]⟩
abbrev S1x1x512x128 : Shape := ⟨4, ![1, 1, 512, 128]⟩
abbrev S1024x1024 : Shape := ⟨2, ![1024, 1024]⟩
abbrev S768x1024 : Shape := ⟨2, ![768, 1024]⟩
abbrev S1x768 : Shape := ⟨2, ![1, 768]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S5120x1024, .bf16⟩
  | .hbm, ⟨3, _⟩ => ⟨S1x5120, .f32⟩
  | .hbm, ⟨4, _⟩ => ⟨S8192x1024, .bf16⟩
  | .hbm, ⟨5, _⟩ => ⟨S4x18x2048x128, .f32⟩
  | .hbm, ⟨6, _⟩ => ⟨S8192x768, .bf16⟩
  | .hbm, ⟨7, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x5120, .f32⟩
  | .local _ .vmem, ⟨4, _⟩ => ⟨S512x1024, .bf16⟩
  | .local _ .vmem, ⟨5, _⟩ => ⟨S512x1024, .bf16⟩
  | .local _ .vmem, ⟨6, _⟩ => ⟨S1x18x512x128, .f32⟩
  | .local _ .vmem, ⟨7, _⟩ => ⟨S1x18x512x128, .f32⟩
  | .local _ .vmem, ⟨8, _⟩ => ⟨S512x768, .bf16⟩
  | .local _ .vmem, ⟨9, _⟩ => ⟨S512x768, .bf16⟩
  | .local _ .vmem, ⟨10, _⟩ => ⟨S512x2048, .bf16⟩
  | .local _ .vmem, ⟨11, _⟩ => ⟨S512x2048, .bf16⟩
  | .local _ .vmem, ⟨12, _⟩ => ⟨S5120x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x18x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S8192x1024 : Shape := ⟨2, ![8192, 1024]⟩
abbrev S1x1024 : Shape := ⟨2, ![1, 1024]⟩
abbrev S5120x1024 : Shape := ⟨2, ![5120, 1024]⟩
abbrev S1x5120 : Shape := ⟨2, ![1, 5120]⟩
abbrev S_ : Shape := ⟨0, ![]⟩
abbrev S8192 : Shape := ⟨1, ![8192]⟩
abbrev S8192x1 : Shape := ⟨2, ![8192, 1]⟩
abbrev S1024x5120 : Shape := ⟨2, ![1024, 5120]⟩
abbrev S8192x5120 : Shape := ⟨2, ![8192, 5120]⟩
abbrev S8192x2304 : Shape := ⟨2, ![8192, 2304]⟩
abbrev S8192x768 : Shape := ⟨2, ![8192, 768]⟩
abbrev S8192x2048 : Shape := ⟨2, ![8192, 2048]⟩
abbrev S4x2048x18x128 : Shape := ⟨4, ![4, 2048, 18, 128]⟩
abbrev S4x18x2048x128 : Shape := ⟨4, ![4, 18, 2048, 128]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S5120x1024, .bf16⟩
  | .hbm, ⟨3, _⟩ => ⟨S1x5120, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S5120x1024, .f32⟩
  | .hbm, ⟨20, _⟩ => ⟨S1024x5120, .f32⟩
  | .hbm, ⟨21, _⟩ => ⟨S8192x5120, .f32⟩
  | .hbm, ⟨22, _⟩ => ⟨S8192x5120, .f32⟩
  | .hbm, ⟨23, _⟩ => ⟨S8192x5120, .f32⟩
  | .hbm, ⟨24, _⟩ => ⟨S8192x2304, .f32⟩
  | .hbm, ⟨25, _⟩ => ⟨S8192x768, .f32⟩
  | .hbm, ⟨26, _⟩ => ⟨S8192x2048, .f32⟩
  | .hbm, ⟨27, _⟩ => ⟨S4x2048x18x128, .f32⟩
  | .hbm, ⟨28, _⟩ => ⟨S4x18x2048x128, .f32⟩
  | .hbm, ⟨29, _⟩ => ⟨S8192x1024, .bf16⟩
  | .hbm, ⟨30, _⟩ => ⟨S8192x768, .bf16⟩
  | .hbm, ⟨31, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S8192x256 : Shape := ⟨2, ![8192, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S8192x256, .bf16⟩
  | .local _ .vmem, ⟨1, _⟩ => ⟨S8192x256, .bf16⟩
  | .local _ .vmem, ⟨2, _⟩ => ⟨S8192x1024, .bf16⟩
  | .local _ .vmem, ⟨3, _⟩ => ⟨S256x1024, .bf16⟩
  | .local _ .vmem, ⟨4, _⟩ => ⟨S256x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x1024 : Shape := ⟨2, ![8192, 1024]⟩
abbrev S8192x256 : Shape := ⟨2, ![8192, 256]⟩
abbrev S1024x256 : Shape := ⟨2, ![1024, 256]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S1024x256, .bf16⟩
  | .local _ .vmem, ⟨0, _⟩ => ⟨S8192x256, .bf16⟩
  | .local _ .vmem, ⟨1, _⟩ => ⟨S8192x256, .bf16⟩
  | .local _ .vmem, ⟨2, _⟩ => ⟨S8192x256, .bf16⟩
  | .local _ .vmem, ⟨3, _⟩ => ⟨S256x256, .bf16⟩
  | .local _ .vmem, ⟨4, _⟩ => ⟨S256x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8192x1024 : Shape := ⟨2, ![8192, 1024]⟩
abbrev S8192x256 : Shape := ⟨2, ![8192, 256]⟩
abbrev S_ : Shape := ⟨0, ![]⟩
abbrev S1024x256 : Shape := ⟨2, ![1024, 256]⟩
abbrev S256x1024 : Shape := ⟨2, ![256, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x256, .f32⟩
  | .hbm, ⟨3, _⟩ => ⟨S8192x1024, .f32⟩
  | .hbm, ⟨4, _⟩ => ⟨S_, .f32⟩
  | .hbm, ⟨5, _⟩ => ⟨S1024x256, .f32⟩
  | .hbm, ⟨6, _⟩ => ⟨S256x1024, .f32⟩
  | .hbm, ⟨7, _⟩ => ⟨S8192x1024, .f32⟩
  | .hbm, ⟨8, _⟩ => ⟨S1024x256, .f32⟩
  | .hbm, ⟨9, _⟩ => ⟨S256x1024, .f32⟩
  | .hbm, ⟨10, _⟩ => ⟨S1024x256, .f32⟩
  | .hbm, ⟨11, _⟩ => ⟨S1024x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S8192x1024 : Shape := ⟨2, ![8192, 1024]⟩
abbrev S8192x512 : Shape := ⟨2, ![8192, 512]⟩
abbrev S1024x512 : Shape := ⟨2, ![1024, 512]⟩
abbrev S8192x256 : Shape := ⟨2, ![8192, 256]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .bf16⟩
  | .local _ .vmem, ⟨0, _⟩ => ⟨S8192x256, .bf16⟩
  | .local _ .vmem, ⟨1, _⟩ => ⟨S8192x256, .bf16⟩
  | .local _ .vmem, ⟨2, _⟩ => ⟨S8192x512, .bf16⟩
  | .local _ .vmem, ⟨3, _⟩ => ⟨S256x512, .bf16⟩
  | .local _ .vmem, ⟨4, _⟩ => ⟨S256x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .f32⟩
  | .hbm, ⟨3, _⟩ => ⟨S8192x1024, .f32⟩
  | .hbm, ⟨4, _⟩ => ⟨S_, .f32⟩
  | .hbm, ⟨5, _⟩ => ⟨S1024x512, .f32⟩
  | .hbm, ⟨6, _⟩ => ⟨S512x1024, .f32⟩
  | .hbm, ⟨7, _⟩ => ⟨S8192x1024, .f32⟩
  | .hbm, ⟨8, _⟩ => ⟨S1024x512, .f32⟩
  | .hbm, ⟨9, _⟩ => ⟨S512x1024, .f32⟩
  | .hbm, ⟨10, _⟩ => ⟨S1024x512, .f32⟩
  | .hbm, ⟨11, _⟩ => ⟨S1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel11.lean ====
abbrev S704x1024 : Shape := ⟨2, ![704, 1024]⟩
abbrev S88x1024 : Shape := ⟨2, ![88, 1024]⟩

abbrev nBuf : Space → Nat
  | .hbm => 21
  | .vmem => 42
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S704x1024, .f32⟩
  | .local _ .vmem, ⟨0, _⟩ => ⟨S88x1024, .f32⟩
  | .local _ .vmem, ⟨1, _⟩ => ⟨S88x1024, .f32⟩
  | .local _ .vmem, ⟨2, _⟩ => ⟨S88x1024, .f32⟩
  | .local _ .vmem, ⟨3, _⟩ => ⟨S88x1024, .f32⟩
  | .local _ .vmem, ⟨4, _⟩ => ⟨S88x1024, .f32⟩
  | .local _ .vmem, ⟨5, _⟩ => ⟨S88x1024, .f32⟩
  | .local _ .vmem, ⟨6, _⟩ => ⟨S88x1024, .f32⟩
  | .local _ .vmem, ⟨7, _⟩ => ⟨S88x1024, .f32⟩
  | .local _ .vmem, ⟨8, _⟩ => ⟨S88x1024, .f32⟩
  | .local _ .vmem, ⟨9, _⟩ => ⟨S88x1024, .f32⟩
  | .local _ .vmem, ⟨10, _⟩ => ⟨S88x1024, .f32⟩
  | .local _ .vmem, ⟨11, _⟩ => ⟨S88x1024, .f32⟩
  | .local _ .vmem, ⟨12, _⟩ => ⟨S88x1024, .f32⟩
  | .local _ .vmem, ⟨13, _⟩ => ⟨S88x1024, .f32⟩
  | .local _ .vmem, ⟨14, _⟩ => ⟨S88x1024, .f32⟩
  | .local _ .vmem, ⟨15, _⟩ => ⟨S88x1024, .f32⟩
  | .local _ .vmem, ⟨16, _⟩ => ⟨S88x1024, .f32⟩
  | .local _ .vmem, ⟨17, _⟩ => ⟨S88x1024, .f32⟩
  | .local _ .vmem, ⟨18, _⟩ => ⟨S88x1024, .f32⟩
  | .local _ .vmem, ⟨19, _⟩ => ⟨S88x1024, .f32⟩
  | .local _ .vmem, ⟨20, _⟩ => ⟨S88x1024, .f32⟩
  | .local _ .vmem, ⟨21, _⟩ => ⟨S88x1024, .f32⟩
  | .local _ .vmem, ⟨22, _⟩ => ⟨S88x1024, .f32⟩
  | .local _ .vmem, ⟨23, _⟩ => ⟨S88x1024, .f32⟩
  | .local _ .vmem, ⟨24, _⟩ => ⟨S88x1024, .f32⟩
  | .local _ .vmem, ⟨25, _⟩ => ⟨S88x1024, .f32⟩
  | .local _ .vmem, ⟨26, _⟩ => ⟨S88x1024, .f32⟩
  | .local _ .vmem, ⟨27, _⟩ => ⟨S88x1024, .f32⟩
  | .local _ .vmem, ⟨28, _⟩ => ⟨S88x1024, .f32⟩
  | .local _ .vmem, ⟨29, _⟩ => ⟨S88x1024, .f32⟩
  | .local _ .vmem, ⟨30, _⟩ => ⟨S88x1024, .f32⟩
  | .local _ .vmem, ⟨31, _⟩ => ⟨S88x1024, .f32⟩
  | .local _ .vmem, ⟨32, _⟩ => ⟨S88x1024, .f32⟩
  | .local _ .vmem, ⟨33, _⟩ => ⟨S88x1024, .f32⟩
  | .local _ .vmem, ⟨34, _⟩ => ⟨S88x1024, .f32⟩
  | .local _ .vmem, ⟨35, _⟩ => ⟨S88x1024, .f32⟩
  | .local _ .vmem, ⟨36, _⟩ => ⟨S88x1024, .f32⟩
  | .local _ .vmem, ⟨37, _⟩ => ⟨S88x1024, .f32⟩
  | .local _ .vmem, ⟨38, _⟩ => ⟨S88x1024, .f32⟩
  | .local _ .vmem, ⟨39, _⟩ => ⟨S88x1024, .f32⟩
  | .local _ .vmem, ⟨40, _⟩ => ⟨S88x1024, .f32⟩
  | .local _ .vmem, ⟨41, _⟩ => ⟨S88x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S88x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S88x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S88x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S88x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S88x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S88x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S88x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S88x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S88x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S88x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S88x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S88x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S88x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S88x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S88x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S88x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference11Ideal.lean ====
abbrev S704x1024 : Shape := ⟨2, ![704, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S_, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S_, .f32⟩
  | .hbm, ⟨39, _⟩ => ⟨S704x1024, .f32⟩
  | .hbm, ⟨40, _⟩ => ⟨S704x1024, .f32⟩
  | .hbm, ⟨41, _⟩ => ⟨S704x1024, .f32⟩
  | .hbm, ⟨42, _⟩ => ⟨S_, .f32⟩
  | .hbm, ⟨43, _⟩ => ⟨S704x1024, .f32⟩
  | .hbm, ⟨44, _⟩ => ⟨S704x1024, .f32⟩
  | .hbm, ⟨45, _⟩ => ⟨S_, .f32⟩
  | .hbm, ⟨46, _⟩ => ⟨S704x1024, .f32⟩
  | .hbm, ⟨47, _⟩ => ⟨S704x1024, .f32⟩
  | .hbm, ⟨48, _⟩ => ⟨S_, .f32⟩
  | .hbm, ⟨49, _⟩ => ⟨S704x1024, .f32⟩
  | .hbm, ⟨50, _⟩ => ⟨S704x1024, .f32⟩
  | .hbm, ⟨51, _⟩ => ⟨S704x1024, .f32⟩
  | .hbm, ⟨52, _⟩ => ⟨S_, .f32⟩
  | .hbm, ⟨53, _⟩ => ⟨S704x1024, .f32⟩
  | .hbm, ⟨54, _⟩ => ⟨S704x1024, .f32⟩
  | .hbm, ⟨55, _⟩ => ⟨S704x1024, .f32⟩
  | .hbm, ⟨56, _⟩ => ⟨S_, .f32⟩
  | .hbm, ⟨57, _⟩ => ⟨S704x1024, .f32⟩
  | .hbm, ⟨58, _⟩ => ⟨S704x1024, .f32⟩
  | .hbm, ⟨59, _⟩ => ⟨S704x1024, .f32⟩
  | .hbm, ⟨60, _⟩ => ⟨S_, .f32⟩
  | .hbm, ⟨61, _⟩ => ⟨S704x1024, .f32⟩
  | .hbm, ⟨62, _⟩ => ⟨S704x1024, .f32⟩
  | .hbm, ⟨63, _⟩ => ⟨S_, .f32⟩
  | .hbm, ⟨64, _⟩ => ⟨S704x1024, .f32⟩
  | .hbm, ⟨65, _⟩ => ⟨S704x1024, .f32⟩
  | .hbm, ⟨66, _⟩ => ⟨S704x1024, .f32⟩
  | .hbm, ⟨67, _⟩ => ⟨S_, .f32⟩
  | .hbm, ⟨68, _⟩ => ⟨S704x1024, .f32⟩
  | .hbm, ⟨69, _⟩ => ⟨S704x1024, .f32⟩
  | .hbm, ⟨70, _⟩ => ⟨S704x1024, .f32⟩
  | .hbm, ⟨71, _⟩ => ⟨S_, .f32⟩
  | .hbm, ⟨72, _⟩ => ⟨S704x1024, .f32⟩
  | .hbm, ⟨73, _⟩ => ⟨S704x1024, .f32⟩
  | .hbm, ⟨74, _⟩ => ⟨S704x1024, .f32⟩
  | .hbm, ⟨75, _⟩ => ⟨S_, .f32⟩
  | .hbm, ⟨76, _⟩ => ⟨S704x1024, .f32⟩
  | .hbm, ⟨77, _⟩ => ⟨S704x1024, .f32⟩
  | .hbm, ⟨78, _⟩ => ⟨S_, .f32⟩
  | .hbm, ⟨79, _⟩ => ⟨S704x1024, .f32⟩
  | .hbm, ⟨80, _⟩ => ⟨S704x1024, .f32⟩
  | .hbm, ⟨81, _⟩ => ⟨S_, .f32⟩
  | .hbm, ⟨82, _⟩ => ⟨S704x1024, .f32⟩
  | .hbm, ⟨83, _⟩ => ⟨S704x1024, .f32⟩
  | .hbm, ⟨84, _⟩ => ⟨S704x1024, .f32⟩
  | .hbm, ⟨85, _⟩ => ⟨S_, .f32⟩
  | .hbm, ⟨86, _⟩ => ⟨S704x1024, .f32⟩
  | .hbm, ⟨87, _⟩ => ⟨S704x1024, .f32⟩
  | .hbm, ⟨88, _⟩ => ⟨S704x1024, .f32⟩
  | .hbm, ⟨89, _⟩ => ⟨S_, .f32⟩
  | .hbm, ⟨90, _⟩ => ⟨S704x1024, .f32⟩
  | .hbm, ⟨91, _⟩ => ⟨S704x1024, .f32⟩
  | .hbm, ⟨92, _⟩ => ⟨S704x1024, .f32⟩
  | .hbm, ⟨93, _⟩ => ⟨S_, .f32⟩
  | .hbm, ⟨94, _⟩ => ⟨S704x1024, .f32⟩
  | .hbm, ⟨95, _⟩ => ⟨S704x1024, .f32⟩
  | .hbm, ⟨96, _⟩ => ⟨S_, .f32⟩
  | .hbm, ⟨97, _⟩ => ⟨S704x1024, .f32⟩
  | .hbm, ⟨98, _⟩ => ⟨S704x1024, .f32⟩
  | .hbm, ⟨99, _⟩ => ⟨S704x1024, .f32⟩
  | .hbm, ⟨100, _⟩ => ⟨S_, .f32⟩
  | .hbm, ⟨101, _⟩ => ⟨S704x1024, .f32⟩
  | .hbm, ⟨102, _⟩ => ⟨S704x1024, .f32⟩
  | .hbm, ⟨103, _⟩ => ⟨S704x1024, .f32⟩
  | .hbm, ⟨104, _⟩ => ⟨S_, .f32⟩
  | .hbm, ⟨105, _⟩ => ⟨S704x1024, .f32⟩
  | .hbm, ⟨106, _⟩ => ⟨S704x1024, .f32⟩
  | .hbm, ⟨107, _⟩ => ⟨S704x1024, .f32⟩
  | .hbm, ⟨108, _⟩ => ⟨S_, .f32⟩
  | .hbm, ⟨109, _⟩ => ⟨S704x1024, .f32⟩
  | .hbm, ⟨110, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel12.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S1024x1280 : Shape := ⟨2, ![1024, 1280]⟩
abbrev S256x1280 : Shape := ⟨2, ![256, 1280]⟩

abbrev nBuf : Space → Nat
  | .hbm => 7
  | .vmem => 14
  | .smem => 0
  | _ => 0

abbrev bufTy : (tb : Table) → Fin (tcTables nBuf tb) → BufTy
  | .hbm, ⟨0, _⟩ => ⟨S1024x1280, .f32⟩
  | .hbm, ⟨1, _⟩ => ⟨S1024x1280, .f32⟩
  | .hbm, ⟨2, _⟩ => ⟨S1024x1280, .f32⟩
  | .hbm, ⟨3, _⟩ => ⟨S1024x1280, .f32⟩
  | .hbm, ⟨4, _⟩ => ⟨S1024x1280, .f32⟩
  | .hbm, ⟨5, _⟩ => ⟨S1024x1280, .f32⟩
  | .hbm, ⟨6, _⟩ => ⟨S1024x1280, .f32⟩
  | .local _ .vmem, ⟨0, _⟩ => ⟨S256x1280, .f32⟩
  | .local _ .vmem, ⟨1, _⟩ => ⟨S256x1280, .f32⟩
  | .local _ .vmem, ⟨2, _⟩ => ⟨S256x1280, .f32⟩
  | .local _ .vmem, ⟨3, _⟩ => ⟨S256x1280, .f32⟩
  | .local _ .vmem, ⟨4, _⟩ => ⟨S256x1280, .f32⟩
  | .local _ .vmem, ⟨5, _⟩ => ⟨S256x1280, .f32⟩
  | .local _ .vmem, ⟨6, _⟩ => ⟨S256x1280, .f32⟩
  | .local _ .vmem, ⟨7, _⟩ => ⟨S256x1280, .f32⟩
  | .local _ .vmem, ⟨8, _⟩ => ⟨S256x1280, .f32⟩
  | .local _ .vmem, ⟨9, _⟩ => ⟨S256x1280, .f32⟩
  | .local _ .vmem, ⟨10, _⟩ => ⟨S256x1280, .f32⟩
  | .local _ .vmem, ⟨11, _⟩ => ⟨S256x1280, .f32⟩
  | .local _ .vmem, ⟨12, _⟩ => ⟨S256x1280, .f32⟩
  | .local _ .vmem, ⟨13, _⟩ => ⟨S256x1280, .f32⟩
  | _, _ => ⟨S1024x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S1024x1280 : Shape := ⟨2, ![1024, 1280]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1280, .f32⟩
  | .hbm, ⟨1, _⟩ => ⟨S1024x1280, .f32⟩
  | .hbm, ⟨2, _⟩ => ⟨S1024x1280, .f32⟩
  | .hbm, ⟨3, _⟩ => ⟨S1024x1280, .f32⟩
  | .hbm, ⟨4, _⟩ => ⟨S_, .f32⟩
  | .hbm, ⟨5, _⟩ => ⟨S1024x1280, .f32⟩
  | .hbm, ⟨6, _⟩ => ⟨S1024x1280, .f32⟩
  | .hbm, ⟨7, _⟩ => ⟨S_, .f32⟩
  | .hbm, ⟨8, _⟩ => ⟨S1024x1280, .f32⟩
  | .hbm, ⟨9, _⟩ => ⟨S1024x1280, .f32⟩
  | .hbm, ⟨10, _⟩ => ⟨S1024x1280, .f32⟩
  | .hbm, ⟨11, _⟩ => ⟨S_, .f32⟩
  | .hbm, ⟨12, _⟩ => ⟨S1024x1280, .f32⟩
  | .hbm, ⟨13, _⟩ => ⟨S1024x1280, .f32⟩
  | .hbm, ⟨14, _⟩ => ⟨S1024x1280, .f32⟩
  | .hbm, ⟨15, _⟩ => ⟨S_, .f32⟩
  | .hbm, ⟨16, _⟩ => ⟨S1024x1280, .f32⟩
  | .hbm, ⟨17, _⟩ => ⟨S1024x1280, .f32⟩
  | .hbm, ⟨18, _⟩ => ⟨S1024x1280, .f32⟩
  | .hbm, ⟨19, _⟩ => ⟨S_, .f32⟩
  | .hbm, ⟨20, _⟩ => ⟨S1024x1280, .f32⟩
  | .hbm, ⟨21, _⟩ => ⟨S1024x1280, .f32⟩
  | .hbm, ⟨22, _⟩ => ⟨S_, .f32⟩
  | .hbm, ⟨23, _⟩ => ⟨S1024x1280, .f32⟩
  | .hbm, ⟨24, _⟩ => ⟨S1024x1280, .f32⟩
  | .hbm, ⟨25, _⟩ => ⟨S1024x1280, .f32⟩
  | .hbm, ⟨26, _⟩ => ⟨S_, .f32⟩
  | .hbm, ⟨27, _⟩ => ⟨S1024x1280, .f32⟩
  | .hbm, ⟨28, _⟩ => ⟨S1024x1280, .f32⟩
  | .hbm, ⟨29, _⟩ => ⟨S1024x1280, .f32⟩
  | .hbm, ⟨30, _⟩ => ⟨S_, .f32⟩
  | .hbm, ⟨31, _⟩ => ⟨S1024x1280, .f32⟩
  | .hbm, ⟨32, _⟩ => ⟨S1024x1280, .f32⟩
  | .hbm, ⟨33, _⟩ => ⟨S1024x1280, .f32⟩
  | .hbm, ⟨34, _⟩ => ⟨S_, .f32⟩
  | .hbm, ⟨35, _⟩ => ⟨S1024x1280, .f32⟩
  | .hbm, ⟨36, _⟩ => ⟨S1024x1280, .f32⟩
  | _, _ => ⟨S1024x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S512x256 : Shape := ⟨2, ![512, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Products.lean ====
/-
  Matrix products read at an index over the extended reals: which element of each operand a contraction position
  names, for the three layouts the kernels and their references use.
-/
module

public import Idealize.ShloMosaic.PureOps.Ideal.Laws
public import Idealize.ShloMosaic.Lib.ValueIdxCore
public import Idealize.ShloMosaic.Lib.MatmulPlain

@[expose] public section

noncomputable section

namespace Cert.Products

open Idealize.ShloMosaic Idealize.ShloMosaic.ValueIdx
open scoped BigOperators

/-- The dimension numbers of `[K,M]ᵀ × [K,N]`. -/
def tn (M K N : ℕ)
    (wf : DotDims.WF ⟨2, ![K, M]⟩ ⟨2, ![K, N]⟩ ⟨2, ![M, N]⟩ [0] [0] [1] [1] [] []) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- `[K,M]ᵀ × [K,N]` at (r, c): the accumulator plus the sum over k of lhs[k,r] · rhs[k,c]. -/
theorem matmul_tn {M K N : ℕ} (wf : DotDims.WF ⟨2, ![K, M]⟩ ⟨2, ![K, N]⟩ ⟨2, ![M, N]⟩ [0] [0] [1] [1] [] [])
    {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32)
    (r : Fin M) (c : Fin N) :
    FloatOps.matmul (tn M K N wf) prec lhs rhs acc (ix2 r c) = acc (ix2 r c) + ∑ k : Fin K, lhs (ix2 k r) * rhs (ix2 k c) := by
  rw [Ideal.matmul_apply, ← Equiv.sum_comp (contrEquiv1 (tn M K N wf) K rfl rfl).symm]
  refine congrArg (acc (ix2 r c) + ·) (Finset.sum_congr rfl fun k _ => ?_)
  have hk := contrEquiv1_symm_val (tn M K N wf) K rfl rfl k
  have el : (tn M K N wf).lhsIdx (ix2 r c) ((contrEquiv1 (tn M K N wf) K rfl rfl).symm k) = ix2 k r := by
    funext a; apply Fin.ext
    match a with
    | ⟨0, _⟩ => exact hk
    | ⟨1, _⟩ => rfl
  have er : (tn M K N wf).rhsIdx (ix2 r c) ((contrEquiv1 (tn M K N wf) K rfl rfl).symm k) = ix2 k c := by
    funext a; apply Fin.ext
    match a with
    | ⟨0, _⟩ => exact hk
    | ⟨1, _⟩ => rfl
  rw [el, er]

end Cert.Products

end
-- ==== Proof.FfnReal.lean ====
/-
  The half-step network's gradient over the real numbers: its parts as functions of real matrices, the identities that
  join the two ways of writing it, and the passage from real matrices to arrays of extended reals.
-/
module

public import proofs.«01_k».proof.Proof.Products
public import Idealize.ShloMosaic.Lib.Pipeline.ValueKit

@[expose] public section

noncomputable section

namespace Cert.Ffn

open Idealize.ShloMosaic

/-! ## Arrays whose elements are real numbers -/

/-- A real matrix as a rank-two array of extended reals. -/
def up2 {a b : ℕ} (A : Fin a → Fin b → ℝ) : (⟨2, ![a, b]⟩ : Shape).Idx → EReal := fun i => ((A (i 0) (i 1) : ℝ) : EReal)

theorem up2_apply {a b : ℕ} (A : Fin a → Fin b → ℝ) (i : (⟨2, ![a, b]⟩ : Shape).Idx) :
    up2 A i = ((A (i 0) (i 1) : ℝ) : EReal) := rfl

/-- A sum of real numbers, taken among the extended reals, is their sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum whose terms are real numbers. -/
theorem sum_real {n : ℕ} (f : Fin n → EReal) (g : Fin n → ℝ) (h : ∀ i, f i = (g i : EReal)) :
    ∑ i, f i = ((∑ i, g i : ℝ) : EReal) := by
  rw [Finset.sum_congr rfl fun i _ => h i, coe_sum]

/-! ## The literals -/

/-- The number that keeps the root mean square away from zero. -/
def eps : ℝ := 8796093 / 8796093022208

theorem eps_pos : 0 < eps := by norm_num [eps]

theorem lit_eps : Ideal.ofBits .f32 0x358637BD#32 = (eps : EReal) := by
  simp [Ideal.ofBits, Ideal.ieee, eps, -EReal.coe_mul]; norm_num

theorem lit_width : Ideal.ofBits .f32 0x44800000#32 = ((1024 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

theorem lit_one : Ideal.ofBits .f32 0x3F800000#32 = ((1 : ℝ) : EReal) := by
  simp [Ideal.ofBits, Ideal.ieee, -EReal.coe_mul]; norm_num

theorem lit_zero : Ideal.ofBits .f32 0x00000000#32 = ((0 : ℝ) : EReal) := by
  rw [Ideal.ofBits_zero, EReal.coe_zero]

/-! ## The parts of the gradient -/

variable {R : ℕ}

/-- A row's mean square, plus `eps`. -/
def ms (H : Fin R → Fin 1024 → ℝ) (r : Fin R) : ℝ := (∑ c, H r c * H r c) / 1024 + eps
/-- The factor that normalises a row. -/
def rs (H : Fin R → Fin 1024 → ℝ) (r : Fin R) : ℝ := (√(ms H r))⁻¹
/-- The normalised rows. -/
def hn (H : Fin R → Fin 1024 → ℝ) (r : Fin R) (c : Fin 1024) : ℝ := H r c * rs H r
/-- The normalised rows times the gain. -/
def nrm (H : Fin R → Fin 1024 → ℝ) (G : Fin 1 → Fin 1024 → ℝ) (r : Fin R) (c : Fin 1024) : ℝ := hn H r c * G 0 c
/-- Rows times the rows of a weight. -/
def proj {k : ℕ} (N : Fin R → Fin 1024 → ℝ) (P : Fin k → Fin 1024 → ℝ) (r : Fin R) (f : Fin k) : ℝ := ∑ c, N r c * P f c
/-- The logistic function. -/
def sig (x : ℝ) : ℝ := (1 + Real.exp (-x))⁻¹
/-- The factor of the gate's gradient. -/
def fA (g u : ℝ) : ℝ := u * (sig g * (1 + g * (1 - sig g)))
/-- The factor of the other projection's gradient. -/
def fB (g : ℝ) : ℝ := g * sig g
/-- The gradient of the network's result: the half step halves it. -/
def dF (D : Fin R → Fin 1024 → ℝ) (r : Fin R) (c : Fin 1024) : ℝ := 1 / 2 * D r c
/-- The gradient of a projection: the hidden gradient times a factor. -/
def dP {k : ℕ} (D : Fin R → Fin 1024 → ℝ) (W : Fin k → Fin 1024 → ℝ) (X : Fin R → Fin k → ℝ) (r : Fin R) (f : Fin k) : ℝ :=
  proj (dF D) W r f * X r f
/-- The sum over the hidden columns of the gradients of the two projections times the weights. -/
def back {k : ℕ} (X Y : Fin R → Fin k → ℝ) (P Q : Fin k → Fin 1024 → ℝ) (r : Fin R) (c : Fin 1024) : ℝ :=
  (∑ f, X r f * P f c) + ∑ f, Y r f * Q f c
/-- The gradient of the gain. -/
def dGain (H N : Fin R → Fin 1024 → ℝ) (c : Fin 1024) : ℝ := ∑ r, N r c * hn H r c
/-- The gradient of the input, `N` the gradient of the normalised rows. -/
def dIn (D H N : Fin R → Fin 1024 → ℝ) (G : Fin 1 → Fin 1024 → ℝ) (r : Fin R) (c : Fin 1024) : ℝ :=
  D r c + rs H r * (N r c * G 0 c - hn H r c * ((∑ k, N r k * G 0 k * hn H r k) / 1024))

theorem ms_pos (H : Fin R → Fin 1024 → ℝ) (r : Fin R) : 0 < ms H r :=
  add_pos_of_nonneg_of_pos (div_nonneg (Finset.sum_nonneg fun c _ => mul_self_nonneg _) (by norm_num)) eps_pos

theorem rs_sq (H : Fin R → Fin 1024 → ℝ) (r : Fin R) : rs H r * rs H r = (ms H r)⁻¹ := by
  rw [rs, ← mul_inv, Real.mul_self_sqrt (ms_pos H r).le]

/-- The reciprocal root of a row's mean square. -/
theorem rsqrt_ms (H : Fin R → Fin 1024 → ℝ) (r : Fin R) : Ideal.rsqrt ((ms H r : ℝ) : EReal) = (rs H r : EReal) := by
  rw [Ideal.rsqrt_coe, if_neg (ms_pos H r).le.not_gt, if_neg (ms_pos H r).ne', rs]

/-- Division of real numbers by a number that is not zero. -/
theorem div_real (x y : ℝ) (h : y ≠ 0) : Ideal.div (x : EReal) (y : EReal) = ((x / y : ℝ) : EReal) := by
  rw [Ideal.div_coe h, ← EReal.coe_mul, mul_one_div]

/-! The operations on real numbers. -/

section
variable {φ : FTy} {x y : Ideal φ} {a b : ℝ}

theorem mul_real (hx : x = (a : EReal)) (hy : y = (b : EReal)) : FloatOps.mulf x y = ((a * b : ℝ) : EReal) := by
  rw [Ideal.mulf_def, hx, hy]; exact (EReal.coe_mul a b).symm
theorem add_real (hx : x = (a : EReal)) (hy : y = (b : EReal)) : FloatOps.addf x y = ((a + b : ℝ) : EReal) := by
  rw [Ideal.addf_def, hx, hy]; exact (EReal.coe_add a b).symm
theorem sub_real (hx : x = (a : EReal)) (hy : y = (b : EReal)) : FloatOps.subf x y = ((a - b : ℝ) : EReal) := by
  rw [Ideal.subf_def, hx, hy]; exact (EReal.coe_sub a b).symm
theorem hostDiv_real (hb : b ≠ 0) (hx : x = (a : EReal)) (hy : y = (b : EReal)) :
    FloatOps.hostDivf x y = ((a / b : ℝ) : EReal) := by
  rw [Ideal.hostDivf_def, hx, hy]; exact div_real a b hb
theorem quot_real (hb : b ≠ 0) (hx : x = (a : EReal)) (hy : y = (b : EReal)) :
    FloatOps.divf x y = ((a / b : ℝ) : EReal) := by
  rw [Ideal.divf_def, hx, hy]; exact div_real a b hb
theorem neg_real (hx : x = (a : EReal)) : FloatOps.hostNegf x = ((-a : ℝ) : EReal) := by
  rw [hx]; exact (EReal.coe_neg a).symm
theorem exp_real (hx : x = (a : EReal)) : FloatOps.hostUnary .exp x = ((Real.exp a : ℝ) : EReal) := by
  rw [hx]; exact Ideal.exp_coe a
theorem tanh_real (hx : x = (a : EReal)) : FloatOps.hostUnary .tanh x = ((Real.tanh a : ℝ) : EReal) := by
  rw [hx]; exact Ideal.tanh_coe a
end

/-- The same real number written in two ways. -/
theorem real_of_eq {x : EReal} {a b : ℝ} (h : x = (a : EReal)) (e : a = b) : x = (b : EReal) := e ▸ h

/-- A product of two real numbers among the extended reals. -/
theorem prod_real {x y : EReal} {a b : ℝ} (hx : x = (a : EReal)) (hy : y = (b : EReal)) : x * y = ((a * b : ℝ) : EReal) := by
  rw [hx, hy, EReal.coe_mul]

/-- A sum of real numbers from the zero literal. -/
theorem zero_sum_real {n : ℕ} {z : EReal} (hz : z = ((0 : ℝ) : EReal)) (f : Fin n → EReal) (g : Fin n → ℝ)
    (h : ∀ i, f i = (g i : EReal)) : z + ∑ i, f i = ((∑ i, g i : ℝ) : EReal) := by
  rw [hz, EReal.coe_zero, zero_add, sum_real f g h]

/-- The logistic function by the hyperbolic tangent. -/
theorem sig_tanh (x : ℝ) : 1 / 2 * Real.tanh (1 / 2 * x) + 1 / 2 = sig x := by
  have h : Real.exp (-x) = Real.exp (-(1 / 2 * x)) * Real.exp (-(1 / 2 * x)) := by rw [← Real.exp_add]; congr 1; ring
  have h' : Real.exp (1 / 2 * x) * Real.exp (-(1 / 2 * x)) = 1 := by rw [← Real.exp_add]; simp
  have p := Real.exp_pos (1 / 2 * x)
  have q := Real.exp_pos (-(1 / 2 * x))
  rw [Real.tanh_eq, sig, h]
  generalize Real.exp (1 / 2 * x) = a at *
  generalize Real.exp (-(1 / 2 * x)) = b at *
  have hb : b = a⁻¹ := eq_inv_of_mul_eq_one_right h'
  subst hb
  field_simp
  ring

/-- The gate's gradient as the chain rule through `g * sig g` writes it. -/
theorem fA_chain (g u d : ℝ) : d * u * sig g + g * (d * u) * (sig g * (1 - sig g)) = d * fA g u := by
  rw [fA]; ring

/-- The input's gradient as the chain rule through the mean square writes it. -/
theorem dIn_chain (D H N : Fin R → Fin 1024 → ℝ) (G : Fin 1 → Fin 1024 → ℝ) (r : Fin R) (c : Fin 1024) :
    D r c + N r c * G 0 c * rs H r
        + (H r c * (((∑ k, H r k * (N r k * G 0 k)) * (-(1 / 2) * (rs H r / ms H r))) / 1024)
          + (((∑ k, H r k * (N r k * G 0 k)) * (-(1 / 2) * (rs H r / ms H r))) / 1024) * H r c)
      = dIn D H N G r c := by
  have e : ∑ k, N r k * G 0 k * hn H r k = (∑ k, H r k * (N r k * G 0 k)) * rs H r := by
    rw [Finset.sum_mul]; exact Finset.sum_congr rfl fun k _ => by rw [hn]; ring
  rw [dIn, e, hn, div_eq_mul_inv (rs H r), ← rs_sq]
  ring

/-- A sum over the hidden columns in the three chunks in which the kernel takes it. -/
theorem sum_chunks (f : Fin 2816 → ℝ) :
    ∑ k, f k = (∑ k : Fin 1024, f ⟨k.val, by omega⟩) + (∑ k : Fin 1024, f ⟨1024 + k.val, by omega⟩)
      + ∑ k : Fin 768, f ⟨2048 + k.val, by omega⟩ := by
  have e : ∑ k, f k = ∑ k : Fin (2048 + 768), f k := rfl
  rw [e, Fin.sum_univ_add]
  have e' : (∑ i : Fin 2048, f (Fin.castAdd 768 i)) = ∑ i : Fin (1024 + 1024), f (Fin.castAdd 768 i) := rfl
  rw [e', Fin.sum_univ_add]
  rfl

end Cert.Ffn
-- ==== Proof.FfnPay.lean ====
/-
  The body's values at one row tile, at operands whose elements are real numbers, as the real functions of the gradient.
-/
module

public import proofs.«01_k».proof.Proof.Gen.KernelIdeal.Value
public import proofs.«01_k».proof.Proof.FfnReal
public import Idealize.ShloMosaic.Lib.Pointwise
public import Idealize.ShloMosaic.Lib.MatmulPlain

@[expose] public section

set_option maxRecDepth 16384

noncomputable section

namespace Cert.Ffn.Pay

open Cert.KernelIdeal Cert.KernelIdeal.Gen Idealize.ShloMosaic

/-- Two arrays of two axes that agree at every row and column. -/
theorem ext2 {a b : ℕ} {x : (⟨2, ![a, b]⟩ : Shape).Idx → EReal} {A : Fin a → Fin b → ℝ}
    (h : ∀ r c, x (ix2 r c) = ((A r c : ℝ) : EReal)) : x = up2 A :=
  funext fun i => by rw [eq_ix2 i]; exact h _ _

/-- Rows times the rows of a weight, from the zero array. -/
theorem rows_rows {k : ℕ} {φ₁ φ₂ : FTy} (A : Fin 256 → Fin 1024 → ℝ) (B : Fin k → Fin 1024 → ℝ) (r : Fin 256) (c : Fin k) :
    FloatOps.matmul (F := Ideal) (φ₁ := φ₁) (φ₂ := φ₂) (DotDims.transposedRhs 256 1024 k) none (up2 A) (up2 B) (fun _ => Ideal.ofBits .f32 0x00000000#32) (ix2 r c)
      = ((proj A B r c : ℝ) : EReal) := by
  refine (Ideal.matmul_transposedRhs_apply (φ₁ := φ₁) (φ₂ := φ₂) none (up2 A) (up2 B) _ r c).trans ?_
  exact zero_sum_real lit_zero _ _ fun k => prod_real rfl rfl

/-- Rows times the columns of a weight, from the zero array. -/
theorem rows_cols {k : ℕ} {φ₁ φ₂ : FTy} (A : Fin 256 → Fin k → ℝ) (B : Fin k → Fin 1024 → ℝ) (r : Fin 256) (c : Fin 1024) :
    FloatOps.matmul (F := Ideal) (φ₁ := φ₁) (φ₂ := φ₂) (DotDims.plain 256 k 1024) none (up2 A) (up2 B) (fun _ => Ideal.ofBits .f32 0x00000000#32) (ix2 r c)
      = ((∑ f, A r f * B f c : ℝ) : EReal) := by
  refine (Ideal.matmul_plain_apply (φ₁ := φ₁) (φ₂ := φ₂) none (up2 A) (up2 B) _ r c).trans ?_
  exact zero_sum_real lit_zero _ _ fun k => prod_real rfl rfl

variable (D H : Fin 256 → Fin 1024 → ℝ) (G : Fin 1 → Fin 1024 → ℝ)

/-! ## The hidden columns of one chunk -/

theorem half_up : k0_pay3 (F := Ideal) (up2 D) = up2 (dF D) := ext2 fun r c => mul_real lit_half rfl

theorem hid8 (W : Fin 1024 → Fin 1024 → ℝ) (r : Fin 256) (c : Fin 1024) :
    k0_pay8 (F := Ideal) (up2 (dF D)) (up2 W) (ix2 r c) = ((proj (dF D) W r c : ℝ) : EReal) :=
  rows_rows (φ₁ := .bf16) (φ₂ := .bf16) (dF D) W r c

theorem hid12 (W : Fin 768 → Fin 1024 → ℝ) (r : Fin 256) (c : Fin 768) :
    k0_pay12 (F := Ideal) (up2 (dF D)) (up2 W) (ix2 r c) = ((proj (dF D) W r c : ℝ) : EReal) :=
  rows_rows (φ₁ := .bf16) (φ₂ := .bf16) (dF D) W r c

theorem gate9 (W : Fin 1024 → Fin 1024 → ℝ) (X : Fin 256 → Fin 1024 → ℝ) :
    k0_pay9 (F := Ideal) (up2 (dF D)) (up2 W) (up2 X) = up2 (dP D W X) := ext2 fun r c =>
  mul_real (hid8 D W r c) (by rw [shapeCast_self]; rfl)

theorem gate5 (W : Fin 1024 → Fin 1024 → ℝ) (X : Fin 256 → Fin 1024 → ℝ) :
    k0_pay5 (F := Ideal) (up2 D) (up2 W) (up2 X) = up2 (dP D W X) := by
  have e : k0_pay5 (F := Ideal) (up2 D) (up2 W) (up2 X) = k0_pay9 (F := Ideal) (k0_pay3 (F := Ideal) (up2 D)) (up2 W) (up2 X) := rfl
  rw [e, half_up, gate9]

theorem gate13 (W : Fin 768 → Fin 1024 → ℝ) (X : Fin 256 → Fin 768 → ℝ) :
    k0_pay13 (F := Ideal) (up2 (dF D)) (up2 W) (up2 X) = up2 (dP D W X) := ext2 fun r c =>
  mul_real (hid12 D W r c) (by rw [shapeCast_self]; rfl)

/-! The gradients of the other projection are the same functions of its factor. -/

theorem up6 (W : Fin 1024 → Fin 1024 → ℝ) (X : Fin 256 → Fin 1024 → ℝ) :
    k0_pay6 (F := Ideal) (up2 D) (up2 W) (up2 X) = up2 (dP D W X) := gate5 D W X

theorem up10 (W : Fin 1024 → Fin 1024 → ℝ) (X : Fin 256 → Fin 1024 → ℝ) :
    k0_pay10 (F := Ideal) (up2 (dF D)) (up2 W) (up2 X) = up2 (dP D W X) := gate9 D W X

theorem up14 (W : Fin 768 → Fin 1024 → ℝ) (X : Fin 256 → Fin 768 → ℝ) :
    k0_pay14 (F := Ideal) (up2 (dF D)) (up2 W) (up2 X) = up2 (dP D W X) := gate13 D W X

/-! ## The gradient of the normalised rows, chunk by chunk -/

theorem first (W P Q : Fin 1024 → Fin 1024 → ℝ) (X Y : Fin 256 → Fin 1024 → ℝ) :
    k0_pay7 (F := Ideal) (up2 D) (up2 W) (up2 X) (up2 Y) (up2 P) (up2 Q) = up2 (back (dP D W X) (dP D W Y) P Q) := by
  unfold k0_pay7
  rw [gate5, up6]
  exact ext2 fun r c => real_of_eq (add_real (add_real lit_zero (rows_cols (φ₁ := .bf16) (φ₂ := .bf16) _ P r c))
    (rows_cols (φ₁ := .bf16) (φ₂ := .bf16) _ Q r c)) (by rw [zero_add]; rfl)

theorem second (N : Fin 256 → Fin 1024 → ℝ) (W P Q : Fin 1024 → Fin 1024 → ℝ) (X Y : Fin 256 → Fin 1024 → ℝ) :
    k0_pay11 (F := Ideal) (up2 (dF D)) (up2 N) (up2 W) (up2 X) (up2 Y) (up2 P) (up2 Q)
      = up2 fun r c => N r c + back (dP D W X) (dP D W Y) P Q r c := by
  unfold k0_pay11
  rw [gate9, up10]
  exact ext2 fun r c => real_of_eq (add_real (add_real rfl (rows_cols (φ₁ := .bf16) (φ₂ := .bf16) _ P r c))
    (rows_cols (φ₁ := .bf16) (φ₂ := .bf16) _ Q r c)) (add_assoc _ _ _)

theorem third (N : Fin 256 → Fin 1024 → ℝ) (P Q : Fin 768 → Fin 1024 → ℝ) (X Y : Fin 256 → Fin 768 → ℝ) :
    k0_pay15 (F := Ideal) (up2 N) (up2 X) (up2 Y) (up2 P) (up2 Q) = up2 fun r c => N r c + back X Y P Q r c :=
  ext2 fun r c => real_of_eq (add_real (add_real rfl (rows_cols (φ₁ := .bf16) (φ₂ := .bf16) X P r c))
    (rows_cols (φ₁ := .bf16) (φ₂ := .bf16) Y Q r c)) (add_assoc _ _ _)

/-! ## The rows' factors -/

theorem factor : k0_pay16 (F := Ideal) (up2 H) = up2 fun r (_ : Fin 1) => rs H r := ext2 fun r c => by
  refine Eq.trans ?_ (rsqrt_ms H r)
  pointwise [k0_pay16]
  exact congrArg Ideal.rsqrt (add_real (φ := .f32) (quot_real (φ := .f32) (by norm_num)
    (sum_real _ (fun k => H r k * H r k) fun k => (EReal.coe_mul _ _).symm) lit_width) lit_eps)

theorem normal : k0_pay17 (F := Ideal) (up2 H) = up2 (hn H) := by
  unfold k0_pay17
  rw [factor]
  refine ext2 fun r c => mul_real rfl ?_
  pointwise
  rfl

variable {v48 : S256x1024.Idx → EReal} {v55 v60 : S256x768.Idx → EReal} {v63 v66 : S768x1024.Idx → EReal}
  {N : Fin 256 → Fin 1024 → ℝ} (hN : k0_pay15 (F := Ideal) v48 v55 v60 v63 v66 = up2 N)
include hN

/-- The gain's gradient: what the tiles before left, plus this tile's column sums. -/
theorem gain_step (S : Fin 1 → Fin 1024 → ℝ) :
    k0_pay18 (F := Ideal) v48 v55 v60 v63 v66 (up2 H) (up2 S) = up2 fun z c => S z c + dGain H N c := by
  unfold k0_pay18
  rw [hN, normal]
  refine ext2 fun r c => add_real (by rw [shapeCast_self]; rfl) ?_
  pointwise
  exact sum_real _ _ fun k => (EReal.coe_mul _ _).symm

theorem weighted : k0_pay19 (F := Ideal) v48 v55 v60 v63 v66 (up2 G) = up2 fun r c => N r c * G 0 c := by
  unfold k0_pay19
  rw [hN]
  refine ext2 fun r c => mul_real rfl ?_
  pointwise
  rfl

theorem drawn : k0_pay20 (F := Ideal) v48 v55 v60 v63 v66 (up2 H) (up2 G)
    = up2 fun r c => hn H r c * ((∑ k, N r k * G 0 k * hn H r k) / 1024) := by
  unfold k0_pay20
  rw [weighted G hN, normal]
  refine ext2 fun r c => mul_real rfl ?_
  pointwise
  exact quot_real (φ := .f32) (by norm_num) (sum_real _ _ fun k => (EReal.coe_mul _ _).symm) lit_width

/-- The gradient of the rows that entered the network. -/
theorem entry : k0_pay1 (F := Ideal) (up2 D) (k0_pay16 (F := Ideal) (up2 H)) (k0_pay19 (F := Ideal) v48 v55 v60 v63 v66 (up2 G))
    (k0_pay20 (F := Ideal) v48 v55 v60 v63 v66 (up2 H) (up2 G)) = up2 (dIn D H N G) := by
  rw [factor, weighted G hN, drawn H G hN]
  refine ext2 fun r c => ?_
  refine real_of_eq (add_real rfl (mul_real (a := rs H r) ?_ (sub_real rfl rfl))) rfl
  pointwise
  rfl

end Cert.Ffn.Pay
-- ==== Proof.FfnTile.lean ====
/-
  One row tile of the gradient: the body's values over the three chunks of hidden columns, at operands whose elements are
  real numbers, as the real functions over all hidden columns.
-/
module

public import proofs.«01_k».proof.Proof.FfnPay
public import Idealize.ShloMosaic.Lib.Pipeline.ValueKit

@[expose] public section

set_option maxRecDepth 16384

noncomputable section

namespace Cert.Ffn.Tile

open Cert.KernelIdeal Cert.KernelIdeal.Gen Idealize.ShloMosaic
open Cert.Ffn.Pay

/-! ## The chunks -/

/-- The rows of a weight in each chunk. -/
abbrev w1 (X : Vec Ideal S2816x1024 .bf16) : Vec Ideal S1024x1024 .bf16 := View.ld (Val := Elt Ideal) (e' := .bf16) X (Rect.unit (s := S2816x1024) ![0, 0] ![1024, 1024] inb_S2816x1024_S1024x1024_0_0)
abbrev w2 (X : Vec Ideal S2816x1024 .bf16) : Vec Ideal S1024x1024 .bf16 := View.ld (Val := Elt Ideal) (e' := .bf16) X (Rect.unit (s := S2816x1024) ![1024, 0] ![1024, 1024] inb_S2816x1024_S1024x1024_1024_0)
abbrev w3 (X : Vec Ideal S2816x1024 .bf16) : Vec Ideal S768x1024 .bf16 := View.ld (Val := Elt Ideal) (e' := .bf16) X (Rect.unit (s := S2816x1024) ![2048, 0] ![768, 1024] inb_S2816x1024_S768x1024_2048_0)

/-- The columns of a tile's factor in each chunk. -/
abbrev a1 (X : Vec Ideal S256x2816 .bf16) : Vec Ideal S256x1024 .bf16 := View.ld (Val := Elt Ideal) (e' := .bf16) X (Rect.unit (s := S256x2816) ![0, 0] ![256, 1024] inb_S256x2816_S256x1024_0_0)
abbrev a2 (X : Vec Ideal S256x2816 .bf16) : Vec Ideal S256x1024 .bf16 := View.ld (Val := Elt Ideal) (e' := .bf16) X (Rect.unit (s := S256x2816) ![0, 1024] ![256, 1024] inb_S256x2816_S256x1024_0_1024)
abbrev a3 (X : Vec Ideal S256x2816 .bf16) : Vec Ideal S256x768 .bf16 := View.ld (Val := Elt Ideal) (e' := .bf16) X (Rect.unit (s := S256x2816) ![0, 2048] ![256, 768] inb_S256x2816_S256x768_0_2048)

/-- The real numbers in each chunk. -/
def r1 (P : Fin 2816 → Fin 1024 → ℝ) (f c : Fin 1024) : ℝ := P ⟨f.val, by omega⟩ c
def r2 (P : Fin 2816 → Fin 1024 → ℝ) (f c : Fin 1024) : ℝ := P ⟨1024 + f.val, by omega⟩ c
def r3 (P : Fin 2816 → Fin 1024 → ℝ) (f : Fin 768) (c : Fin 1024) : ℝ := P ⟨2048 + f.val, by omega⟩ c
def q1 (X : Fin 256 → Fin 2816 → ℝ) (r : Fin 256) (f : Fin 1024) : ℝ := X r ⟨f.val, by omega⟩
def q2 (X : Fin 256 → Fin 2816 → ℝ) (r : Fin 256) (f : Fin 1024) : ℝ := X r ⟨1024 + f.val, by omega⟩
def q3 (X : Fin 256 → Fin 2816 → ℝ) (r : Fin 256) (f : Fin 768) : ℝ := X r ⟨2048 + f.val, by omega⟩

theorem w1_real (P : Fin 2816 → Fin 1024 → ℝ) : w1 (up2 P) = up2 (r1 P) := ext2 fun f c =>
  View.ld_unit_apply_of (Val := Elt Ideal) (S := S2816x1024) (e := .bf16) (up2 P) ![0, 0] ![1024, 1024] inb_S2816x1024_S1024x1024_0_0 (ix2 f c)
    (ix2 ⟨f.val, by omega⟩ c) fun a => by fin_cases a <;> simp
theorem w2_real (P : Fin 2816 → Fin 1024 → ℝ) : w2 (up2 P) = up2 (r2 P) := ext2 fun f c =>
  View.ld_unit_apply_of (Val := Elt Ideal) (S := S2816x1024) (e := .bf16) (up2 P) ![1024, 0] ![1024, 1024] inb_S2816x1024_S1024x1024_1024_0 (ix2 f c)
    (ix2 ⟨1024 + f.val, by omega⟩ c) fun a => by fin_cases a <;> simp
theorem w3_real (P : Fin 2816 → Fin 1024 → ℝ) : w3 (up2 P) = up2 (r3 P) := ext2 fun f c =>
  View.ld_unit_apply_of (Val := Elt Ideal) (S := S2816x1024) (e := .bf16) (up2 P) ![2048, 0] ![768, 1024] inb_S2816x1024_S768x1024_2048_0 (ix2 f c)
    (ix2 ⟨2048 + f.val, by omega⟩ c) fun a => by fin_cases a <;> simp
theorem a1_real (X : Fin 256 → Fin 2816 → ℝ) : a1 (up2 X) = up2 (q1 X) := ext2 fun r f =>
  View.ld_unit_apply_of (Val := Elt Ideal) (S := S256x2816) (e := .bf16) (up2 X) ![0, 0] ![256, 1024] inb_S256x2816_S256x1024_0_0 (ix2 r f)
    (ix2 r ⟨f.val, by omega⟩) fun a => by fin_cases a <;> simp
theorem a2_real (X : Fin 256 → Fin 2816 → ℝ) : a2 (up2 X) = up2 (q2 X) := ext2 fun r f =>
  View.ld_unit_apply_of (Val := Elt Ideal) (S := S256x2816) (e := .bf16) (up2 X) ![0, 1024] ![256, 1024] inb_S256x2816_S256x1024_0_1024 (ix2 r f)
    (ix2 r ⟨1024 + f.val, by omega⟩) fun a => by fin_cases a <;> simp
theorem a3_real (X : Fin 256 → Fin 2816 → ℝ) : a3 (up2 X) = up2 (q3 X) := ext2 fun r f =>
  View.ld_unit_apply_of (Val := Elt Ideal) (S := S256x2816) (e := .bf16) (up2 X) ![0, 2048] ![256, 768] inb_S256x2816_S256x768_0_2048 (ix2 r f)
    (ix2 r ⟨2048 + f.val, by omega⟩) fun a => by fin_cases a <;> simp

/-! ## What the body makes of them -/

/-- The gradient of the normalised rows after two chunks. -/
abbrev two (x : Vec Ideal S256x1024 .f32) (y z : Vec Ideal S256x2816 .bf16) (p q w : Vec Ideal S2816x1024 .bf16) : Vec Ideal S256x1024 .f32 :=
  k0_pay11 (F := Ideal) (k0_pay3 (F := Ideal) x) (k0_pay7 (F := Ideal) x (w1 w) (a1 y) (a1 z) (w1 p) (w1 q)) (w2 w) (a2 y) (a2 z) (w2 p) (w2 q)

/-- The gradients of the last chunk's hidden columns. -/
abbrev gate3 (x : Vec Ideal S256x1024 .f32) (y : Vec Ideal S256x2816 .bf16) (w : Vec Ideal S2816x1024 .bf16) : Vec Ideal S256x768 .bf16 :=
  k0_pay13 (F := Ideal) (k0_pay3 (F := Ideal) x) (w3 w) (a3 y)
abbrev up3 (x : Vec Ideal S256x1024 .f32) (z : Vec Ideal S256x2816 .bf16) (w : Vec Ideal S2816x1024 .bf16) : Vec Ideal S256x768 .bf16 :=
  k0_pay14 (F := Ideal) (k0_pay3 (F := Ideal) x) (w3 w) (a3 z)

/-- The three stores of a gradient of hidden columns, last first. -/
abbrev gates (x : Vec Ideal S256x1024 .f32) (y : Vec Ideal S256x2816 .bf16) (w : Vec Ideal S2816x1024 .bf16) : S256x2816.Idx → Elt Ideal .bf16 :=
  View.canon (Val := Elt Ideal) (s := S256x2816) (e := .bf16) [⟨Rect.unit ![0, 2048] ![256, 768] inb_S256x2816_S256x768_0_2048, k0_pay13 (F := Ideal) (k0_pay3 (F := Ideal) x) (w3 w) (a3 y)⟩,
    ⟨Rect.unit ![0, 1024] ![256, 1024] inb_S256x2816_S256x1024_0_1024, k0_pay9 (F := Ideal) (k0_pay3 (F := Ideal) x) (w2 w) (a2 y)⟩,
    ⟨Rect.unit ![0, 0] ![256, 1024] inb_S256x2816_S256x1024_0_0, k0_pay5 (F := Ideal) x (w1 w) (a1 y)⟩]

variable (D H : Fin 256 → Fin 1024 → ℝ) (G : Fin 1 → Fin 1024 → ℝ) (X Y : Fin 256 → Fin 2816 → ℝ) (P Q W : Fin 2816 → Fin 1024 → ℝ)

theorem gates_real : gates (up2 D) (up2 X) (up2 W) = up2 (dP D W X) := by
  funext j
  unfold gates
  rw [w1_real, w2_real, w3_real, a1_real, a2_real, a3_real, half_up, gate13, gate9, gate5]
  refine View.canon_apply_of_pieces (Val := Elt Ideal) (S := S256x2816) (e := .bf16) (up2 (dP D W X)) _ ?_ j ?_
  · intro p hp x
    rcases List.mem_cons.mp hp with rfl | hp
    · exact (congrFun (a3_real (dP D W X)) x).symm
    rcases List.mem_cons.mp hp with rfl | hp
    · exact (congrFun (a2_real (dP D W X)) x).symm
    rcases List.mem_cons.mp hp with rfl | hp
    · exact (congrFun (a1_real (dP D W X)) x).symm
    · cases hp
  · exact View.cover_of_tiledBy _ ![256, 256] (by sl_kernel_rfl) j

/-- The gradient of the normalised rows. -/
theorem all_real : k0_pay15 (F := Ideal) (two (up2 D) (up2 X) (up2 Y) (up2 P) (up2 Q) (up2 W)) (gate3 (up2 D) (up2 X) (up2 W)) (up3 (up2 D) (up2 Y) (up2 W)) (w3 (up2 P)) (w3 (up2 Q))
    = up2 (back (dP D W X) (dP D W Y) P Q) := by
  unfold two gate3 up3
  rw [w1_real, w1_real, w1_real, w2_real, w2_real, w2_real, w3_real, w3_real, w3_real, a1_real, a2_real, a3_real, a1_real, a2_real, a3_real,
    half_up, first, second, gate13, up14, third]
  refine ext2 fun r c => congrArg Real.toEReal ?_
  show back _ _ _ _ r c + back _ _ _ _ r c + back _ _ _ _ r c = back _ _ _ _ r c
  unfold back
  rw [sum_chunks, sum_chunks (fun f => dP D W Y r f * Q f c)]
  simp only [r1, r2, r3, q1, q2, q3, dP, proj]
  ring

end Cert.Ffn.Tile
-- ==== Proof.FfnReference.lean ====
/-
  The reference's five results, at arguments whose elements are real numbers, as the real functions of the gradient.
-/
module

public import proofs.«01_k».proof.Proof.Gen.ReferenceIdeal.Read
public import proofs.«01_k».proof.Proof.FfnReal

@[expose] public section

set_option maxRecDepth 16384

noncomputable section

namespace Cert.Ffn.Reference

open Cert.ReferenceIdeal Cert.ReferenceIdeal.Gen Cert.ReferenceIdeal.Value Cert.ReferenceIdeal.Read Idealize.ShloMosaic

variable (D H : Fin 8192 → Fin 1024 → ℝ) (G : Fin 1 → Fin 1024 → ℝ) (P Q W : Fin 2816 → Fin 1024 → ℝ)

/-! ## The normalised rows -/

theorem mean_square (i : S8192x1.Idx) : val_main_v11 (F := Ideal) (up2 H) i = ((ms H (i 0) : ℝ) : EReal) := by
  rw [val_main_v11_apply, val_main_v9_apply, val_main_v7_apply, val_main_v6_apply]
  refine add_real (hostDiv_real (by norm_num) (zero_sum_real lit_zero _ _ fun k => ?_) ?_) ?_
  · exact mul_real rfl rfl
  · rw [val_main_v8_apply]; exact lit_width
  · rw [val_main_v10_apply]; exact lit_eps

theorem factor (i : S8192x1.Idx) : val_main_v12 (F := Ideal) (up2 H) i = ((rs H (i 0) : ℝ) : EReal) := by
  rw [val_main_v12_apply, mean_square]; exact rsqrt_ms H _

theorem slope (i : S8192x1.Idx) :
    val_main_v15 (F := Ideal) (up2 H) i = ((-(1 / 2) * (rs H (i 0) / ms H (i 0)) : ℝ) : EReal) := by
  rw [val_main_v15_apply, val_main_v13_apply]
  refine mul_real ?_ (hostDiv_real (ms_pos H _).ne' (factor H i) (mean_square H i))
  rw [val_main_v14_apply]; exact lit_neg_half

theorem normal (i : S8192x1024.Idx) : val_main_v17 (F := Ideal) (up2 H) i = ((hn H (i 0) (i 1) : ℝ) : EReal) := by
  rw [val_main_v17_apply, val_main_v16_apply]; exact mul_real rfl (factor H _)

theorem normed (i : S8192x1024.Idx) :
    val_main_v19 (F := Ideal) (up2 H) (up2 G) i = ((nrm H G (i 0) (i 1) : ℝ) : EReal) := by
  rw [val_main_v19_apply, val_main_v18_apply]; exact mul_real (normal H i) rfl

/-! ## The weights, turned -/

theorem turned_gate (i : S1024x2816.Idx) : val_main_v1 (F := Ideal) (up2 P) i = ((P (i 1) (i 0) : ℝ) : EReal) := by
  rw [val_main_v1_apply]; rfl

theorem turned_up (i : S1024x2816.Idx) : val_main_v3 (F := Ideal) (up2 Q) i = ((Q (i 1) (i 0) : ℝ) : EReal) := by
  rw [val_main_v3_apply]; rfl

/-! ## The hidden columns -/

theorem gate (i : S8192x2816.Idx) :
    val_main_v20 (F := Ideal) (up2 H) (up2 G) (up2 P) i = ((proj (nrm H G) P (i 0) (i 1) : ℝ) : EReal) := by
  rw [val_main_v20_apply]
  exact sum_real _ _ fun k => prod_real (normed H G _) (turned_gate P _)

theorem upward (i : S8192x2816.Idx) :
    val_main_v22 (F := Ideal) (up2 H) (up2 G) (up2 Q) i = ((proj (nrm H G) Q (i 0) (i 1) : ℝ) : EReal) := by
  rw [val_main_v22_apply]
  exact sum_real _ _ fun k => prod_real (normed H G _) (turned_up Q _)

theorem logistic (i : S8192x2816.Idx) :
    val_main_v21_2 (F := Ideal) (up2 H) (up2 G) (up2 P) i = ((sig (proj (nrm H G) P (i 0) (i 1)) : ℝ) : EReal) := by
  rw [val_main_v21_2_apply, val_main_call0_v3_apply, val_main_call0_v1_apply, val_main_call0_v0_apply, sig, ← one_div]
  refine hostDiv_real (by positivity) ?_ (add_real ?_ (exp_real (neg_real (gate H G P i))))
  · rw [val_main_call0_v4_apply]; exact lit_one
  · rw [val_main_call0_v2_apply]; exact lit_one

theorem bump (i : S8192x2816.Idx) :
    val_main_v21_1 (F := Ideal) (up2 H) (up2 G) (up2 P) i
      = ((sig (proj (nrm H G) P (i 0) (i 1)) * (1 - sig (proj (nrm H G) P (i 0) (i 1))) : ℝ) : EReal) := by
  rw [val_main_v21_1_apply, val_main_call0_v7_apply]
  refine mul_real (logistic H G P i) (sub_real ?_ (logistic H G P i))
  rw [val_main_call0_v6_apply]; exact lit_one

theorem silu (i : S8192x2816.Idx) :
    val_main_v21_0 (F := Ideal) (up2 H) (up2 G) (up2 P) i = ((fB (proj (nrm H G) P (i 0) (i 1)) : ℝ) : EReal) := by
  rw [val_main_v21_0_apply]; exact mul_real (gate H G P i) (logistic H G P i)

/-! ## The gradients of the hidden columns -/

theorem halved (i : S8192x1024.Idx) : val_main_v79 (F := Ideal) (up2 D) i = ((dF D (i 0) (i 1) : ℝ) : EReal) := by
  rw [val_main_v79_apply]
  refine mul_real ?_ rfl
  rw [val_main_v78_apply]; exact lit_half

theorem halved_again (i : S8192x1024.Idx) : val_main_v30 (F := Ideal) (up2 D) i = ((dF D (i 0) (i 1) : ℝ) : EReal) := by
  rw [val_main_v30_apply, val_main_v28, shapeCast_self]
  refine mul_real ?_ rfl
  rw [val_main_v29_apply]; exact lit_half

theorem hidden (i : S8192x2816.Idx) :
    val_main_v31 (F := Ideal) (up2 D) (up2 W) i = ((proj (dF D) W (i 0) (i 1) : ℝ) : EReal) := by
  rw [val_main_v31_apply]
  exact sum_real _ _ fun k => prod_real (halved_again D _) rfl

theorem grad_up (i : S8192x2816.Idx) :
    val_main_v32 (F := Ideal) (up2 D) (up2 H) (up2 G) (up2 P) (up2 W) i
      = ((dP D W (fun r f => fB (proj (nrm H G) P r f)) (i 0) (i 1) : ℝ) : EReal) := by
  rw [val_main_v32_apply]
  exact real_of_eq (mul_real (silu H G P i) (hidden D W i)) (mul_comm _ _)

theorem grad_gate (i : S8192x2816.Idx) :
    val_main_v35 (F := Ideal) (up2 D) (up2 H) (up2 G) (up2 P) (up2 Q) (up2 W) i
      = ((dP D W (fun r f => fA (proj (nrm H G) P r f) (proj (nrm H G) Q r f)) (i 0) (i 1) : ℝ) : EReal) := by
  have e : val_main_v33 (F := Ideal) (up2 D) (up2 H) (up2 G) (up2 Q) (up2 W) i
      = ((proj (dF D) W (i 0) (i 1) * proj (nrm H G) Q (i 0) (i 1) : ℝ) : EReal) := by
    rw [val_main_v33_apply]; exact mul_real (hidden D W i) (upward H G Q i)
  rw [val_main_v35_apply, val_main_call1_v1_apply, val_main_call1_v2_apply, val_main_call1_v0_apply]
  exact real_of_eq (add_real (mul_real e (logistic H G P i)) (mul_real (mul_real (gate H G P i) e) (bump H G P i)))
    (fA_chain _ _ _)

/-- The gradient of the normalised rows. -/
def back8192 (r : Fin 8192) (c : Fin 1024) : ℝ :=
  back (dP D W (fun r f => fA (proj (nrm H G) P r f) (proj (nrm H G) Q r f))) (dP D W (fun r f => fB (proj (nrm H G) P r f))) P Q r c

theorem grad_normed (i : S8192x1024.Idx) :
    val_main_v37 (F := Ideal) (up2 D) (up2 H) (up2 G) (up2 P) (up2 Q) (up2 W) i
      = ((back8192 D H G P Q W (i 0) (i 1) : ℝ) : EReal) := by
  rw [val_main_v37_apply, val_main_v34_apply, val_main_v36_apply]
  exact real_of_eq (add_real (sum_real _ _ fun k => prod_real (grad_up D H G P W _) (turned_up Q _))
    (sum_real _ _ fun k => prod_real (grad_gate D H G P Q W _) (turned_gate P _))) (add_comm _ _)

/-! ## The results -/

theorem gain (i : S1x1024.Idx) :
    val_main_v40 (F := Ideal) (up2 D) (up2 H) (up2 G) (up2 P) (up2 Q) (up2 W) i
      = ((dGain H (back8192 D H G P Q W) (i 1) : ℝ) : EReal) := by
  have e : idx_main_v40 i = fun a => match a with | ⟨0, _⟩ => ⟨(i 1).val, (i 1).isLt⟩ := funext fun a => match a with
    | ⟨0, _⟩ => Fin.ext (by have h : (i 0).val < 1 := (i 0).isLt; show (i 0).val * 1024 + (i 1).val = (i 1).val; omega)
  rw [val_main_v40_apply, e, val_main_v39_apply]
  refine zero_sum_real lit_zero _ _ fun k => ?_
  rw [val_main_v38_apply]
  exact real_of_eq (mul_real (normal H _) (grad_normed D H G P Q W _)) (mul_comm _ _)

theorem scaled (i : S8192x1024.Idx) :
    val_main_v42 (F := Ideal) (up2 D) (up2 H) (up2 G) (up2 P) (up2 Q) (up2 W) i
      = ((back8192 D H G P Q W (i 0) (i 1) * G 0 (i 1) : ℝ) : EReal) := by
  rw [val_main_v42_apply, val_main_v41_apply]; exact mul_real (grad_normed D H G P Q W i) rfl

/-- The sum over a row that reaches the row's mean square. -/
theorem gathered (j : S8192x1.Idx) :
    val_main_v45 (F := Ideal) (up2 D) (up2 H) (up2 G) (up2 P) (up2 Q) (up2 W) j
      = ((∑ k, H (j 0) k * (back8192 D H G P Q W (j 0) k * G 0 k) : ℝ) : EReal) := by
  have e : idx_main_v45 j = fun a => match a with | ⟨0, _⟩ => ⟨(j 0).val, (j 0).isLt⟩ := funext fun a => match a with
    | ⟨0, _⟩ => Fin.ext (by have h : (j 1).val < 1 := (j 1).isLt; show (j 0).val * 1 + (j 1).val = (j 0).val; omega)
  rw [val_main_v45_apply, e, val_main_v44_apply]
  refine zero_sum_real lit_zero _ _ fun k => ?_
  rw [val_main_v43_apply]; exact mul_real rfl (scaled D H G P Q W _)

/-- What reaches the mean square of a row, spread over the row. -/
theorem spread (i : S8192x1024.Idx) :
    val_main_v53 (F := Ideal) (up2 D) (up2 H) (up2 G) (up2 P) (up2 Q) (up2 W) i
      = (((∑ k, H (i 0) k * (back8192 D H G P Q W (i 0) k * G 0 k)) * (-(1 / 2) * (rs H (i 0) / ms H (i 0))) / 1024 : ℝ) : EReal) := by
  rw [val_main_v53_apply, val_main_v52_apply]
  refine (zero_sum_real lit_zero _ (fun _ => (∑ k, H (i 0) k * (back8192 D H G P Q W (i 0) k * G 0 k)) * (-(1 / 2) * (rs H (i 0) / ms H (i 0))) / 1024) fun k => ?_).trans ?_
  · rw [val_main_v51_apply, val_main_v49_apply]
    refine hostDiv_real (by norm_num) (mul_real (gathered D H G P Q W _) (slope H _)) ?_
    rw [val_main_v50_apply]; exact lit_width
  · rw [Fin.sum_univ_one]

theorem input (i : S8192x1024.Idx) :
    val_main_v57 (F := Ideal) (up2 D) (up2 H) (up2 G) (up2 P) (up2 Q) (up2 W) i
      = ((dIn D H (back8192 D H G P Q W) G (i 0) (i 1) : ℝ) : EReal) := by
  rw [val_main_v57_apply, val_main_v55_apply, val_main_v48_apply, val_main_v47_apply, val_main_v46_apply, val_main_v54_apply,
    val_main_v56_apply]
  exact real_of_eq (add_real (add_real (add_real rfl (mul_real (scaled D H G P Q W i) (factor H _)))
    (mul_real rfl (spread D H G P Q W i))) (mul_real (spread D H G P Q W i) rfl))
    ((add_assoc _ _ _).trans (dIn_chain D H (back8192 D H G P Q W) G (i 0) (i 1)))

/-! The products are taken once more for the gradients of the hidden columns, from the same arguments. -/

theorem hidden_again (i : S8192x2816.Idx) :
    val_main_v80 (F := Ideal) (up2 D) (up2 W) i = ((proj (dF D) W (i 0) (i 1) : ℝ) : EReal) := by
  rw [val_main_v80_apply]
  exact sum_real _ _ fun k => prod_real (halved D _) rfl

theorem out_up (i : S8192x2816.Idx) :
    val_main_v85 (F := Ideal) (up2 D) (up2 H) (up2 G) (up2 P) (up2 W) i
      = ((dP D W (fun r f => fB (proj (nrm H G) P r f)) (i 0) (i 1) : ℝ) : EReal) := by
  rw [val_main_v85_apply, Ideal.truncf_def, val_main_v81_apply]
  exact real_of_eq (mul_real (silu H G P i) (hidden_again D W i)) (mul_comm _ _)

theorem out_gate (i : S8192x2816.Idx) :
    val_main_v84 (F := Ideal) (up2 D) (up2 H) (up2 G) (up2 P) (up2 Q) (up2 W) i
      = ((dP D W (fun r f => fA (proj (nrm H G) P r f) (proj (nrm H G) Q r f)) (i 0) (i 1) : ℝ) : EReal) := by
  have e : val_main_v82 (F := Ideal) (up2 D) (up2 H) (up2 G) (up2 Q) (up2 W) i
      = ((proj (dF D) W (i 0) (i 1) * proj (nrm H G) Q (i 0) (i 1) : ℝ) : EReal) := by
    rw [val_main_v82_apply]; exact mul_real (hidden_again D W i) (upward H G Q i)
  rw [val_main_v84_apply, Ideal.truncf_def, val_main_v83_apply, val_main_call3_v1_apply, val_main_call3_v2_apply,
    val_main_call3_v0_apply]
  exact real_of_eq (add_real (mul_real e (logistic H G P i)) (mul_real (mul_real (gate H G P i) e) (bump H G P i)))
    (fA_chain _ _ _)

theorem out_half (i : S8192x1024.Idx) : val_main_v86 (F := Ideal) (up2 D) i = ((dF D (i 0) (i 1) : ℝ) : EReal) := by
  rw [val_main_v86_apply, Ideal.truncf_def]; exact halved D i

end Cert.Ffn.Reference
-- ==== Proof.FfnHost.lean ====
/-
  The two factors of the hidden columns that are worked out before the kernel's call, as real functions of the arguments.
-/
module

public import proofs.«01_k».proof.Proof.Gen.KernelIdeal.Value
public import proofs.«01_k».proof.Proof.FfnReference
public import Idealize.ShloMosaic.Lib.MatmulPlain

@[expose] public section

set_option maxRecDepth 16384

noncomputable section

namespace Cert.Ffn.Host

open Cert.KernelIdeal Cert.KernelIdeal.Gen Idealize.ShloMosaic Idealize.ShloMosaic.TcCoe Idealize.SL.Sem Idealize.ShloMosaic.StableHlo

/-- The normalised rows, with the reference's operations. -/
abbrev rowsOf (h : FVec Ideal S8192x1024 .f32) (g : FVec Ideal S1x1024 .f32) : FVec Ideal S8192x1024 .f32 :=
  Cert.ReferenceIdeal.Read.val_main_v19 (F := Ideal) h g

/-- The normalised rows times the rows of a weight. -/
def times (h : FVec Ideal S8192x1024 .f32) (g : FVec Ideal S1x1024 .f32) (p : FVec Ideal S2816x1024 .bf16) : FVec Ideal S8192x2816 .f32 :=
  Host.dotGeneral dot_S8192x1024_S2816x1024_S8192x2816_1_1_0_0_n_n none (truncf .bf16 (rowsOf h g) bitsLt_bf16_f32) p

/-- One literal over the hidden columns. -/
def all (b : BitVec 32) : FVec Ideal S8192x2816 .f32 := broadcastInDim S8192x2816 ![] bcast_S_S8192x2816 (constant S_ .f32 b)

/-- The logistic function by the hyperbolic tangent. -/
def logi (x : FVec Ideal S8192x2816 .f32) : FVec Ideal S8192x2816 .f32 :=
  addf (mulf (all 0x3F000000#32) (Host.tanh (mulf (all 0x3F000000#32) x))) (all 0x3F000000#32)

/-- The factor of the gate's gradient. -/
def factorA (x y : FVec Ideal S8192x2816 .f32) : FVec Ideal S8192x2816 .bf16 :=
  truncf .bf16 (mulf y (mulf (logi x) (addf (all 0x3F800000#32) (mulf x (subf (all 0x3F800000#32) (logi x)))))) bitsLt_bf16_f32

/-- The factor of the upward gradient. -/
def factorB (x : FVec Ideal S8192x2816 .f32) : FVec Ideal S8192x2816 .bf16 := truncf .bf16 (mulf x (logi x)) bitsLt_bf16_f32

section
variable (m : (ℓ : Loc nD τ Cert.KernelIdeal.sig) → Buf (Elt Ideal) ℓ) (c : Dev nD)

theorem read_a : V m c main_v29 = factorA
    (times (m ((c.tc : Thread nD τ).loc main_arg1)) (m ((c.tc : Thread nD τ).loc main_arg2)) (m ((c.tc : Thread nD τ).loc main_arg3)))
    (times (m ((c.tc : Thread nD τ).loc main_arg1)) (m ((c.tc : Thread nD τ).loc main_arg2)) (m ((c.tc : Thread nD τ).loc main_arg4))) := by
  unfold V
  simp only [hostOps0, TRef.binary, TRef.nullary, TRef.unary, TRef.toBuf, TRef.ofBuf, cast_eq]
  after_results_simp
  rfl

theorem read_b : V m c main_v31 = factorB
    (times (m ((c.tc : Thread nD τ).loc main_arg1)) (m ((c.tc : Thread nD τ).loc main_arg2)) (m ((c.tc : Thread nD τ).loc main_arg3))) := by
  unfold V
  simp only [hostOps0, TRef.binary, TRef.nullary, TRef.unary, TRef.toBuf, TRef.ofBuf, cast_eq]
  after_results_simp
  rfl
end

variable (H : Fin 8192 → Fin 1024 → ℝ) (G : Fin 1 → Fin 1024 → ℝ) (P Q : Fin 2816 → Fin 1024 → ℝ)

theorem times_real (r : Fin 8192) (f : Fin 2816) :
    times (up2 H) (up2 G) (up2 P) (ix2 r f) = ((proj (nrm H G) P r f : ℝ) : EReal) := by
  refine (Ideal.matmul_transposedRhs_apply (φ₁ := .bf16) (φ₂ := .bf16) (M := 8192) (K := 1024) (N := 2816) none
    (rowsOf (up2 H) (up2 G)) (up2 P) (fun _ => 0) r f).trans ?_
  exact zero_sum_real rfl _ _ fun k => prod_real (Cert.Ffn.Reference.normed H G _) rfl

theorem all_half (i : S8192x2816.Idx) : all 0x3F000000#32 i = ((1 / 2 : ℝ) : EReal) := lit_half
theorem all_one (i : S8192x2816.Idx) : all 0x3F800000#32 i = ((1 : ℝ) : EReal) := lit_one

theorem logi_real {x : FVec Ideal S8192x2816 .f32} {i : S8192x2816.Idx} {g : ℝ} (h : x i = (g : EReal)) :
    logi x i = ((sig g : ℝ) : EReal) :=
  real_of_eq (add_real (mul_real (all_half i) (tanh_real (mul_real (all_half i) h))) (all_half i)) (sig_tanh g)

theorem factorA_real : factorA (times (up2 H) (up2 G) (up2 P)) (times (up2 H) (up2 G) (up2 Q))
    = up2 fun r f => fA (proj (nrm H G) P r f) (proj (nrm H G) Q r f) := funext fun i => by
  rw [eq_ix2 i]
  exact mul_real (times_real H G Q _ _) (mul_real (logi_real (times_real H G P _ _))
    (add_real (all_one _) (mul_real (times_real H G P _ _) (sub_real (all_one _) (logi_real (times_real H G P _ _))))))

theorem factorB_real : factorB (times (up2 H) (up2 G) (up2 P)) = up2 fun r f => fB (proj (nrm H G) P r f) := funext fun i => by
  rw [eq_ix2 i]
  exact mul_real (times_real H G P _ _) (logi_real (times_real H G P _ _))

end Cert.Ffn.Host
-- ==== Proof.FfnArray.lean ====
/-
  The arrays after the network's gradient has run over its 32 row tiles.
-/
module

public import proofs.«01_k».proof.Proof.FfnTile
public import proofs.«01_k».proof.Proof.FfnHost
public import Idealize.ShloMosaic.Lib.Pipeline.ValueKit
public import Idealize.ShloMosaic.Lib.Pipeline.ReadBack

@[expose] public section

set_option maxRecDepth 16384
set_option maxHeartbeats 1600000

noncomputable section

namespace Cert.FfnArray

open Cert.KernelIdeal Cert.KernelIdeal.Gen Idealize.ShloMosaic Idealize.ShloMosaic.TcCoe Idealize.SL.Sem
open Idealize.ShloMosaic.Pipeline (Dat)
open Cert.Ffn (up2 fA fB dF dP proj nrm back dIn dGain hn)
open Cert.Ffn.Reference (back8192)
open Cert.Ffn.Tile

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0, 0] :=
  (by decide +kernel : ∀ t : Fin grid0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0, 0])

/-- The rows of one tile. -/
def rows {k : ℕ} (t : Fin 32) (X : Fin 8192 → Fin k → ℝ) (r : Fin 256) (f : Fin k) : ℝ := X ⟨256 * t.val + r.val, by omega⟩ f

/-- One element of an array, at its place in a tile. -/
theorem tile {k : ℕ} {X : Fin 8192 → Fin k → ℝ} (t : Fin 32) (r : Fin 256) (f : Fin k) {i : (⟨2, ![8192, k]⟩ : Shape).Idx}
    (h0 : (i 0 : ℕ) = 256 * t.val + r.val) (h1 : (i 1 : ℕ) = f.val) : up2 X i = ((rows t X r f : ℝ) : EReal) := by
  have e : i = ix2 ⟨256 * t.val + r.val, by omega⟩ f := by
    rw [eq_ix2 i]; exact congrArg₂ ix2 (Fin.ext h0) (Fin.ext h1)
  rw [e]; rfl

variable (m : (ℓ : Loc nD τ Cert.KernelIdeal.sig) → Buf (Elt Ideal) ℓ) (c : Dev nD)

/-! ## The weights stay in the scratch -/

theorem kept0 (n : ℕ) (hn : n < cfg0.N) : (outsAt0 m c n hn).2.2.2.2.2.1 = m ((c : Thread nD τ).loc main_arg3) := by
  induction n with
  | zero =>
    rw [outsAt0_A m c ⟨0, hn⟩ rfl]
    frame_out
    refine (View.canon_unit_zero (S := S2816x1024) (off := fun _ => 0) rfl _ _).trans ?_
    exact V_main_arg3 m c
  | succ n ih =>
    rw [outsAt0_B m c ⟨n + 1, hn⟩ (by show ¬ (n + 1) % 32 = 0; have : n + 1 < 32 := hn; omega)]
    dsimp only
    unfold sout0_B_0
    exact ih (by omega)

theorem kept1 (n : ℕ) (hn : n < cfg0.N) : (outsAt0 m c n hn).2.2.2.2.2.2.1 = m ((c : Thread nD τ).loc main_arg4) := by
  induction n with
  | zero =>
    rw [outsAt0_A m c ⟨0, hn⟩ rfl]
    frame_out
    refine (View.canon_unit_zero (S := S2816x1024) (off := fun _ => 0) rfl _ _).trans ?_
    exact V_main_arg4 m c
  | succ n ih =>
    rw [outsAt0_B m c ⟨n + 1, hn⟩ (by show ¬ (n + 1) % 32 = 0; have : n + 1 < 32 := hn; omega)]
    dsimp only
    unfold sout0_B_1
    exact ih (by omega)

theorem kept2 (n : ℕ) (hn : n < cfg0.N) : (outsAt0 m c n hn).2.2.2.2.2.2.2 = m ((c : Thread nD τ).loc main_arg5) := by
  induction n with
  | zero =>
    rw [outsAt0_A m c ⟨0, hn⟩ rfl]
    frame_out
    refine (View.canon_unit_zero (S := S2816x1024) (off := fun _ => 0) rfl _ _).trans ?_
    exact V_main_arg5 m c
  | succ n ih =>
    rw [outsAt0_B m c ⟨n + 1, hn⟩ (by show ¬ (n + 1) % 32 = 0; have : n + 1 < 32 := hn; omega)]
    dsimp only
    unfold sout0_B_2
    exact ih (by omega)

/-- A load from a scratch that was stored whole. -/
theorem loaded {κ : Kind} {sp : Space} (v : View Cert.KernelIdeal.sig κ sp S2816x1024 .bf16) (X : Vec Ideal S2816x1024 .bf16) (r : Rect S2816x1024) :
    v.readCov (Val := Elt Ideal) [(⟨Rect.whole S2816x1024, X⟩ : View.Piece (Elt Ideal) S2816x1024 .bf16)] r.toLoadRect = View.ld X r := by
  rw [View.readCov_eq_canon_ld _ _ _ (fun y => ⟨_, List.mem_singleton_self _, by
    show y ∈ (Rect.whole S2816x1024).set; rw [Rect.set_whole]; exact Finset.mem_univ y⟩)]
  exact congrArg (fun Y => View.ld Y r) (View.canon_unit_zero (S := S2816x1024) (off := fun _ => 0) rfl _ _)

/-! ## What a tile leaves, over its blocks -/

section
variable (t : Fin cfg0.N)

theorem leaves_gate : (outsAt0 m c t.val t.isLt).2.1 = gates (iblk m c 0 t) (iblk m c 3 t) (m ((c : Thread nD τ).loc main_arg5)) := by
  by_cases h : t.val % 32 = 0
  · rw [outsAt0_A m c t h]; frame_out
    simp only [loaded]
    rw [← V_main_arg5 m c]; rfl
  · rw [outsAt0_B m c t h]; frame_out
    simp only [read_unread_whole, kept2]

theorem leaves_up : (outsAt0 m c t.val t.isLt).2.2.1 = gates (iblk m c 0 t) (iblk m c 4 t) (m ((c : Thread nD τ).loc main_arg5)) := by
  by_cases h : t.val % 32 = 0
  · rw [outsAt0_A m c t h]; frame_out
    simp only [loaded]
    rw [← V_main_arg5 m c]; rfl
  · rw [outsAt0_B m c t h]; frame_out
    simp only [read_unread_whole, kept2]
    rfl

theorem leaves_half : (outsAt0 m c t.val t.isLt).2.2.2.1 = k0_pay3 (F := Ideal) (iblk m c 0 t) := by
  by_cases h : t.val % 32 = 0
  · rw [outsAt0_A m c t h]; frame_out
  · rw [outsAt0_B m c t h]; frame_out

theorem leaves_entry : (outsAt0 m c t.val t.isLt).1 = (fun x0 x1 x2 x3 x4 p q w => k0_pay1 (F := Ideal) x0 (k0_pay16 (F := Ideal) x1)
      (k0_pay19 (F := Ideal) (two x0 x3 x4 p q w) (gate3 x0 x3 w) (up3 x0 x4 w) (w3 p) (w3 q) x2)
      (k0_pay20 (F := Ideal) (two x0 x3 x4 p q w) (gate3 x0 x3 w) (up3 x0 x4 w) (w3 p) (w3 q) x1 x2))
    (iblk m c 0 t) (iblk m c 1 t) (iblk m c 2 t) (iblk m c 3 t) (iblk m c 4 t) (m ((c : Thread nD τ).loc main_arg3)) (m ((c : Thread nD τ).loc main_arg4))
    (m ((c : Thread nD τ).loc main_arg5)) := by
  by_cases h : t.val % 32 = 0
  · rw [outsAt0_A m c t h]; frame_out
    simp only [loaded]
    rw [← V_main_arg3 m c, ← V_main_arg4 m c, ← V_main_arg5 m c]; rfl
  · rw [outsAt0_B m c t h]; frame_out
    simp only [read_unread_whole, kept0, kept1, kept2]

/-- The gain's gradient after a tile, over what was there before. -/
abbrev gainOf (prev : Vec Ideal S1x1024 .f32) : Vec Ideal S1x1024 .f32 := (fun x0 x1 x3 x4 p q w =>
      k0_pay18 (F := Ideal) (two x0 x3 x4 p q w) (gate3 x0 x3 w) (up3 x0 x4 w) (w3 p) (w3 q) x1 prev)
    (iblk m c 0 t) (iblk m c 1 t) (iblk m c 3 t) (iblk m c 4 t) (m ((c : Thread nD τ).loc main_arg3)) (m ((c : Thread nD τ).loc main_arg4))
    (m ((c : Thread nD τ).loc main_arg5))

theorem leaves_gain_first (h : t.val % 32 = 0) : (outsAt0 m c t.val t.isLt).2.2.2.2.1 = gainOf m c t (k0_pay2 (F := Ideal)) := by
  rw [outsAt0_A m c t h]; frame_out
  simp only [loaded]
  unfold gainOf
  rw [← V_main_arg3 m c, ← V_main_arg4 m c, ← V_main_arg5 m c]; rfl

theorem leaves_gain (h : ¬ t.val % 32 = 0) : (outsAt0 m c t.val t.isLt).2.2.2.2.1
    = gainOf m c t (outsAt0 m c (t.val - 1) (by omega)).2.2.2.2.1 := by
  rw [outsAt0_B m c t h]; frame_out
  simp only [read_unread_whole, kept0, kept1, kept2]

end

/-! ## The blocks, at arguments whose elements are real numbers -/

/-- The arguments hold these real numbers. -/
structure Holds (D H : Fin 8192 → Fin 1024 → ℝ) (G : Fin 1 → Fin 1024 → ℝ) (P Q W : Fin 2816 → Fin 1024 → ℝ) : Prop where
  grad : m ((c : Thread nD τ).loc main_arg0) = up2 D
  rows : m ((c : Thread nD τ).loc main_arg1) = up2 H
  gain : m ((c : Thread nD τ).loc main_arg2) = up2 G
  gate : m ((c : Thread nD τ).loc main_arg3) = up2 P
  upward : m ((c : Thread nD τ).loc main_arg4) = up2 Q
  down : m ((c : Thread nD τ).loc main_arg5) = up2 W

variable {m c}
variable {D H : Fin 8192 → Fin 1024 → ℝ} {G : Fin 1 → Fin 1024 → ℝ} {P Q W : Fin 2816 → Fin 1024 → ℝ} (hm : Holds m c D H G P Q W)

/-- The factors of the hidden columns. -/
def facA (H : Fin 8192 → Fin 1024 → ℝ) (G : Fin 1 → Fin 1024 → ℝ) (P Q : Fin 2816 → Fin 1024 → ℝ) (r : Fin 8192) (f : Fin 2816) : ℝ :=
  fA (proj (nrm H G) P r f) (proj (nrm H G) Q r f)
def facB (H : Fin 8192 → Fin 1024 → ℝ) (G : Fin 1 → Fin 1024 → ℝ) (P : Fin 2816 → Fin 1024 → ℝ) (r : Fin 8192) (f : Fin 2816) : ℝ :=
  fB (proj (nrm H G) P r f)

include hm

theorem block0 (t : Fin cfg0.N) : iblk m c 0 t = up2 (rows t D) := by
  obtain ⟨e0, e1, e2, e3, e4, -⟩ := idx t
  refine Cert.Ffn.Pay.ext2 fun r f => ?_
  have hV : V m c main_arg0 = up2 D := (V_main_arg0 m c).trans hm.grad
  have hR : iblk m c 0 t (ix2 r f) = V m c main_arg0 (ix2 ⟨256 * t.val + r.val, by have : t.val < 32 := t.isLt; omega⟩ f) := by
    blk_ext [iblk, e0]
  rw [hR, hV]; rfl

theorem block1 (t : Fin cfg0.N) : iblk m c 1 t = up2 (rows t H) := by
  obtain ⟨e0, e1, e2, e3, e4, -⟩ := idx t
  refine Cert.Ffn.Pay.ext2 fun r f => ?_
  have hV : V m c main_arg1 = up2 H := (V_main_arg1 m c).trans hm.rows
  have hR : iblk m c 1 t (ix2 r f) = V m c main_arg1 (ix2 ⟨256 * t.val + r.val, by have : t.val < 32 := t.isLt; omega⟩ f) := by
    blk_ext [iblk, e1]
  rw [hR, hV]; rfl

theorem block2 (t : Fin cfg0.N) : iblk m c 2 t = up2 G := by
  obtain ⟨e0, e1, e2, e3, e4, -⟩ := idx t
  refine Cert.Ffn.Pay.ext2 fun r f => ?_
  have hV : V m c main_arg2 = up2 G := (V_main_arg2 m c).trans hm.gain
  have hR : iblk m c 2 t (ix2 r f) = V m c main_arg2 (ix2 r f) := by
    blk_ext [iblk, e2]
  rw [hR, hV]; rfl

theorem block3 (t : Fin cfg0.N) : iblk m c 3 t = up2 (rows t (facA H G P Q)) := by
  obtain ⟨e0, e1, e2, e3, e4, -⟩ := idx t
  refine Cert.Ffn.Pay.ext2 fun r f => ?_
  have hV : V m c main_v29 = up2 (facA H G P Q) := by
    rw [Cert.Ffn.Host.read_a, hm.rows, hm.gain, hm.gate, hm.upward]; exact Cert.Ffn.Host.factorA_real H G P Q
  have hR : iblk m c 3 t (ix2 r f) = V m c main_v29 (ix2 ⟨256 * t.val + r.val, by have : t.val < 32 := t.isLt; omega⟩ f) := by
    blk_ext [iblk, e3]
  rw [hR, hV]; rfl

theorem block4 (t : Fin cfg0.N) : iblk m c 4 t = up2 (rows t (facB H G P)) := by
  obtain ⟨e0, e1, e2, e3, e4, -⟩ := idx t
  refine Cert.Ffn.Pay.ext2 fun r f => ?_
  have hV : V m c main_v31 = up2 (facB H G P) := by
    rw [Cert.Ffn.Host.read_b, hm.rows, hm.gain, hm.gate]; exact Cert.Ffn.Host.factorB_real H G P
  have hR : iblk m c 4 t (ix2 r f) = V m c main_v31 (ix2 ⟨256 * t.val + r.val, by have : t.val < 32 := t.isLt; omega⟩ f) := by
    blk_ext [iblk, e4]
  rw [hR, hV]; rfl

/-! ## What a tile leaves -/

theorem tile_gate (t : Fin cfg0.N) : (outsAt0 m c t.val t.isLt).2.1 = up2 (rows t (dP D W (facA H G P Q))) := by
  rw [leaves_gate, block0 hm, block3 hm, hm.down, gates_real]; rfl

theorem tile_up (t : Fin cfg0.N) : (outsAt0 m c t.val t.isLt).2.2.1 = up2 (rows t (dP D W (facB H G P))) := by
  rw [leaves_up, block0 hm, block4 hm, hm.down, gates_real]; rfl

theorem tile_half (t : Fin cfg0.N) : (outsAt0 m c t.val t.isLt).2.2.2.1 = up2 (rows t (dF D)) := by
  rw [leaves_half, block0 hm, Cert.Ffn.Pay.half_up]; rfl

theorem tile_entry (t : Fin cfg0.N) : (outsAt0 m c t.val t.isLt).1 = up2 (rows t (dIn D H (back8192 D H G P Q W) G)) := by
  rw [leaves_entry, block0 hm, block1 hm, block2 hm, block3 hm, block4 hm, hm.gate, hm.upward, hm.down]
  refine (Cert.Ffn.Pay.entry _ _ _ (all_real (rows t D) (rows t (facA H G P Q)) (rows t (facB H G P)) P Q W)).trans ?_
  rfl

/-- One tile's part of the gain's gradient. -/
theorem tile_gain (t : Fin cfg0.N) (S : Fin 1 → Fin 1024 → ℝ) :
    gainOf m c t (up2 S) = up2 fun z f => S z f + dGain (rows t H) (rows t (back8192 D H G P Q W)) f := by
  unfold gainOf
  rw [block0 hm, block1 hm, block3 hm, block4 hm, hm.gate, hm.upward, hm.down]
  refine (Cert.Ffn.Pay.gain_step _ (all_real (rows t D) (rows t (facA H G P Q)) (rows t (facB H G P)) P Q W) S).trans ?_
  rfl

/-- The gain's gradient after the tiles so far. -/
theorem gain_upto (n : ℕ) (hn : n < cfg0.N) : (outsAt0 m c n hn).2.2.2.2.1
    = up2 fun _ f => ∑ k : Fin (n + 1), dGain (rows ⟨k.val, by have : n < 32 := hn; omega⟩ H)
        (rows ⟨k.val, by have : n < 32 := hn; omega⟩ (back8192 D H G P Q W)) f := by
  induction n with
  | zero =>
    rw [leaves_gain_first m c ⟨0, hn⟩ rfl]
    have e : k0_pay2 (F := Ideal) = up2 fun _ _ => 0 := Cert.Ffn.Pay.ext2 fun r f => Cert.Ffn.lit_zero
    rw [e, tile_gain hm]
    refine Cert.Ffn.Pay.ext2 fun r f => congrArg Real.toEReal ?_
    rw [Fin.sum_univ_one]; exact zero_add _
  | succ n ih =>
    rw [leaves_gain m c ⟨n + 1, hn⟩ (by show ¬ (n + 1) % 32 = 0; have : n + 1 < 32 := hn; omega)]
    have e := ih (by omega)
    have e' : (outsAt0 m c ((⟨n + 1, hn⟩ : Fin cfg0.N).val - 1) (by show n < cfg0.N; omega)).2.2.2.2.1 = (outsAt0 m c n (by omega)).2.2.2.2.1 := rfl
    rw [e', e, tile_gain hm]
    refine Cert.Ffn.Pay.ext2 fun r f => congrArg Real.toEReal ?_
    rw [Fin.sum_univ_castSucc (n := n + 1)]; rfl

/-! ## The arrays -/

theorem array_entry : (dats m 0 c).arrAt 5 cfg0.N = up2 (dIn D H (back8192 D H G P Q W) G) := by
  refine (dats m 0 c).arrAt_eq_of_covers 5 _ (by decide +kernel) fun t hf y => ?_
  blk_simp
  rw [after0_5, tile_entry hm t]
  obtain ⟨e0, e1, e2, e3, e4, e5, e6, e7, e8, e9⟩ := idx t
  have ht : t.val < 32 := t.isLt
  have hy : (y 0).val < 256 := (y 0).isLt
  have e : up2 (dIn D H (back8192 D H G P Q W) G) ((win0_5.blk t).view.emb y) = up2 (dIn D H (back8192 D H G P Q W) G) (ix2 ⟨256 * t.val + (y 0).val, by omega⟩ (y 1)) := by
    blk_ext [e5]
  rw [e]; rfl

theorem array_gate : (dats m 0 c).arrAt 6 cfg0.N = up2 (dP D W (facA H G P Q)) := by
  refine (dats m 0 c).arrAt_eq_of_covers 6 _ (by decide +kernel) fun t hf y => ?_
  blk_simp
  rw [after0_6, tile_gate hm t]
  obtain ⟨e0, e1, e2, e3, e4, e5, e6, e7, e8, e9⟩ := idx t
  have ht : t.val < 32 := t.isLt
  have hy : (y 0).val < 256 := (y 0).isLt
  have e : up2 (dP D W (facA H G P Q)) ((win0_6.blk t).view.emb y) = up2 (dP D W (facA H G P Q)) (ix2 ⟨256 * t.val + (y 0).val, by omega⟩ (y 1)) := by
    blk_ext [e6]
  rw [e]; rfl

theorem array_up : (dats m 0 c).arrAt 7 cfg0.N = up2 (dP D W (facB H G P)) := by
  refine (dats m 0 c).arrAt_eq_of_covers 7 _ (by decide +kernel) fun t hf y => ?_
  blk_simp
  rw [after0_7, tile_up hm t]
  obtain ⟨e0, e1, e2, e3, e4, e5, e6, e7, e8, e9⟩ := idx t
  have ht : t.val < 32 := t.isLt
  have hy : (y 0).val < 256 := (y 0).isLt
  have e : up2 (dP D W (facB H G P)) ((win0_7.blk t).view.emb y) = up2 (dP D W (facB H G P)) (ix2 ⟨256 * t.val + (y 0).val, by omega⟩ (y 1)) := by
    blk_ext [e7]
  rw [e]; rfl

theorem array_half : (dats m 0 c).arrAt 8 cfg0.N = up2 (dF D) := by
  refine (dats m 0 c).arrAt_eq_of_covers 8 _ (by decide +kernel) fun t hf y => ?_
  blk_simp
  rw [after0_8, tile_half hm t]
  obtain ⟨e0, e1, e2, e3, e4, e5, e6, e7, e8, e9⟩ := idx t
  have ht : t.val < 32 := t.isLt
  have hy : (y 0).val < 256 := (y 0).isLt
  have e : up2 (dF D) ((win0_8.blk t).view.emb y) = up2 (dF D) (ix2 ⟨256 * t.val + (y 0).val, by omega⟩ (y 1)) := by
    blk_ext [e8]
  rw [e]; rfl

omit hm in
/-- The 32 tiles' parts of the gain's gradient add up to the whole. -/
theorem parts (H N : Fin 8192 → Fin 1024 → ℝ) (f : Fin 1024) : ∑ k : Fin 32, dGain (rows k H) (rows k N) f = dGain H N f := by
  unfold dGain
  rw [← finProdFinEquiv.sum_comp (fun r : Fin (32 * 256) => N r f * hn H r f), Fintype.sum_prod_type]
  refine Finset.sum_congr rfl fun k _ => Finset.sum_congr rfl fun r _ => ?_
  have e : (finProdFinEquiv (k, r) : Fin (32 * 256)) = ⟨256 * k.val + r.val, by omega⟩ := Fin.ext (by simp [finProdFinEquiv]; omega)
  rw [e]; rfl

omit hm in
/-- The last tile. -/
def lastTile : Fin cfg0.N := ⟨31, by decide⟩

theorem array_gain : (dats m 0 c).arrAt 9 cfg0.N = up2 fun _ f => dGain H (back8192 D H G P Q W) f := by
  refine (dats m 0 c).arrAt_eq_of_after_last 9 lastTile (by decide +kernel) _ fun j => ?_
  blk_simp
  rw [after0_9]
  refine (congrFun (gain_upto hm 31 _) _).trans ?_
  exact congrArg Real.toEReal (parts H (back8192 D H G P Q W) (j 1))

end Cert.FfnArray
-- ==== Proof.FfnPre.lean ====
/-
  The precondition read back: where it holds, every element of the six arguments is a real number.
-/
module

public import proofs.«01_k».proof.Defs
public import proofs.«01_k».proof.Proof.FfnReal
public import Idealize.ShloMosaic.Lib.ReduceAll

@[expose] public section

set_option maxRecDepth 16384

noncomputable section

namespace Cert.Ffn.Pre

open Cert.Pre_finite Idealize.ShloMosaic

theorem facts : Cert.Pre_finite.Facts where
  bcast_S_S8192x1024 := by decide
  reducesTo_S8192x1024_S_d0_1 := by decide
  h_S_ := by decide
  bcast_S_S1x1024 := by decide
  reducesTo_S1x1024_S_d0_1 := by decide
  bitsLt_bf16_f32 := by decide
  bcast_S_S2816x1024 := by decide
  reducesTo_S2816x1024_S_d0_1 := by decide

theorem lit_inf : Ideal.ofBits .f32 0x7F800000#32 = ⊤ := by
  simp [Ideal.ofBits, Ideal.ieee]

/-- A number whose absolute value lies below infinity is real. -/
theorem real_of_lt {x : EReal} (h : Ideal.cmp .olt (max x (-x)) ⊤ = 1#1) : ∃ a : ℝ, x = (a : EReal) := by
  have h' : max x (-x) < ⊤ := by
    by_contra hn
    rw [Ideal.cmp, decide_eq_false hn] at h
    exact absurd h (by decide)
  induction x using EReal.rec with
  | bot => exact absurd h' (by simp)
  | top => exact absurd h' (by simp)
  | coe a => exact ⟨a, rfl⟩

instance : Subsingleton S_.Idx := ⟨fun _ _ => funext fun a => a.elim0⟩

/-- An array of two axes, all of whose elements lie below infinity, is a real matrix. -/
theorem matrix {a b : ℕ} (x : (⟨2, ![a, b]⟩ : Shape).Idx → EReal) (c : (⟨2, ![a, b]⟩ : Shape).Idx → EReal) (i0 : S_.Idx → BitVec 1)
    (hr : (⟨2, ![a, b]⟩ : Shape).ReducesTo [0, 1] S_) (hu : 0 < S_.numel) (hc : ∀ i, c i = ⊤) (j : S_.Idx)
    (h : Host.reduce IntOp.andi (fun i => Ideal.cmp .olt (max (x i) (-x i)) (c i)) i0 hr hu j = 1#1) :
    ∃ A : Fin a → Fin b → ℝ, x = up2 A := by
  have e : ∀ i, ∃ r : ℝ, x i = (r : EReal) := fun i => real_of_lt (by
    have := Host.reduce_andi_all _ _ hr hu j h i
    rwa [hc i] at this)
  choose f hf using e
  refine ⟨fun r c => f (ix2 r c), funext fun i => ?_⟩
  rw [hf i, up2]
  exact congrArg (fun k => ((f k : ℝ) : EReal)) (eq_ix2 i)

theorem finite_real [Cert.Pre_finite.Facts] (x0 x1 : S8192x1024.Idx → EReal) (x2 : S1x1024.Idx → EReal) (x3 x4 x5 : S2816x1024.Idx → EReal)
    (h : Cert.Pre_finite.fn (F := Ideal) x0 x1 x2 x3 x4 x5 = fun _ => 1#1) :
    (∃ D, x0 = up2 D) ∧ (∃ H, x1 = up2 H) ∧ (∃ G, x2 = up2 G) ∧ (∃ P, x3 = up2 P) ∧ (∃ Q, x4 = up2 Q) ∧ ∃ W, x5 = up2 W := by
  have h := congrFun h (Shape.Idx.first Facts.h_S_)
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨matrix x0 _ _ _ _ (fun _ => lit_inf) _ h0, matrix x1 _ _ _ _ (fun _ => lit_inf) _ h1,
    matrix x2 _ _ _ _ (fun _ => lit_inf) _ h2, matrix x3 _ _ _ _ (fun _ => lit_inf) _ h3,
    matrix x4 _ _ _ _ (fun _ => lit_inf) _ h4, matrix x5 _ _ _ _ (fun _ => lit_inf) _ h5⟩

end Cert.Ffn.Pre
-- ==== Proof.FfnClaim.lean ====
/-
  The network gradient's value claim: the kernel's run and the reference's run end with the same five arrays.
-/
module

public import proofs.«01_k».proof.Defs
public import proofs.«01_k».proof.Proof.FfnArray
public import proofs.«01_k».proof.Proof.FfnPre
public import proofs.«01_k».proof.Proof.FfnReference

@[expose] public section

noncomputable section

namespace Cert.FfnClaim

open Idealize.ShloMosaic Idealize.ShloMosaic.TcCoe Idealize.SL.Sem
open Cert.Ffn (up2 dF dP dIn dGain)
open Cert.Ffn.Reference (back8192)
open Cert.FfnArray (Holds facA facB)

/-- Where the precondition holds, the arguments hold real numbers. -/
theorem holds [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) : ∃ D H G P Q W, Holds m c D H G P Q W := by
  obtain ⟨⟨D, hD⟩, ⟨H, hH⟩, ⟨G, hG⟩, ⟨P, hP⟩, ⟨Q, hQ⟩, W, hW⟩ := Cert.Ffn.Pre.finite_real _ _ _ _ _ _ (h c)
  exact ⟨D, H, G, P, Q, W, ⟨hD, hH, hG, hP, hQ, hW⟩⟩

theorem algebraic [hfinite : Cert.Pre_finite.Facts] : Cert.algebraic_KernelIdeal_ReferenceIdeal_pre_finite := by
  intro m g m' g' hpre hagree
  choose D H G P Q W hm using holds m hpre
  refine ⟨fun c => up2 (dIn (D c) (H c) (back8192 (D c) (H c) (G c) (P c) (Q c) (W c)) (G c)),
    fun c => up2 (dP (D c) (W c) (facA (H c) (G c) (P c) (Q c))),
    fun c => up2 (dP (D c) (W c) (facB (H c) (G c) (P c))),
    fun c => up2 (dF (D c)),
    fun c => up2 fun _ f => dGain (H c) (back8192 (D c) (H c) (G c) (P c) (Q c) (W c)) f, ?_, ?_⟩
  · refine (θ_run Cert.KernelIdeal.defs _ _).mono (fun r h c => ?_) (Cert.KernelIdeal.Value.run_blocks (F := Ideal) m g)
    obtain ⟨h5, h6, h7, h8, h9, hargs⟩ := h c
    exact ⟨h5.trans (Cert.FfnArray.array_entry (hm c)), h6.trans (Cert.FfnArray.array_gate (hm c)),
      h7.trans (Cert.FfnArray.array_up (hm c)), h8.trans (Cert.FfnArray.array_half (hm c)),
      h9.trans (Cert.FfnArray.array_gain (hm c)), hargs⟩
  · refine (θ_run Cert.ReferenceIdeal.defs _ _).mono (fun r h c => ?_) (Cert.ReferenceIdeal.Value.run (F := Ideal) m' g')
    obtain ⟨h0, h1, h2, h3, h4, hargs⟩ := h c
    obtain ⟨a0, a1, a2, a3, a4, a5⟩ := hagree c
    refine ⟨(h0.trans (Cert.ReferenceIdeal.Read.val_main_v57_eq m' c)).trans ?_,
      (h1.trans (Cert.ReferenceIdeal.Read.val_main_v84_eq m' c)).trans ?_,
      (h2.trans (Cert.ReferenceIdeal.Read.val_main_v85_eq _ _ _ _ _)).trans ?_,
      (h3.trans (Cert.ReferenceIdeal.Read.val_main_v86_eq _)).trans ?_,
      (h4.trans (Cert.ReferenceIdeal.Read.val_main_v40_eq m' c)).trans ?_, hargs⟩
    · rw [a0, a1, a2, a3, a4, a5, (hm c).grad, (hm c).rows, (hm c).gain, (hm c).gate, (hm c).upward, (hm c).down]
      exact funext fun i => Cert.Ffn.Reference.input _ _ _ _ _ _ i
    · rw [a0, a1, a2, a3, a4, a5, (hm c).grad, (hm c).rows, (hm c).gain, (hm c).gate, (hm c).upward, (hm c).down]
      exact funext fun i => Cert.Ffn.Reference.out_gate _ _ _ _ _ _ i
    · rw [a0, a1, a2, a3, a5, (hm c).grad, (hm c).rows, (hm c).gain, (hm c).gate, (hm c).down]
      exact funext fun i => Cert.Ffn.Reference.out_up _ _ _ _ _ i
    · rw [a0, (hm c).grad]
      exact funext fun i => Cert.Ffn.Reference.out_half _ i
    · rw [a0, a1, a2, a3, a4, a5, (hm c).grad, (hm c).rows, (hm c).gain, (hm c).gate, (hm c).upward, (hm c).down]
      exact funext fun i => Cert.Ffn.Reference.gain _ _ _ _ _ _ i

end Cert.FfnClaim

end
-- ==== Proof.Wgrad.lean ====
/-
  The weight gradient: what the kernel leaves in its result array is, element by element, the sum over the 8192 rows of
  a left column times a right column, and the reference's product is the same sum.
-/
module

public import proofs.«01_k».proof.Proof.Gen.Kernel2Ideal.Value
public import proofs.«01_k».proof.Proof.Gen.Reference2Ideal.Read
public import proofs.«01_k».proof.Proof.Products
public import Idealize.ShloMosaic.Lib.Pipeline.ValueKit

@[expose] public section

set_option maxRecDepth 16384

noncomputable section

namespace Cert.Wgrad

open Cert.Kernel2Ideal Cert.Kernel2Ideal.Gen Idealize.ShloMosaic Idealize.ShloMosaic.TcCoe Idealize.SL.Sem
open Idealize.ShloMosaic.Pipeline (Dat)

/-- The product of the transposed left array with the right one. -/
def wgrad (x : S8192x2816.Idx → EReal) (y : S8192x1024.Idx → EReal) : S2816x1024.Idx → EReal :=
  fun j => ∑ k : Fin 8192, x (ix2 k (j 0)) * y (ix2 k (j 1))

/-- One block of the product. -/
theorem pay_apply (v0 : Vec Ideal S8192x256 .bf16) (v1 : Vec Ideal S8192x1024 .bf16) (r : Fin 256) (c : Fin 1024) :
    k0_pay1 v0 v1 (ix2 r c) = ∑ k : Fin 8192, v0 (ix2 k r) * v1 (ix2 k c) := by
  refine (Products.matmul_tn (φ₁ := .bf16) (φ₂ := .bf16) _ none v0 v1 _ r c).trans ?_
  show Ideal.ofBits .f32 0x00000000#32 + _ = _
  rw [Ideal.ofBits_zero, zero_add]
  rfl

variable (m : (ℓ : Loc nD τ sig) → Buf (Elt Ideal) ℓ)

theorem idx : ∀ t : Fin cfg0.N, win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0])

/-- The result array after the run. -/
theorem array_eq (c : Dev nD) :
    (dats m 0 c).arrAt 2 cfg0.N = wgrad (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [show y = ix2 (y 0) (y 1) from eq_ix2 y]
  refine (pay_apply _ _ _ _).trans ?_
  unfold wgrad
  obtain ⟨e0, e1, e2⟩ := idx t
  refine Finset.sum_congr rfl fun k _ => ?_
  congr 1 <;> blk_ext [iblk, e0, e1, e2]

/-- The reference's result is the same product. -/
theorem reference_eq (x : S8192x2816.Idx → EReal) (y : S8192x1024.Idx → EReal) :
    Cert.Reference2Ideal.Read.val_main_v8 (F := Ideal) x y = wgrad x y := by
  funext j
  rw [Cert.Reference2Ideal.Read.val_main_v8_apply]
  show Cert.Reference2Ideal.Read.val_main_v7 (F := Ideal) x y j = _
  rw [Cert.Reference2Ideal.Read.val_main_v7_apply, Cert.Reference2Ideal.Read.val_main_v6_apply,
    Cert.Reference2Ideal.Read.val_main_v5_apply]
  unfold wgrad
  refine Finset.sum_congr rfl fun k _ => ?_
  rw [Cert.Reference2Ideal.Read.val_main_v1_apply, Cert.Reference2Ideal.Read.val_main_v0_apply]
  show x _ * y _ = _
  congr 1 <;> blk_ext

end Cert.Wgrad

end
-- ==== Proof.WgradClaim.lean ====
/-
  The weight gradient's value claim: the kernel's run and the reference's run end with the same product.
-/
module

public import proofs.«01_k».proof.Defs
public import proofs.«01_k».proof.Proof.Wgrad

@[expose] public section

noncomputable section

namespace Cert.Wgrad

open Idealize.ShloMosaic Idealize.ShloMosaic.TcCoe Idealize.SL.Sem

theorem algebraic : Cert.algebraic_Kernel2Ideal_Reference2Ideal := by
  intro m g m' g' _ hagree
  refine ⟨fun c => wgrad (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)), ?_, ?_⟩
  · exact (θ_run Cert.Kernel2Ideal.defs _ _).mono (fun r h c => ⟨(h c).1.trans (array_eq m c), (h c).2⟩)
      (Cert.Kernel2Ideal.Value.run_blocks (F := Ideal) m g)
  · refine (θ_run Cert.Reference2Ideal.defs _ _).mono (fun r h c => ⟨?_, (h c).2⟩)
      (Cert.Reference2Ideal.Value.run (F := Ideal) m' g')
    refine ((h c).1.trans (Cert.Reference2Ideal.Read.val_main_v8_eq _ _)).trans ?_
    rw [(hagree c).1, (hagree c).2]
    exact reference_eq _ _

end Cert.Wgrad

end
-- ==== Proof.ProjWgrad.lean ====
/-
  The gradients of the input projection's weight and bias: the weight's is, element by element, the sum over the 8192 rows
  of a left column times a right column, the bias's the sum of a left column; the reference's are the same sums.
-/
module

public import proofs.«01_k».proof.Defs
public import proofs.«01_k».proof.Proof.Gen.Kernel3Ideal.Value
public import proofs.«01_k».proof.Proof.Gen.Reference3Ideal.Read
public import proofs.«01_k».proof.Proof.Products
public import Idealize.ShloMosaic.Lib.Pointwise
public import Idealize.ShloMosaic.Lib.Pipeline.ValueKit

@[expose] public section

set_option maxRecDepth 16384

noncomputable section

namespace Cert.ProjWgrad

open Cert.Kernel3Ideal Cert.Kernel3Ideal.Gen Idealize.ShloMosaic Idealize.ShloMosaic.TcCoe Idealize.SL.Sem
open Idealize.ShloMosaic.Pipeline (Dat)

/-- The product of the transposed left array with the right one. -/
def wgrad (x : S8192x5120.Idx → EReal) (y : S8192x1024.Idx → EReal) : S5120x1024.Idx → EReal :=
  fun j => ∑ k : Fin 8192, x (ix2 k (j 0)) * y (ix2 k (j 1))

/-- The sums of the left array's columns. -/
def colsum (x : S8192x5120.Idx → EReal) : S1x5120.Idx → EReal := fun j => ∑ k : Fin 8192, x (ix2 k (j 1))

/-- One block of the product. -/
theorem pay_apply (v0 : Vec Ideal S8192x256 .bf16) (v1 : Vec Ideal S8192x1024 .bf16) (r : Fin 256) (c : Fin 1024) :
    k0_pay1 v0 v1 (ix2 r c) = ∑ k : Fin 8192, v0 (ix2 k r) * v1 (ix2 k c) := by
  refine (Products.matmul_tn (φ₁ := .bf16) (φ₂ := .bf16) _ none v0 v1 _ r c).trans ?_
  show Ideal.ofBits .f32 0x00000000#32 + _ = _
  rw [Ideal.ofBits_zero, zero_add]
  rfl

/-- One block of the column sums. -/
theorem sum_apply (v : Vec Ideal S8192x256 .bf16) (r : Fin 1) (c : Fin 256) :
    k0_pay2 v (ix2 r c) = ∑ k : Fin 8192, v (ix2 k c) := by
  pointwise [k0_pay2]

variable (m : (ℓ : Loc nD τ sig) → Buf (Elt Ideal) ℓ)

theorem idx : ∀ t : Fin cfg0.N, win0_0.index t = ![0, t.val] ∧ win0_1.index t = ![0, 0] ∧ win0_2.index t = ![t.val, 0]
    ∧ win0_3.index t = ![0, t.val] :=
  (by decide +kernel : ∀ t : Fin grid0.N, win0_0.index t = ![0, t.val] ∧ win0_1.index t = ![0, 0] ∧ win0_2.index t = ![t.val, 0]
    ∧ win0_3.index t = ![0, t.val])

/-- The weight's gradient after the run. -/
theorem array_weight (c : Dev nD) :
    (dats m 0 c).arrAt 2 cfg0.N = wgrad (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [show y = ix2 (y 0) (y 1) from eq_ix2 y]
  refine (pay_apply _ _ _ _).trans ?_
  unfold wgrad
  obtain ⟨e0, e1, e2, -⟩ := idx t
  refine Finset.sum_congr rfl fun k _ => ?_
  congr 1 <;> blk_ext [iblk, e0, e1, e2]

/-- The bias's gradient after the run. -/
theorem array_bias (c : Dev nD) :
    (dats m 0 c).arrAt 3 cfg0.N = colsum (m ((c : Thread nD τ).loc main_arg0)) := by
  refine (dats m 0 c).arrAt_eq_of_covers 3 _ (by decide +kernel) fun t hf y => ?_
  blk_simp
  rw [after0_3]
  frame_out
  rw [show y = ix2 (y 0) (y 1) from eq_ix2 y]
  refine (sum_apply _ _ _).trans ?_
  unfold colsum
  obtain ⟨e0, -, -, e3⟩ := idx t
  refine Finset.sum_congr rfl fun k _ => ?_
  blk_ext [iblk, e0, e3]

/-- The reference's weight gradient is the same product. -/
theorem reference_weight (x : S8192x5120.Idx → EReal) (y : S8192x1024.Idx → EReal) :
    Cert.Reference3Ideal.Read.val_main_v13 (F := Ideal) x y = wgrad x y := by
  funext j
  rw [Cert.Reference3Ideal.Read.val_main_v13_apply]
  show Cert.Reference3Ideal.Read.val_main_v12 (F := Ideal) x y j = _
  rw [Cert.Reference3Ideal.Read.val_main_v12_apply, Cert.Reference3Ideal.Read.val_main_v11_apply,
    Cert.Reference3Ideal.Read.val_main_v10_apply]
  unfold wgrad
  refine Finset.sum_congr rfl fun k _ => ?_
  rw [Cert.Reference3Ideal.Read.val_main_v7_apply, Cert.Reference3Ideal.Read.val_main_v0_apply]
  show x _ * y _ = _
  congr 1 <;> blk_ext

/-- The reference's bias gradient is the same sum. -/
theorem reference_bias (x : S8192x5120.Idx → EReal) : Cert.Reference3Ideal.Read.val_main_v9 (F := Ideal) x = colsum x := by
  funext j
  rw [Cert.Reference3Ideal.Read.val_main_v9_apply, Cert.Reference3Ideal.Read.val_main_v8_apply]
  show Ideal.ofBits .f32 0x00000000#32 + _ = _
  rw [Ideal.ofBits_zero, zero_add]
  unfold colsum
  refine Finset.sum_congr rfl fun k _ => ?_
  rw [Cert.Reference3Ideal.Read.val_main_v7_apply]
  show x _ = x _
  refine congrArg x (funext fun a => Fin.ext ?_)
  have h0 : (j 0).val < 1 := (j 0).isLt
  have h1 : (j 1).val < 5120 := (j 1).isLt
  match a with
  | ⟨0, _⟩ => rfl
  | ⟨1, _⟩ => show (j 0).val * 5120 + (j 1).val = (j 1).val; omega

theorem algebraic : Cert.algebraic_Kernel3Ideal_Reference3Ideal := by
  intro m g m' g' _ hagree
  refine ⟨fun c => wgrad (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)),
    fun c => colsum (m ((c.tc : Thread Cert.Kernel3Ideal.nD Cert.Kernel3Ideal.τ).loc Cert.Kernel3Ideal.main_arg0)), ?_, ?_⟩
  · exact (θ_run Cert.Kernel3Ideal.defs _ _).mono
      (fun r h c => ⟨(h c).1.trans (array_weight m c), (h c).2.1.trans (array_bias m c), (h c).2.2⟩)
      (Cert.Kernel3Ideal.Value.run_blocks (F := Ideal) m g)
  · refine (θ_run Cert.Reference3Ideal.defs _ _).mono (fun r h c => ⟨?_, ?_, (h c).2.2⟩)
      (Cert.Reference3Ideal.Value.run (F := Ideal) m' g')
    · refine ((h c).1.trans (Cert.Reference3Ideal.Read.val_main_v13_eq _ _)).trans ?_
      rw [(hagree c).1, (hagree c).2]
      exact reference_weight _ _
    · refine ((h c).2.1.trans (Cert.Reference3Ideal.Read.val_main_v9_eq _)).trans ?_
      rw [(hagree c).1]
      exact reference_bias _

end Cert.ProjWgrad

end
-- ==== Proof.ProjReference.lean ====
/-
  The results of the input projection's reference, at arguments whose elements are real numbers, as real functions.
-/
module

public import proofs.«01_k».proof.Proof.Gen.Reference4Ideal.Read
public import proofs.«01_k».proof.Proof.FfnReal

@[expose] public section

set_option maxRecDepth 16384

noncomputable section

namespace Cert.Proj

open Cert.Ffn

/-- The gradient of the normalised rows: rows of the projection's gradient times the columns of the weight. -/
def pull {R : ℕ} (Z : Fin R → Fin 5120 → ℝ) (P : Fin 5120 → Fin 1024 → ℝ) (r : Fin R) (c : Fin 1024) : ℝ := ∑ f, Z r f * P f c

end Cert.Proj

namespace Cert.Proj.Reference

open Cert.Reference4Ideal Cert.Reference4Ideal.Gen Cert.Reference4Ideal.Value Cert.Reference4Ideal.Read Idealize.ShloMosaic
open Cert.Ffn

variable (Z : Fin 8192 → Fin 5120 → ℝ) (D H : Fin 8192 → Fin 1024 → ℝ) (G : Fin 1 → Fin 1024 → ℝ) (P : Fin 5120 → Fin 1024 → ℝ)

/-! ## The normalised rows -/

theorem mean_square (i : S8192x1.Idx) : val_main_v8 (F := Ideal) (up2 H) i = ((ms H (i 0) : ℝ) : EReal) := by
  rw [val_main_v8_apply, val_main_v6_apply, val_main_v4_apply, val_main_v3_apply]
  refine add_real (hostDiv_real (by norm_num) (zero_sum_real lit_zero _ _ fun k => ?_) ?_) ?_
  · exact mul_real rfl rfl
  · rw [val_main_v5_apply]; exact lit_width
  · rw [val_main_v7_apply]; exact lit_eps

theorem factor (i : S8192x1.Idx) : val_main_v9 (F := Ideal) (up2 H) i = ((rs H (i 0) : ℝ) : EReal) := by
  rw [val_main_v9_apply, mean_square]; exact rsqrt_ms H _

theorem slope (i : S8192x1.Idx) :
    val_main_v12 (F := Ideal) (up2 H) i = ((-(1 / 2) * (rs H (i 0) / ms H (i 0)) : ℝ) : EReal) := by
  rw [val_main_v12_apply, val_main_v10_apply]
  refine mul_real ?_ (hostDiv_real (ms_pos H _).ne' (factor H i) (mean_square H i))
  rw [val_main_v11_apply]; exact lit_neg_half

theorem normal (i : S8192x1024.Idx) : val_main_v14 (F := Ideal) (up2 H) i = ((hn H (i 0) (i 1) : ℝ) : EReal) := by
  rw [val_main_v14_apply, val_main_v13_apply]; exact mul_real rfl (factor H _)

/-! ## The gradient of the normalised rows -/

theorem turned (i : S1024x5120.Idx) : val_main_v1 (F := Ideal) (up2 P) i = ((P (i 1) (i 0) : ℝ) : EReal) := by
  rw [val_main_v1_apply]; rfl

theorem grad_normed (i : S8192x1024.Idx) :
    val_main_v19 (F := Ideal) (up2 Z) (up2 P) i = ((pull Z P (i 0) (i 1) : ℝ) : EReal) := by
  rw [val_main_v19_apply]
  exact sum_real _ _ fun k => prod_real rfl (turned P _)

/-! ## The results -/

theorem gain (i : S1x1024.Idx) :
    val_main_v22 (F := Ideal) (up2 Z) (up2 H) (up2 P) i = ((dGain H (pull Z P) (i 1) : ℝ) : EReal) := by
  have e : idx_main_v22 i = fun a => match a with | ⟨0, _⟩ => ⟨(i 1).val, (i 1).isLt⟩ := funext fun a => match a with
    | ⟨0, _⟩ => Fin.ext (by have h : (i 0).val < 1 := (i 0).isLt; show (i 0).val * 1024 + (i 1).val = (i 1).val; omega)
  rw [val_main_v22_apply, e, val_main_v21_apply]
  refine zero_sum_real lit_zero _ _ fun k => ?_
  rw [val_main_v20_apply]
  exact real_of_eq (mul_real (normal H _) (grad_normed Z P _)) (mul_comm _ _)

theorem scaled (i : S8192x1024.Idx) :
    val_main_v24 (F := Ideal) (up2 Z) (up2 G) (up2 P) i = ((pull Z P (i 0) (i 1) * G 0 (i 1) : ℝ) : EReal) := by
  rw [val_main_v24_apply, val_main_v23_apply]; exact mul_real (grad_normed Z P i) rfl

/-- The sum over a row that reaches the row's mean square. -/
theorem gathered (j : S8192x1.Idx) :
    val_main_v27 (F := Ideal) (up2 Z) (up2 H) (up2 G) (up2 P) j = ((∑ k, H (j 0) k * (pull Z P (j 0) k * G 0 k) : ℝ) : EReal) := by
  have e : idx_main_v27 j = fun a => match a with | ⟨0, _⟩ => ⟨(j 0).val, (j 0).isLt⟩ := funext fun a => match a with
    | ⟨0, _⟩ => Fin.ext (by have h : (j 1).val < 1 := (j 1).isLt; show (j 0).val * 1 + (j 1).val = (j 0).val; omega)
  rw [val_main_v27_apply, e, val_main_v26_apply]
  refine zero_sum_real lit_zero _ _ fun k => ?_
  rw [val_main_v25_apply]; exact mul_real rfl (scaled Z G P _)

/-- What reaches the mean square of a row, spread over the row. -/
theorem spread (i : S8192x1024.Idx) :
    val_main_v35 (F := Ideal) (up2 Z) (up2 H) (up2 G) (up2 P) i
      = (((∑ k, H (i 0) k * (pull Z P (i 0) k * G 0 k)) * (-(1 / 2) * (rs H (i 0) / ms H (i 0))) / 1024 : ℝ) : EReal) := by
  rw [val_main_v35_apply, val_main_v34_apply]
  refine (zero_sum_real lit_zero _ (fun _ => (∑ k, H (i 0) k * (pull Z P (i 0) k * G 0 k)) * (-(1 / 2) * (rs H (i 0) / ms H (i 0))) / 1024) fun k => ?_).trans ?_
  · rw [val_main_v33_apply, val_main_v31_apply]
    refine hostDiv_real (by norm_num) (mul_real (gathered Z H G P _) (slope H _)) ?_
    rw [val_main_v32_apply]; exact lit_width
  · rw [Fin.sum_univ_one]

theorem input (i : S8192x1024.Idx) :
    val_main_v39 (F := Ideal) (up2 Z) (up2 D) (up2 H) (up2 G) (up2 P) i = ((dIn D H (pull Z P) G (i 0) (i 1) : ℝ) : EReal) := by
  rw [val_main_v39_apply, val_main_v37_apply, val_main_v30_apply, val_main_v29_apply, val_main_v28_apply, val_main_v36_apply,
    val_main_v38_apply]
  exact real_of_eq (add_real (add_real (add_real rfl (mul_real (scaled Z G P i) (factor H _)))
    (mul_real rfl (spread Z H G P i))) (mul_real (spread Z H G P i) rfl))
    ((add_assoc _ _ _).trans (dIn_chain D H (pull Z P) G (i 0) (i 1)))

end Cert.Proj.Reference
-- ==== Proof.ProjPay.lean ====
/-
  The values of the input projection's backward body at one row tile, at operands whose elements are real numbers, as the
  real functions of the gradient.
-/
module

public import proofs.«01_k».proof.Proof.Gen.Kernel4Ideal.Value
public import proofs.«01_k».proof.Proof.FfnPay
public import proofs.«01_k».proof.Proof.ProjReference
public import Idealize.ShloMosaic.Lib.Pointwise
public import Idealize.ShloMosaic.Lib.MatmulPlain
public import Idealize.ShloMosaic.Lib.Pipeline.ValueKit

@[expose] public section

set_option maxRecDepth 16384

noncomputable section

namespace Cert.Proj.Pay

open Cert.Kernel4Ideal Cert.Kernel4Ideal.Gen Idealize.ShloMosaic
open Cert.Ffn
open Cert.Ffn.Pay (ext2)

/-- Rows times the columns of a weight, from the zero array. -/
theorem rows_cols (A : Fin 512 → Fin 1024 → ℝ) (B : Fin 1024 → Fin 1024 → ℝ) (r : Fin 512) (c : Fin 1024) :
    FloatOps.matmul (F := Ideal) (φ₁ := .bf16) (φ₂ := .bf16) (DotDims.plain 512 1024 1024) none (up2 A) (up2 B) (fun _ => Ideal.ofBits .f32 0x00000000#32) (ix2 r c)
      = ((∑ f, A r f * B f c : ℝ) : EReal) := by
  refine (Ideal.matmul_plain_apply (φ₁ := .bf16) (φ₂ := .bf16) none (up2 A) (up2 B) _ r c).trans ?_
  exact zero_sum_real lit_zero _ _ fun k => prod_real rfl rfl

/-! ## The chunks -/

/-- The rows of the weight in each chunk. -/
abbrev w1 (X : Vec Ideal S5120x1024 .bf16) : Vec Ideal S1024x1024 .bf16 := View.ld (Val := Elt Ideal) (e' := .bf16) X (Rect.unit (s := S5120x1024) ![0, 0] ![1024, 1024] inb_S5120x1024_S1024x1024_0_0)
abbrev w2 (X : Vec Ideal S5120x1024 .bf16) : Vec Ideal S1024x1024 .bf16 := View.ld (Val := Elt Ideal) (e' := .bf16) X (Rect.unit (s := S5120x1024) ![1024, 0] ![1024, 1024] inb_S5120x1024_S1024x1024_1024_0)
abbrev w3 (X : Vec Ideal S5120x1024 .bf16) : Vec Ideal S1024x1024 .bf16 := View.ld (Val := Elt Ideal) (e' := .bf16) X (Rect.unit (s := S5120x1024) ![2048, 0] ![1024, 1024] inb_S5120x1024_S1024x1024_2048_0)
abbrev w4 (X : Vec Ideal S5120x1024 .bf16) : Vec Ideal S1024x1024 .bf16 := View.ld (Val := Elt Ideal) (e' := .bf16) X (Rect.unit (s := S5120x1024) ![3072, 0] ![1024, 1024] inb_S5120x1024_S1024x1024_3072_0)
abbrev w5 (X : Vec Ideal S5120x1024 .bf16) : Vec Ideal S1024x1024 .bf16 := View.ld (Val := Elt Ideal) (e' := .bf16) X (Rect.unit (s := S5120x1024) ![4096, 0] ![1024, 1024] inb_S5120x1024_S1024x1024_4096_0)

/-- The columns of the projection's gradient in each chunk. -/
abbrev a1 (X : Vec Ideal S512x5120 .bf16) : Vec Ideal S512x1024 .bf16 := View.ld (Val := Elt Ideal) (e' := .bf16) X (Rect.unit (s := S512x5120) ![0, 0] ![512, 1024] inb_S512x5120_S512x1024_0_0)
abbrev a2 (X : Vec Ideal S512x5120 .bf16) : Vec Ideal S512x1024 .bf16 := View.ld (Val := Elt Ideal) (e' := .bf16) X (Rect.unit (s := S512x5120) ![0, 1024] ![512, 1024] inb_S512x5120_S512x1024_0_1024)
abbrev a3 (X : Vec Ideal S512x5120 .bf16) : Vec Ideal S512x1024 .bf16 := View.ld (Val := Elt Ideal) (e' := .bf16) X (Rect.unit (s := S512x5120) ![0, 2048] ![512, 1024] inb_S512x5120_S512x1024_0_2048)
abbrev a4 (X : Vec Ideal S512x5120 .bf16) : Vec Ideal S512x1024 .bf16 := View.ld (Val := Elt Ideal) (e' := .bf16) X (Rect.unit (s := S512x5120) ![0, 3072] ![512, 1024] inb_S512x5120_S512x1024_0_3072)
abbrev a5 (X : Vec Ideal S512x5120 .bf16) : Vec Ideal S512x1024 .bf16 := View.ld (Val := Elt Ideal) (e' := .bf16) X (Rect.unit (s := S512x5120) ![0, 4096] ![512, 1024] inb_S512x5120_S512x1024_0_4096)

/-- The real numbers in the chunk that begins at `o`. -/
def pr (o : ℕ) (ho : o + 1024 ≤ 5120) (P : Fin 5120 → Fin 1024 → ℝ) (f c : Fin 1024) : ℝ := P ⟨o + f.val, by omega⟩ c
def zr (o : ℕ) (ho : o + 1024 ≤ 5120) (Z : Fin 512 → Fin 5120 → ℝ) (r : Fin 512) (f : Fin 1024) : ℝ := Z r ⟨o + f.val, by omega⟩

variable (Z : Fin 512 → Fin 5120 → ℝ) (P : Fin 5120 → Fin 1024 → ℝ)

theorem w1_real : w1 (up2 P) = up2 (pr 0 (by omega) P) := ext2 fun f c =>
  View.ld_unit_apply_of (Val := Elt Ideal) (S := S5120x1024) (e := .bf16) (up2 P) ![0, 0] ![1024, 1024] inb_S5120x1024_S1024x1024_0_0 (ix2 f c)
    (ix2 ⟨0 + f.val, by omega⟩ c) fun a => by fin_cases a <;> simp
theorem w2_real : w2 (up2 P) = up2 (pr 1024 (by omega) P) := ext2 fun f c =>
  View.ld_unit_apply_of (Val := Elt Ideal) (S := S5120x1024) (e := .bf16) (up2 P) ![1024, 0] ![1024, 1024] inb_S5120x1024_S1024x1024_1024_0 (ix2 f c)
    (ix2 ⟨1024 + f.val, by omega⟩ c) fun a => by fin_cases a <;> simp
theorem w3_real : w3 (up2 P) = up2 (pr 2048 (by omega) P) := ext2 fun f c =>
  View.ld_unit_apply_of (Val := Elt Ideal) (S := S5120x1024) (e := .bf16) (up2 P) ![2048, 0] ![1024, 1024] inb_S5120x1024_S1024x1024_2048_0 (ix2 f c)
    (ix2 ⟨2048 + f.val, by omega⟩ c) fun a => by fin_cases a <;> simp
theorem w4_real : w4 (up2 P) = up2 (pr 3072 (by omega) P) := ext2 fun f c =>
  View.ld_unit_apply_of (Val := Elt Ideal) (S := S5120x1024) (e := .bf16) (up2 P) ![3072, 0] ![1024, 1024] inb_S5120x1024_S1024x1024_3072_0 (ix2 f c)
    (ix2 ⟨3072 + f.val, by omega⟩ c) fun a => by fin_cases a <;> simp
theorem w5_real : w5 (up2 P) = up2 (pr 4096 (by omega) P) := ext2 fun f c =>
  View.ld_unit_apply_of (Val := Elt Ideal) (S := S5120x1024) (e := .bf16) (up2 P) ![4096, 0] ![1024, 1024] inb_S5120x1024_S1024x1024_4096_0 (ix2 f c)
    (ix2 ⟨4096 + f.val, by omega⟩ c) fun a => by fin_cases a <;> simp
theorem a1_real : a1 (up2 Z) = up2 (zr 0 (by omega) Z) := ext2 fun r f =>
  View.ld_unit_apply_of (Val := Elt Ideal) (S := S512x5120) (e := .bf16) (up2 Z) ![0, 0] ![512, 1024] inb_S512x5120_S512x1024_0_0 (ix2 r f)
    (ix2 r ⟨0 + f.val, by omega⟩) fun a => by fin_cases a <;> simp
theorem a2_real : a2 (up2 Z) = up2 (zr 1024 (by omega) Z) := ext2 fun r f =>
  View.ld_unit_apply_of (Val := Elt Ideal) (S := S512x5120) (e := .bf16) (up2 Z) ![0, 1024] ![512, 1024] inb_S512x5120_S512x1024_0_1024 (ix2 r f)
    (ix2 r ⟨1024 + f.val, by omega⟩) fun a => by fin_cases a <;> simp
theorem a3_real : a3 (up2 Z) = up2 (zr 2048 (by omega) Z) := ext2 fun r f =>
  View.ld_unit_apply_of (Val := Elt Ideal) (S := S512x5120) (e := .bf16) (up2 Z) ![0, 2048] ![512, 1024] inb_S512x5120_S512x1024_0_2048 (ix2 r f)
    (ix2 r ⟨2048 + f.val, by omega⟩) fun a => by fin_cases a <;> simp
theorem a4_real : a4 (up2 Z) = up2 (zr 3072 (by omega) Z) := ext2 fun r f =>
  View.ld_unit_apply_of (Val := Elt Ideal) (S := S512x5120) (e := .bf16) (up2 Z) ![0, 3072] ![512, 1024] inb_S512x5120_S512x1024_0_3072 (ix2 r f)
    (ix2 r ⟨3072 + f.val, by omega⟩) fun a => by fin_cases a <;> simp
theorem a5_real : a5 (up2 Z) = up2 (zr 4096 (by omega) Z) := ext2 fun r f =>
  View.ld_unit_apply_of (Val := Elt Ideal) (S := S512x5120) (e := .bf16) (up2 Z) ![0, 4096] ![512, 1024] inb_S512x5120_S512x1024_0_4096 (ix2 r f)
    (ix2 r ⟨4096 + f.val, by omega⟩) fun a => by fin_cases a <;> simp

/-- A sum over the projection's columns in the five chunks in which the kernel takes it. -/
theorem sum_chunks (f : Fin 5120 → ℝ) :
    ∑ k, f k = (∑ k : Fin 1024, f ⟨0 + k.val, by omega⟩) + (∑ k : Fin 1024, f ⟨1024 + k.val, by omega⟩)
      + (∑ k : Fin 1024, f ⟨2048 + k.val, by omega⟩) + (∑ k : Fin 1024, f ⟨3072 + k.val, by omega⟩)
      + ∑ k : Fin 1024, f ⟨4096 + k.val, by omega⟩ := by
  rw [← finProdFinEquiv.sum_comp (fun r : Fin (5 * 1024) => f r), Fintype.sum_prod_type, Fin.sum_univ_five]
  have e (o : ℕ) (ho : o + 1024 ≤ 5120) (q : Fin 5) (hq : o = 1024 * q.val) :
      ∑ k : Fin 1024, f (finProdFinEquiv (q, k) : Fin (5 * 1024)) = ∑ k : Fin 1024, f ⟨o + k.val, by omega⟩ :=
    Finset.sum_congr rfl fun k _ => congrArg f (Fin.ext (by simp [finProdFinEquiv]; omega))
  rw [e 0 (by omega) 0 rfl, e 1024 (by omega) 1 rfl, e 2048 (by omega) 2 rfl, e 3072 (by omega) 3 rfl, e 4096 (by omega) 4 rfl]

/-- The gradient of the normalised rows, as the body makes it. -/
abbrev all (x : Vec Ideal S512x5120 .bf16) (p : Vec Ideal S5120x1024 .bf16) : Vec Ideal S512x1024 .f32 :=
  k0_pay6 (F := Ideal) (a1 x) (w1 p) (a2 x) (w2 p) (a3 x) (w3 p) (a4 x) (w4 p) (a5 x) (w5 p)

theorem all_real : all (up2 Z) (up2 P) = up2 (pull Z P) := by
  unfold all
  rw [w1_real, w2_real, w3_real, w4_real, w5_real, a1_real, a2_real, a3_real, a4_real, a5_real]
  refine ext2 fun r c => real_of_eq (add_real (add_real (add_real (add_real (add_real lit_zero (rows_cols _ _ r c))
    (rows_cols _ _ r c)) (rows_cols _ _ r c)) (rows_cols _ _ r c)) (rows_cols _ _ r c)) ?_
  unfold pull
  rw [sum_chunks, zero_add]
  rfl

/-! ## The rows' factors -/

variable (D H N : Fin 512 → Fin 1024 → ℝ) (G : Fin 1 → Fin 1024 → ℝ)

theorem factor : k0_pay1 (F := Ideal) (k0_pay7 (F := Ideal) (up2 H)) = up2 fun r (_ : Fin 1) => rs H r := ext2 fun r c => by
  refine Eq.trans ?_ (rsqrt_ms H r)
  pointwise [k0_pay1, k0_pay7]
  exact congrArg Ideal.rsqrt (add_real (φ := .f32) (quot_real (φ := .f32) (by norm_num)
    (sum_real _ (fun k => H r k * H r k) fun k => (EReal.coe_mul _ _).symm) lit_width) lit_eps)

theorem normal : k0_pay2 (F := Ideal) (up2 H) (k0_pay7 (F := Ideal) (up2 H)) = up2 (hn H) := by
  unfold k0_pay2
  rw [factor]
  refine ext2 fun r c => mul_real rfl ?_
  pointwise
  rfl

/-- The gain's gradient: what the tiles before left, plus this tile's column sums. -/
theorem gain_step (S : Fin 1 → Fin 1024 → ℝ) :
    k0_pay3 (F := Ideal) (up2 N) (up2 H) (k0_pay7 (F := Ideal) (up2 H)) (up2 S) = up2 fun z c => S z c + dGain H N c := by
  unfold k0_pay3
  rw [normal]
  refine ext2 fun r c => add_real (by rw [shapeCast_self]; rfl) ?_
  pointwise
  exact sum_real _ _ fun k => (EReal.coe_mul _ _).symm

/-- The gradient of the rows that entered the norm. -/
theorem entry : k0_pay4 (F := Ideal) (up2 N) (up2 H) (k0_pay7 (F := Ideal) (up2 H)) (up2 G) (up2 D) = up2 (dIn D H N G) := by
  unfold k0_pay4
  rw [normal, factor]
  have w (r : Fin 512) (c : Fin 1024) : mulf (F := Ideal) (φ := .f32) (up2 N) (broadcastTo S512x1024 (up2 G : FVec Ideal S1x1024 .f32) broadcasts_S1x1024_S512x1024) (ix2 r c)
      = ((N r c * G 0 c : ℝ) : EReal) := by
    refine mul_real rfl ?_
    pointwise
    rfl
  refine ext2 fun r c => ?_
  refine real_of_eq (add_real rfl (mul_real (a := rs H r) ?_ (sub_real (w r c) (mul_real rfl
    (b := (∑ k, N r k * G 0 k * hn H r k) / 1024) ?_)))) rfl
  · pointwise
    rfl
  · pointwise
    exact quot_real (φ := .f32) (by norm_num) (sum_real _ _ fun k => mul_real (φ := .f32) (mul_real (φ := .f32) rfl rfl) rfl) lit_width

end Cert.Proj.Pay
-- ==== Proof.ProjArray.lean ====
/-
  The arrays after the input projection's backward call has run over its 16 row tiles.
-/
module

public import proofs.«01_k».proof.Proof.ProjPay
public import Idealize.ShloMosaic.Lib.Pipeline.ValueKit
public import Idealize.ShloMosaic.Lib.Pipeline.ReadBack

@[expose] public section

set_option maxRecDepth 16384
set_option maxHeartbeats 1600000

noncomputable section

namespace Cert.ProjArray

open Cert.Kernel4Ideal Cert.Kernel4Ideal.Gen Idealize.ShloMosaic Idealize.ShloMosaic.TcCoe Idealize.SL.Sem
open Idealize.ShloMosaic.Pipeline (Dat)
open Cert.Ffn (up2 dIn dGain hn)
open Cert.Ffn.Pay (ext2)
open Cert.Proj (pull)
open Cert.Proj.Pay (all all_real)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] :=
  (by decide +kernel : ∀ t : Fin grid0.N, win0_0.index t = ![t.val, 0] ∧ win0_1.index t = ![t.val, 0] ∧ win0_2.index t = ![t.val, 0]
    ∧ win0_3.index t = ![0, 0] ∧ win0_4.index t = ![t.val, 0])

/-- The rows of one tile. -/
def rows {k : ℕ} (t : Fin 16) (X : Fin 8192 → Fin k → ℝ) (r : Fin 512) (f : Fin k) : ℝ := X ⟨512 * t.val + r.val, by omega⟩ f

variable (m : (ℓ : Loc nD τ Cert.Kernel4Ideal.sig) → Buf (Elt Ideal) ℓ) (c : Dev nD)

/-! ## The weight stays in the scratch -/

theorem kept (n : ℕ) (hn : n < cfg0.N) : (outsAt0 m c n hn).2.2 = m ((c : Thread nD τ).loc main_arg4) := by
  induction n with
  | zero =>
    rw [outsAt0_A m c ⟨0, hn⟩ rfl]
    frame_out
    refine (View.canon_unit_zero (S := S5120x1024) (off := fun _ => 0) rfl _ _).trans ?_
    exact V_main_arg4 m c
  | succ n ih =>
    rw [outsAt0_B m c ⟨n + 1, hn⟩ (by show ¬ (n + 1) % 16 = 0; have : n + 1 < 16 := hn; omega)]
    dsimp only
    unfold sout0_B_0
    exact ih (by omega)

/-- A load from a scratch that was stored whole. -/
theorem loaded {κ : Kind} {sp : Space} (v : View Cert.Kernel4Ideal.sig κ sp S5120x1024 .bf16) (X : Vec Ideal S5120x1024 .bf16) (r : Rect S5120x1024) :
    v.readCov (Val := Elt Ideal) [(⟨Rect.whole S5120x1024, X⟩ : View.Piece (Elt Ideal) S5120x1024 .bf16)] r.toLoadRect = View.ld X r := by
  rw [View.readCov_eq_canon_ld _ _ _ (fun y => ⟨_, List.mem_singleton_self _, by
    show y ∈ (Rect.whole S5120x1024).set; rw [Rect.set_whole]; exact Finset.mem_univ y⟩)]
  exact congrArg (fun Y => View.ld Y r) (View.canon_unit_zero (S := S5120x1024) (off := fun _ => 0) rfl _ _)

/-! ## What a tile leaves, over its blocks -/

section
variable (t : Fin cfg0.N)

theorem leaves_entry : (outsAt0 m c t.val t.isLt).1 = (fun z d h g p => k0_pay4 (F := Ideal) (all z p) h (k0_pay7 (F := Ideal) h) g d)
    (iblk m c 0 t) (iblk m c 1 t) (iblk m c 2 t) (iblk m c 3 t) (m ((c : Thread nD τ).loc main_arg4)) := by
  by_cases h : t.val % 16 = 0
  · rw [outsAt0_A m c t h]; frame_out
    simp only [loaded]
    rw [← V_main_arg4 m c]; rfl
  · rw [outsAt0_B m c t h]; frame_out
    simp only [read_unread_whole, kept]

/-- The gain's gradient after a tile, over what was there before. -/
abbrev gainOf (prev : Vec Ideal S1x1024 .f32) : Vec Ideal S1x1024 .f32 := (fun z h p =>
      k0_pay3 (F := Ideal) (all z p) h (k0_pay7 (F := Ideal) h) prev)
    (iblk m c 0 t) (iblk m c 2 t) (m ((c : Thread nD τ).loc main_arg4))

theorem leaves_gain_first (h : t.val % 16 = 0) : (outsAt0 m c t.val t.isLt).2.1 = gainOf m c t (k0_pay5 (F := Ideal)) := by
  rw [outsAt0_A m c t h]; frame_out
  simp only [loaded]
  unfold gainOf
  rw [← V_main_arg4 m c]; rfl

theorem leaves_gain (h : ¬ t.val % 16 = 0) : (outsAt0 m c t.val t.isLt).2.1
    = gainOf m c t (outsAt0 m c (t.val - 1) (by omega)).2.1 := by
  rw [outsAt0_B m c t h]; frame_out
  simp only [read_unread_whole, kept]

end

/-! ## The blocks, at arguments whose elements are real numbers -/

/-- The arguments hold these real numbers. -/
structure Holds (Z : Fin 8192 → Fin 5120 → ℝ) (D H : Fin 8192 → Fin 1024 → ℝ) (G : Fin 1 → Fin 1024 → ℝ) (P : Fin 5120 → Fin 1024 → ℝ) : Prop where
  proj : m ((c : Thread nD τ).loc main_arg0) = up2 Z
  grad : m ((c : Thread nD τ).loc main_arg1) = up2 D
  rows : m ((c : Thread nD τ).loc main_arg2) = up2 H
  gain : m ((c : Thread nD τ).loc main_arg3) = up2 G
  weight : m ((c : Thread nD τ).loc main_arg4) = up2 P

variable {m c}
variable {Z : Fin 8192 → Fin 5120 → ℝ} {D H : Fin 8192 → Fin 1024 → ℝ} {G : Fin 1 → Fin 1024 → ℝ} {P : Fin 5120 → Fin 1024 → ℝ}
  (hm : Holds m c Z D H G P)
include hm

theorem block0 (t : Fin cfg0.N) : iblk m c 0 t = up2 (rows t Z) := by
  obtain ⟨e0, e1, e2, e3, -⟩ := idx t
  refine ext2 fun r f => ?_
  have hV : V m c main_arg0 = up2 Z := (V_main_arg0 m c).trans hm.proj
  have hR : iblk m c 0 t (ix2 r f) = V m c main_arg0 (ix2 ⟨512 * t.val + r.val, by have : t.val < 16 := t.isLt; omega⟩ f) := by
    blk_ext [iblk, e0]
  rw [hR, hV]; rfl

theorem block1 (t : Fin cfg0.N) : iblk m c 1 t = up2 (rows t D) := by
  obtain ⟨e0, e1, e2, e3, -⟩ := idx t
  refine ext2 fun r f => ?_
  have hV : V m c main_arg1 = up2 D := (V_main_arg1 m c).trans hm.grad
  have hR : iblk m c 1 t (ix2 r f) = V m c main_arg1 (ix2 ⟨512 * t.val + r.val, by have : t.val < 16 := t.isLt; omega⟩ f) := by
    blk_ext [iblk, e1]
  rw [hR, hV]; rfl

theorem block2 (t : Fin cfg0.N) : iblk m c 2 t = up2 (rows t H) := by
  obtain ⟨e0, e1, e2, e3, -⟩ := idx t
  refine ext2 fun r f => ?_
  have hV : V m c main_arg2 = up2 H := (V_main_arg2 m c).trans hm.rows
  have hR : iblk m c 2 t (ix2 r f) = V m c main_arg2 (ix2 ⟨512 * t.val + r.val, by have : t.val < 16 := t.isLt; omega⟩ f) := by
    blk_ext [iblk, e2]
  rw [hR, hV]; rfl

theorem block3 (t : Fin cfg0.N) : iblk m c 3 t = up2 G := by
  obtain ⟨e0, e1, e2, e3, -⟩ := idx t
  refine ext2 fun r f => ?_
  have hV : V m c main_arg3 = up2 G := (V_main_arg3 m c).trans hm.gain
  have hR : iblk m c 3 t (ix2 r f) = V m c main_arg3 (ix2 r f) := by
    blk_ext [iblk, e3]
  rw [hR, hV]; rfl

/-! ## What a tile leaves -/

theorem tile_entry (t : Fin cfg0.N) : (outsAt0 m c t.val t.isLt).1 = up2 (rows t (dIn D H (pull Z P) G)) := by
  rw [leaves_entry, block0 hm, block1 hm, block2 hm, block3 hm, hm.weight]
  dsimp only
  rw [all_real (rows t Z) P, Cert.Proj.Pay.entry]
  rfl

/-- One tile's part of the gain's gradient. -/
theorem tile_gain (t : Fin cfg0.N) (S : Fin 1 → Fin 1024 → ℝ) :
    gainOf m c t (up2 S) = up2 fun z f => S z f + dGain (rows t H) (rows t (pull Z P)) f := by
  unfold gainOf
  rw [block0 hm, block2 hm, hm.weight]
  dsimp only
  rw [all_real (rows t Z) P, Cert.Proj.Pay.gain_step]
  rfl

/-- The gain's gradient after the tiles so far. -/
theorem gain_upto (n : ℕ) (hn : n < cfg0.N) : (outsAt0 m c n hn).2.1
    = up2 fun _ f => ∑ k : Fin (n + 1), dGain (rows ⟨k.val, by have : n < 16 := hn; omega⟩ H)
        (rows ⟨k.val, by have : n < 16 := hn; omega⟩ (pull Z P)) f := by
  induction n with
  | zero =>
    rw [leaves_gain_first m c ⟨0, hn⟩ rfl]
    have e : k0_pay5 (F := Ideal) = up2 fun _ _ => 0 := ext2 fun r f => Cert.Ffn.lit_zero
    rw [e, tile_gain hm]
    refine ext2 fun r f => congrArg Real.toEReal ?_
    rw [Fin.sum_univ_one]; exact zero_add _
  | succ n ih =>
    rw [leaves_gain m c ⟨n + 1, hn⟩ (by show ¬ (n + 1) % 16 = 0; have : n + 1 < 16 := hn; omega)]
    have e := ih (by omega)
    have e' : (outsAt0 m c ((⟨n + 1, hn⟩ : Fin cfg0.N).val - 1) (by show n < cfg0.N; omega)).2.1 = (outsAt0 m c n (by omega)).2.1 := rfl
    rw [e', e, tile_gain hm]
    refine ext2 fun r f => congrArg Real.toEReal ?_
    rw [Fin.sum_univ_castSucc (n := n + 1)]; rfl

/-! ## The arrays -/

theorem array_entry : (dats m 0 c).arrAt 4 cfg0.N = up2 (dIn D H (pull Z P) G) := by
  refine (dats m 0 c).arrAt_eq_of_covers 4 _ (by decide +kernel) fun t hf y => ?_
  blk_simp
  rw [after0_4, tile_entry hm t]
  obtain ⟨-, -, -, -, e4⟩ := idx t
  have ht : t.val < 16 := t.isLt
  have hy : (y 0).val < 512 := (y 0).isLt
  have e : up2 (dIn D H (pull Z P) G) ((win0_4.blk t).view.emb y) = up2 (dIn D H (pull Z P) G) (ix2 ⟨512 * t.val + (y 0).val, by omega⟩ (y 1)) := by
    blk_ext [e4]
  rw [e]; rfl

omit hm in
/-- The 16 tiles' parts of the gain's gradient add up to the whole. -/
theorem parts (H N : Fin 8192 → Fin 1024 → ℝ) (f : Fin 1024) : ∑ k : Fin 16, dGain (rows k H) (rows k N) f = dGain H N f := by
  unfold dGain
  rw [← finProdFinEquiv.sum_comp (fun r : Fin (16 * 512) => N r f * hn H r f), Fintype.sum_prod_type]
  refine Finset.sum_congr rfl fun k _ => Finset.sum_congr rfl fun r _ => ?_
  have e : (finProdFinEquiv (k, r) : Fin (16 * 512)) = ⟨512 * k.val + r.val, by omega⟩ := Fin.ext (by simp [finProdFinEquiv]; omega)
  rw [e]; rfl

omit hm in
/-- The last tile. -/
def lastTile : Fin cfg0.N := ⟨15, by decide⟩

theorem array_gain : (dats m 0 c).arrAt 5 cfg0.N = up2 fun _ f => dGain H (pull Z P) f := by
  refine (dats m 0 c).arrAt_eq_of_after_last 5 lastTile (by decide +kernel) _ fun j => ?_
  blk_simp
  rw [after0_5]
  refine (congrFun (gain_upto hm 15 _) _).trans ?_
  exact congrArg Real.toEReal (parts H (pull Z P) (j 1))

end Cert.ProjArray

end
-- ==== Proof.ProjPre.lean ====
/-
  The precondition of the input projection's backward call read back: every element of the five arguments is a real number.
-/
module

public import proofs.«01_k».proof.Defs
public import proofs.«01_k».proof.Proof.FfnPre

@[expose] public section

set_option maxRecDepth 16384

noncomputable section

namespace Cert.Proj.Pre

open Cert.Pre_finite4 Idealize.ShloMosaic
open Cert.Ffn (up2)
open Cert.Ffn.Pre (matrix lit_inf)

theorem facts : Cert.Pre_finite4.Facts where
  bcast_S_S8192x5120 := by decide
  reducesTo_S8192x5120_S_d0_1 := by decide
  bcast_S_S8192x1024 := by decide
  reducesTo_S8192x1024_S_d0_1 := by decide
  h_S_ := by decide
  bcast_S_S1x1024 := by decide
  reducesTo_S1x1024_S_d0_1 := by decide
  bitsLt_bf16_f32 := by decide
  bcast_S_S5120x1024 := by decide
  reducesTo_S5120x1024_S_d0_1 := by decide

instance : Subsingleton S_.Idx := ⟨fun _ _ => funext fun a => a.elim0⟩

theorem finite_real [Cert.Pre_finite4.Facts] (x0 : S8192x5120.Idx → EReal) (x1 x2 : S8192x1024.Idx → EReal) (x3 : S1x1024.Idx → EReal)
    (x4 : S5120x1024.Idx → EReal) (h : Cert.Pre_finite4.fn (F := Ideal) x0 x1 x2 x3 x4 = fun _ => 1#1) :
    (∃ Z, x0 = up2 Z) ∧ (∃ D, x1 = up2 D) ∧ (∃ H, x2 = up2 H) ∧ (∃ G, x3 = up2 G) ∧ ∃ P, x4 = up2 P := by
  have h := congrFun h (Shape.Idx.first Facts.h_S_)
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨matrix x0 _ _ _ _ (fun _ => lit_inf) _ h0, matrix x1 _ _ _ _ (fun _ => lit_inf) _ h1,
    matrix x2 _ _ _ _ (fun _ => lit_inf) _ h2, matrix x3 _ _ _ _ (fun _ => lit_inf) _ h3,
    matrix x4 _ _ _ _ (fun _ => lit_inf) _ h4⟩

end Cert.Proj.Pre
-- ==== Proof.ProjClaim.lean ====
/-
  The value claim of the input projection's backward call: the kernel's run and the reference's run end with the same two
  arrays.
-/
module

public import proofs.«01_k».proof.Defs
public import proofs.«01_k».proof.Proof.ProjArray
public import proofs.«01_k».proof.Proof.ProjPre
public import proofs.«01_k».proof.Proof.ProjReference

@[expose] public section

noncomputable section

namespace Cert.ProjClaim

open Idealize.ShloMosaic Idealize.ShloMosaic.TcCoe Idealize.SL.Sem
open Cert.Ffn (up2 dIn dGain)
open Cert.Proj (pull)
open Cert.ProjArray (Holds)

/-- Where the precondition holds, the arguments hold real numbers. -/
theorem holds [Cert.Pre_finite4.Facts] (m : (ℓ : Loc Cert.Kernel4Ideal.nD Cert.Kernel4Ideal.τ Cert.Kernel4Ideal.sig) → Buf (Elt Ideal) ℓ)
    (h : Cert.Pre_Kernel4Ideal_finite4 m) (c : Dev Cert.Kernel4Ideal.nD) : ∃ Z D H G P, Holds m c Z D H G P := by
  obtain ⟨⟨Z, hZ⟩, ⟨D, hD⟩, ⟨H, hH⟩, ⟨G, hG⟩, P, hP⟩ := Cert.Proj.Pre.finite_real _ _ _ _ _ (h c)
  exact ⟨Z, D, H, G, P, ⟨hZ, hD, hH, hG, hP⟩⟩

theorem algebraic [hfinite : Cert.Pre_finite4.Facts] : Cert.algebraic_Kernel4Ideal_Reference4Ideal_pre_finite4 := by
  intro m g m' g' hpre hagree
  choose Z D H G P hm using holds m hpre
  refine ⟨fun c => up2 (dIn (D c) (H c) (pull (Z c) (P c)) (G c)),
    fun c => up2 fun _ f => dGain (H c) (pull (Z c) (P c)) f, ?_, ?_⟩
  · refine (θ_run Cert.Kernel4Ideal.defs _ _).mono (fun r h c => ?_) (Cert.Kernel4Ideal.Value.run_blocks (F := Ideal) m g)
    obtain ⟨h4, h5, hargs⟩ := h c
    exact ⟨h4.trans (Cert.ProjArray.array_entry (hm c)), h5.trans (Cert.ProjArray.array_gain (hm c)), hargs⟩
  · refine (θ_run Cert.Reference4Ideal.defs _ _).mono (fun r h c => ?_) (Cert.Reference4Ideal.Value.run (F := Ideal) m' g')
    obtain ⟨h0, h1, hargs⟩ := h c
    obtain ⟨a0, a1, a2, a3, a4⟩ := hagree c
    refine ⟨(h0.trans (Cert.Reference4Ideal.Read.val_main_v39_eq m' c)).trans ?_,
      (h1.trans (Cert.Reference4Ideal.Read.val_main_v22_eq _ _ _)).trans ?_, hargs⟩
    · rw [a0, a1, a2, a3, a4, (hm c).proj, (hm c).grad, (hm c).rows, (hm c).gain, (hm c).weight]
      exact funext fun i => Cert.Proj.Reference.input _ _ _ _ _ i
    · rw [a0, a2, a4, (hm c).proj, (hm c).rows, (hm c).weight]
      exact funext fun i => Cert.Proj.Reference.gain _ _ _ i

end Cert.ProjClaim

end
-- ==== Proof.FwdReference.lean ====
/-
  The network's forward results by the reference, at arguments whose elements are real numbers.
-/
module

public import proofs.«01_k».proof.Proof.Gen.Reference5Ideal.Read
public import proofs.«01_k».proof.Proof.FfnReference

@[expose] public section

set_option maxRecDepth 16384
set_option maxHeartbeats 1600000

noncomputable section

namespace Cert.Fwd

open Cert.Ffn

variable {R : ℕ} (H : Fin R → Fin 1024 → ℝ) (G : Fin 1 → Fin 1024 → ℝ) (P Q W : Fin 2816 → Fin 1024 → ℝ)

/-- The derivative of the hidden columns by the gate's product. -/
def slope (r : Fin R) (f : Fin 2816) : ℝ := fA (proj (nrm H G) P r f) (proj (nrm H G) Q r f)
/-- The derivative of the hidden columns by the other product. -/
def half (r : Fin R) (f : Fin 2816) : ℝ := fB (proj (nrm H G) P r f)
/-- The hidden columns. -/
def hid (r : Fin R) (f : Fin 2816) : ℝ := fB (proj (nrm H G) P r f) * proj (nrm H G) Q r f
/-- The rows after the half step. -/
def step (r : Fin R) (c : Fin 1024) : ℝ := H r c + 1 / 2 * ∑ f, hid H G P Q r f * W f c

end Cert.Fwd

namespace Cert.Fwd.Reference

open Cert.Reference5Ideal Cert.Reference5Ideal.Gen Cert.Reference5Ideal.Value Cert.Reference5Ideal.Read Idealize.ShloMosaic
open Cert.Ffn

variable (H : Fin 8192 → Fin 1024 → ℝ) (G : Fin 1 → Fin 1024 → ℝ) (P Q W : Fin 2816 → Fin 1024 → ℝ)

/-! The rows and the products are those of the gradient's reference. -/

theorem normed (i : S8192x1024.Idx) : val_main_v16 (F := Ideal) (up2 H) (up2 G) i = ((nrm H G (i 0) (i 1) : ℝ) : EReal) :=
  Cert.Ffn.Reference.normed H G i

theorem gate (i : S8192x2816.Idx) :
    val_main_v17 (F := Ideal) (up2 H) (up2 G) (up2 P) i = ((proj (nrm H G) P (i 0) (i 1) : ℝ) : EReal) :=
  Cert.Ffn.Reference.gate H G P i

theorem upward (i : S8192x2816.Idx) :
    val_main_v18 (F := Ideal) (up2 H) (up2 G) (up2 Q) i = ((proj (nrm H G) Q (i 0) (i 1) : ℝ) : EReal) :=
  Cert.Ffn.Reference.upward H G Q i

theorem logistic (i : S8192x2816.Idx) :
    val_main_v19_2 (F := Ideal) (up2 H) (up2 G) (up2 P) i = ((sig (proj (nrm H G) P (i 0) (i 1)) : ℝ) : EReal) :=
  Cert.Ffn.Reference.logistic H G P i

theorem bump (i : S8192x2816.Idx) :
    val_main_v19_1 (F := Ideal) (up2 H) (up2 G) (up2 P) i
      = ((sig (proj (nrm H G) P (i 0) (i 1)) * (1 - sig (proj (nrm H G) P (i 0) (i 1))) : ℝ) : EReal) :=
  Cert.Ffn.Reference.bump H G P i

theorem silu (i : S8192x2816.Idx) :
    val_main_v19_0 (F := Ideal) (up2 H) (up2 G) (up2 P) i = ((half H G P (i 0) (i 1) : ℝ) : EReal) :=
  Cert.Ffn.Reference.silu H G P i

/-! The results. -/

theorem hidden (i : S8192x2816.Idx) :
    val_main_v20 (F := Ideal) (up2 H) (up2 G) (up2 P) (up2 Q) i = ((hid H G P Q (i 0) (i 1) : ℝ) : EReal) := by
  rw [val_main_v20_apply]; exact mul_real (silu H G P i) (upward H G Q i)

theorem one (i : S8192x2816.Idx) : val_main_v21 (F := Ideal) i = ((1 : ℝ) : EReal) := by
  rw [val_main_v21_apply]; exact lit_one

theorem out_half (i : S8192x2816.Idx) :
    val_main_v22 (F := Ideal) (up2 H) (up2 G) (up2 P) i = ((half H G P (i 0) (i 1) : ℝ) : EReal) := by
  rw [val_main_v22_apply]; exact real_of_eq (mul_real (silu H G P i) (one i)) (mul_one _)

theorem out_slope (i : S8192x2816.Idx) :
    val_main_v24 (F := Ideal) (up2 H) (up2 G) (up2 P) (up2 Q) i = ((slope H G P Q (i 0) (i 1) : ℝ) : EReal) := by
  have e : val_main_v23 (F := Ideal) (up2 H) (up2 G) (up2 Q) i = ((1 * proj (nrm H G) Q (i 0) (i 1) : ℝ) : EReal) := by
    rw [val_main_v23_apply]; exact mul_real (one i) (upward H G Q i)
  rw [val_main_v24_apply, val_main_call1_v1_apply, val_main_call1_v2_apply, val_main_call1_v0_apply]
  exact real_of_eq (add_real (mul_real e (logistic H G P i)) (mul_real (mul_real (gate H G P i) e) (bump H G P i)))
    ((fA_chain _ _ _).trans (one_mul _))

theorem out_step (i : S8192x1024.Idx) :
    val_main_v28 (F := Ideal) (up2 H) (up2 G) (up2 P) (up2 Q) (up2 W) i = ((step H G P Q W (i 0) (i 1) : ℝ) : EReal) := by
  rw [val_main_v28_apply, val_main_v27_apply, val_main_v26_apply, val_main_v25_apply]
  exact add_real rfl (mul_real lit_half (sum_real _ _ fun k => prod_real (hidden H G P Q _) rfl))

end Cert.Fwd.Reference

end
-- ==== Proof.FwdPay.lean ====
/-
  The values of the network's forward body at one row tile, at operands whose elements are real numbers, as the real
  functions of the rows and the weights.
-/
module

public import proofs.«01_k».proof.Proof.Gen.Kernel5Ideal.Value
public import proofs.«01_k».proof.Proof.FfnTile
public import proofs.«01_k».proof.Proof.FwdReference
public import Idealize.ShloMosaic.Lib.Pointwise
public import Idealize.ShloMosaic.Lib.MatmulPlain
public import Idealize.ShloMosaic.Lib.Pipeline.ValueKit

@[expose] public section

set_option maxRecDepth 16384
set_option maxHeartbeats 1600000

noncomputable section

namespace Cert.Fwd.Pay

open Cert.Kernel5Ideal Cert.Kernel5Ideal.Gen Idealize.ShloMosaic
open Cert.Ffn
open Cert.Ffn.Pay (ext2)
open Cert.Ffn.Tile (r1 r2 r3)

/-- Rows times the rows of a weight, from the zero array. -/
theorem rows_rows {k : ℕ} (A : Fin 512 → Fin 1024 → ℝ) (B : Fin k → Fin 1024 → ℝ) (r : Fin 512) (c : Fin k) :
    FloatOps.matmul (F := Ideal) (φ₁ := .bf16) (φ₂ := .bf16) (DotDims.transposedRhs 512 1024 k) none (up2 A) (up2 B) (fun _ => Ideal.ofBits .f32 0x00000000#32) (ix2 r c)
      = ((proj A B r c : ℝ) : EReal) := by
  refine (Ideal.matmul_transposedRhs_apply (φ₁ := .bf16) (φ₂ := .bf16) none (up2 A) (up2 B) _ r c).trans ?_
  exact zero_sum_real lit_zero _ _ fun k => prod_real rfl rfl

/-- Rows times the columns of a weight, from the zero array. -/
theorem rows_cols {k : ℕ} (A : Fin 512 → Fin k → ℝ) (B : Fin k → Fin 1024 → ℝ) (r : Fin 512) (c : Fin 1024) :
    FloatOps.matmul (F := Ideal) (φ₁ := .bf16) (φ₂ := .bf16) (DotDims.plain 512 k 1024) none (up2 A) (up2 B) (fun _ => Ideal.ofBits .f32 0x00000000#32) (ix2 r c)
      = ((∑ f, A r f * B f c : ℝ) : EReal) := by
  refine (Ideal.matmul_plain_apply (φ₁ := .bf16) (φ₂ := .bf16) none (up2 A) (up2 B) _ r c).trans ?_
  exact zero_sum_real lit_zero _ _ fun k => prod_real rfl rfl

/-- The hyperbolic tangent of a real number. -/
theorem tanh_coe {x : EReal} {a : ℝ} (h : x = (a : EReal)) : Ideal.tanh x = ((Real.tanh a : ℝ) : EReal) := by
  rw [h]; exact Ideal.tanh_coe a

/-- The logistic function as the body takes it. -/
theorem logi {x : EReal} {g : ℝ} (h : x = (g : EReal)) :
    FloatOps.addf (F := Ideal) (φ := .f32) (FloatOps.mulf (F := Ideal) (φ := .f32) (Ideal.ofBits .f32 0x3F000000#32)
      (Ideal.tanh (FloatOps.mulf (F := Ideal) (φ := .f32) (Ideal.ofBits .f32 0x3F000000#32) x))) (Ideal.ofBits .f32 0x3F000000#32)
      = ((sig g : ℝ) : EReal) :=
  real_of_eq (add_real (mul_real lit_half (tanh_coe (mul_real lit_half h))) lit_half) (sig_tanh g)

variable (N H : Fin 512 → Fin 1024 → ℝ) (G : Fin 1 → Fin 1024 → ℝ)

/-- The normalised rows times the gain. -/
theorem normed : k0_pay3 (F := Ideal) (up2 H) (up2 G) = up2 (nrm H G) := ext2 fun r c => by
  refine mul_real (mul_real rfl (b := rs H r) ?_) ?_
  · refine Eq.trans ?_ (rsqrt_ms H r)
    pointwise
    exact congrArg Ideal.rsqrt (add_real (φ := .f32) (quot_real (φ := .f32) (by norm_num)
      (sum_real _ (fun k => H r k * H r k) fun k => (EReal.coe_mul _ _).symm) lit_width) lit_eps)
  · pointwise
    rfl

/-! ## The hidden columns of a chunk of 1024 -/

section
variable (P Q : Fin 1024 → Fin 1024 → ℝ)

theorem prod13 : k0_pay13 (F := Ideal) (up2 N) (up2 P) = up2 (proj N P) := ext2 fun r f => rows_rows N P r f
theorem prod14 : k0_pay14 (F := Ideal) (up2 N) (up2 Q) = up2 (proj N Q) := ext2 fun r f => rows_rows N Q r f

theorem sig15 : k0_pay15 (F := Ideal) (up2 N) (up2 P) = up2 fun r f => sig (proj N P r f) := by
  unfold k0_pay15; rw [prod13]; exact ext2 fun r f => logi rfl

theorem half16 : k0_pay16 (F := Ideal) (up2 N) (up2 P) = up2 fun r f => fB (proj N P r f) := by
  unfold k0_pay16; rw [prod13, sig15]; exact ext2 fun r f => mul_real rfl rfl

theorem hid17 : k0_pay17 (F := Ideal) (up2 N) (up2 P) (up2 Q) = up2 fun r f => fB (proj N P r f) * proj N Q r f := by
  unfold k0_pay17; rw [half16, prod14]; exact ext2 fun r f => mul_real rfl rfl

/-- The derivative by the gate's product, as the body takes it. -/
abbrev slope20 (n : Vec Ideal S512x1024 .bf16) (p q : Vec Ideal S1024x1024 .bf16) : FVec Ideal S512x1024 .bf16 :=
  k0_pay20 (F := Ideal) (k0_pay14 (F := Ideal) n q) (k0_pay15 (F := Ideal) n p) (k0_pay18 (F := Ideal) n p) (k0_pay19 (F := Ideal))

theorem slope20_real : slope20 (up2 N) (up2 P) (up2 Q) = up2 fun r f => fA (proj N P r f) (proj N Q r f) := by
  unfold slope20 k0_pay18 k0_pay20
  rw [prod14, prod13, sig15]
  exact ext2 fun r f => mul_real rfl (mul_real rfl (add_real lit_one (mul_real rfl (sub_real lit_one rfl))))
end

/-! ## The hidden columns of the last chunk -/

section
variable (P Q : Fin 768 → Fin 1024 → ℝ)

theorem prod23 : k0_pay23 (F := Ideal) (up2 N) (up2 P) = up2 (proj N P) := ext2 fun r f => rows_rows N P r f
theorem prod24 : k0_pay24 (F := Ideal) (up2 N) (up2 Q) = up2 (proj N Q) := ext2 fun r f => rows_rows N Q r f

theorem sig25 : k0_pay25 (F := Ideal) (up2 N) (up2 P) = up2 fun r f => sig (proj N P r f) := by
  unfold k0_pay25; rw [prod23]; exact ext2 fun r f => logi rfl

theorem half26 : k0_pay26 (F := Ideal) (up2 N) (up2 P) = up2 fun r f => fB (proj N P r f) := by
  unfold k0_pay26; rw [prod23, sig25]; exact ext2 fun r f => mul_real rfl rfl

theorem hid27 : k0_pay27 (F := Ideal) (up2 N) (up2 P) (up2 Q) = up2 fun r f => fB (proj N P r f) * proj N Q r f := by
  unfold k0_pay27; rw [half26, prod24]; exact ext2 fun r f => mul_real rfl rfl

theorem slope28 : k0_pay28 (F := Ideal) (up2 N) (up2 P) (up2 Q) = up2 fun r f => fA (proj N P r f) (proj N Q r f) := by
  unfold k0_pay28
  rw [prod24, prod23, sig25]
  exact ext2 fun r f => mul_real rfl (mul_real rfl (add_real lit_one (mul_real rfl (sub_real lit_one rfl))))
end

/-! ## The chunks -/

/-- The rows of a weight in each chunk. -/
abbrev w1 (X : Vec Ideal S2816x1024 .bf16) : Vec Ideal S1024x1024 .bf16 := View.ld (Val := Elt Ideal) (e' := .bf16) X (Rect.unit (s := S2816x1024) ![0, 0] ![1024, 1024] inb_S2816x1024_S1024x1024_0_0)
abbrev w2 (X : Vec Ideal S2816x1024 .bf16) : Vec Ideal S1024x1024 .bf16 := View.ld (Val := Elt Ideal) (e' := .bf16) X (Rect.unit (s := S2816x1024) ![1024, 0] ![1024, 1024] inb_S2816x1024_S1024x1024_1024_0)
abbrev w3 (X : Vec Ideal S2816x1024 .bf16) : Vec Ideal S768x1024 .bf16 := View.ld (Val := Elt Ideal) (e' := .bf16) X (Rect.unit (s := S2816x1024) ![2048, 0] ![768, 1024] inb_S2816x1024_S768x1024_2048_0)

theorem w1_real (P : Fin 2816 → Fin 1024 → ℝ) : w1 (up2 P) = up2 (r1 P) := Cert.Ffn.Tile.w1_real P
theorem w2_real (P : Fin 2816 → Fin 1024 → ℝ) : w2 (up2 P) = up2 (r2 P) := Cert.Ffn.Tile.w2_real P
theorem w3_real (P : Fin 2816 → Fin 1024 → ℝ) : w3 (up2 P) = up2 (r3 P) := Cert.Ffn.Tile.w3_real P

/-- The hidden columns in each chunk. -/
def q1 (X : Fin 512 → Fin 2816 → ℝ) (r : Fin 512) (f : Fin 1024) : ℝ := X r ⟨f.val, by omega⟩
def q2 (X : Fin 512 → Fin 2816 → ℝ) (r : Fin 512) (f : Fin 1024) : ℝ := X r ⟨1024 + f.val, by omega⟩
def q3 (X : Fin 512 → Fin 2816 → ℝ) (r : Fin 512) (f : Fin 768) : ℝ := X r ⟨2048 + f.val, by omega⟩

theorem q1_real (X : Fin 512 → Fin 2816 → ℝ) : View.ld (Val := Elt Ideal) (e' := .bf16) (up2 X) (Rect.unit (s := S512x2816) ![0, 0] ![512, 1024] inb_S512x2816_S512x1024_0_0) = up2 (q1 X) := ext2 fun r f =>
  View.ld_unit_apply_of (Val := Elt Ideal) (S := S512x2816) (e := .bf16) (up2 X) ![0, 0] ![512, 1024] inb_S512x2816_S512x1024_0_0 (ix2 r f)
    (ix2 r ⟨f.val, by omega⟩) fun a => by fin_cases a <;> simp
theorem q2_real (X : Fin 512 → Fin 2816 → ℝ) : View.ld (Val := Elt Ideal) (e' := .bf16) (up2 X) (Rect.unit (s := S512x2816) ![0, 1024] ![512, 1024] inb_S512x2816_S512x1024_0_1024) = up2 (q2 X) := ext2 fun r f =>
  View.ld_unit_apply_of (Val := Elt Ideal) (S := S512x2816) (e := .bf16) (up2 X) ![0, 1024] ![512, 1024] inb_S512x2816_S512x1024_0_1024 (ix2 r f)
    (ix2 r ⟨1024 + f.val, by omega⟩) fun a => by fin_cases a <;> simp
theorem q3_real (X : Fin 512 → Fin 2816 → ℝ) : View.ld (Val := Elt Ideal) (e' := .bf16) (up2 X) (Rect.unit (s := S512x2816) ![0, 2048] ![512, 768] inb_S512x2816_S512x768_0_2048) = up2 (q3 X) := ext2 fun r f =>
  View.ld_unit_apply_of (Val := Elt Ideal) (S := S512x2816) (e := .bf16) (up2 X) ![0, 2048] ![512, 768] inb_S512x2816_S512x768_0_2048 (ix2 r f)
    (ix2 r ⟨2048 + f.val, by omega⟩) fun a => by fin_cases a <;> simp

/-- The three stores of hidden columns, last first. -/
abbrev stored (a : Vec Ideal S512x768 .bf16) (b c : Vec Ideal S512x1024 .bf16) : S512x2816.Idx → Elt Ideal .bf16 :=
  View.canon (Val := Elt Ideal) (s := S512x2816) (e := .bf16) [⟨Rect.unit ![0, 2048] ![512, 768] inb_S512x2816_S512x768_0_2048, a⟩,
    ⟨Rect.unit ![0, 1024] ![512, 1024] inb_S512x2816_S512x1024_0_1024, b⟩,
    ⟨Rect.unit ![0, 0] ![512, 1024] inb_S512x2816_S512x1024_0_0, c⟩]

theorem stored_real (X : Fin 512 → Fin 2816 → ℝ) : stored (up2 (q3 X)) (up2 (q2 X)) (up2 (q1 X)) = up2 X := by
  funext j
  unfold stored
  refine View.canon_apply_of_pieces (Val := Elt Ideal) (S := S512x2816) (e := .bf16) (up2 X) _ ?_ j ?_
  · intro p hp x
    rcases List.mem_cons.mp hp with rfl | hp
    · exact (congrFun (q3_real X) x).symm
    rcases List.mem_cons.mp hp with rfl | hp
    · exact (congrFun (q2_real X) x).symm
    rcases List.mem_cons.mp hp with rfl | hp
    · exact (congrFun (q1_real X) x).symm
    · cases hp
  · exact View.cover_of_tiledBy _ ![512, 256] (by sl_kernel_rfl) j

/-! ## What the body makes of a tile -/

/-- The hidden columns' derivative by the gate's product. -/
abbrev slopes (n : Vec Ideal S512x1024 .bf16) (p q : Vec Ideal S2816x1024 .bf16) : S512x2816.Idx → Elt Ideal .bf16 :=
  stored (k0_pay28 (F := Ideal) n (w3 p) (w3 q)) (slope20 n (w2 p) (w2 q)) (slope20 n (w1 p) (w1 q))
/-- The hidden columns' derivative by the other product. -/
abbrev halves (n : Vec Ideal S512x1024 .bf16) (p : Vec Ideal S2816x1024 .bf16) : S512x2816.Idx → Elt Ideal .bf16 :=
  stored (k0_pay26 (F := Ideal) n (w3 p)) (k0_pay16 (F := Ideal) n (w2 p)) (k0_pay16 (F := Ideal) n (w1 p))
/-- The hidden columns. -/
abbrev hids (n : Vec Ideal S512x1024 .bf16) (p q : Vec Ideal S2816x1024 .bf16) : S512x2816.Idx → Elt Ideal .bf16 :=
  stored (k0_pay27 (F := Ideal) n (w3 p) (w3 q)) (k0_pay17 (F := Ideal) n (w2 p) (w2 q)) (k0_pay17 (F := Ideal) n (w1 p) (w1 q))
/-- The rows after the half step. -/
abbrev after (h : Vec Ideal S512x1024 .f32) (n : Vec Ideal S512x1024 .bf16) (p q w : Vec Ideal S2816x1024 .bf16) : FVec Ideal S512x1024 .f32 :=
  k0_pay2 (F := Ideal) h (k0_pay22 (F := Ideal) (k0_pay12 (F := Ideal) (k0_pay4 (F := Ideal)) (k0_pay17 (F := Ideal) n (w1 p) (w1 q)) (w1 w))
    (k0_pay17 (F := Ideal) n (w2 p) (w2 q)) (w2 w)) (k0_pay27 (F := Ideal) n (w3 p) (w3 q)) (w3 w)

variable (P Q W : Fin 2816 → Fin 1024 → ℝ)

theorem slopes_real : slopes (up2 (nrm H G)) (up2 P) (up2 Q) = up2 (slope H G P Q) := by
  unfold slopes
  rw [w1_real, w1_real, w2_real, w2_real, w3_real, w3_real, slope28, slope20_real, slope20_real]
  exact stored_real (slope H G P Q)

theorem halves_real : halves (up2 (nrm H G)) (up2 P) = up2 (half H G P) := by
  unfold halves
  rw [w1_real, w2_real, w3_real, half26, half16, half16]
  exact stored_real (half H G P)

theorem hids_real : hids (up2 (nrm H G)) (up2 P) (up2 Q) = up2 (hid H G P Q) := by
  unfold hids
  rw [w1_real, w1_real, w2_real, w2_real, w3_real, w3_real, hid27, hid17, hid17]
  exact stored_real (hid H G P Q)

theorem after_real : after (up2 H) (up2 (nrm H G)) (up2 P) (up2 Q) (up2 W) = up2 (step H G P Q W) := by
  unfold after
  rw [w1_real, w1_real, w1_real, w2_real, w2_real, w2_real, w3_real, w3_real, w3_real, hid27, hid17, hid17]
  refine ext2 fun r c => real_of_eq (add_real rfl (mul_real lit_half (add_real (add_real (add_real lit_zero (rows_cols _ _ r c)) (rows_cols _ _ r c)) (rows_cols _ _ r c)))) ?_
  unfold step
  rw [sum_chunks, zero_add]
  rfl

end Cert.Fwd.Pay

end
-- ==== Proof.FwdArray.lean ====
/-
  The arrays after the network's forward call has run over its 16 row tiles.
-/
module

public import proofs.«01_k».proof.Proof.FwdPay
public import proofs.«01_k».proof.Proof.ProjArray
public import Idealize.ShloMosaic.Lib.Pipeline.ValueKit
public import Idealize.ShloMosaic.Lib.Pipeline.ReadBack

@[expose] public section

set_option maxRecDepth 16384
set_option maxHeartbeats 1600000

noncomputable section

namespace Cert.FwdArray

open Cert.Kernel5Ideal Cert.Kernel5Ideal.Gen Idealize.ShloMosaic Idealize.ShloMosaic.TcCoe Idealize.SL.Sem
open Idealize.ShloMosaic.Pipeline (Dat)
open Cert.Ffn (up2 nrm)
open Cert.Ffn.Pay (ext2)
open Cert.Fwd (slope half hid step)
open Cert.Fwd.Pay (slopes halves hids after slopes_real halves_real hids_real after_real)
open Cert.ProjArray (rows)

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![t.val, 0])

variable (m : (ℓ : Loc nD τ Cert.Kernel5Ideal.sig) → Buf (Elt Ideal) ℓ) (c : Dev nD)

/-! ## The weights stay in the scratch -/

theorem kept0 (n : ℕ) (hn : n < cfg0.N) : (outsAt0 m c n hn).2.2.2.2.2.1 = m ((c : Thread nD τ).loc main_arg2) := by
  induction n with
  | zero =>
    rw [outsAt0_A m c ⟨0, hn⟩ rfl]
    frame_out
    refine (View.canon_unit_zero (S := S2816x1024) (off := fun _ => 0) rfl _ _).trans ?_
    exact V_main_arg2 m c
  | succ n ih =>
    rw [outsAt0_B m c ⟨n + 1, hn⟩ (by show ¬ (n + 1) % 16 = 0; have : n + 1 < 16 := hn; omega)]
    dsimp only
    unfold sout0_B_0
    exact ih (by omega)

theorem kept1 (n : ℕ) (hn : n < cfg0.N) : (outsAt0 m c n hn).2.2.2.2.2.2.1 = m ((c : Thread nD τ).loc main_arg3) := by
  induction n with
  | zero =>
    rw [outsAt0_A m c ⟨0, hn⟩ rfl]
    frame_out
    refine (View.canon_unit_zero (S := S2816x1024) (off := fun _ => 0) rfl _ _).trans ?_
    exact V_main_arg3 m c
  | succ n ih =>
    rw [outsAt0_B m c ⟨n + 1, hn⟩ (by show ¬ (n + 1) % 16 = 0; have : n + 1 < 16 := hn; omega)]
    dsimp only
    unfold sout0_B_1
    exact ih (by omega)

theorem kept2 (n : ℕ) (hn : n < cfg0.N) : (outsAt0 m c n hn).2.2.2.2.2.2.2 = m ((c : Thread nD τ).loc main_arg4) := by
  induction n with
  | zero =>
    rw [outsAt0_A m c ⟨0, hn⟩ rfl]
    frame_out
    refine (View.canon_unit_zero (S := S2816x1024) (off := fun _ => 0) rfl _ _).trans ?_
    exact V_main_arg4 m c
  | succ n ih =>
    rw [outsAt0_B m c ⟨n + 1, hn⟩ (by show ¬ (n + 1) % 16 = 0; have : n + 1 < 16 := hn; omega)]
    dsimp only
    unfold sout0_B_2
    exact ih (by omega)

/-- A load from a scratch that was stored whole. -/
theorem loaded {κ : Kind} {sp : Space} (v : View Cert.Kernel5Ideal.sig κ sp S2816x1024 .bf16) (X : Vec Ideal S2816x1024 .bf16) (r : Rect S2816x1024) :
    v.readCov (Val := Elt Ideal) [(⟨Rect.whole S2816x1024, X⟩ : View.Piece (Elt Ideal) S2816x1024 .bf16)] r.toLoadRect = View.ld X r := by
  rw [View.readCov_eq_canon_ld _ _ _ (fun y => ⟨_, List.mem_singleton_self _, by
    show y ∈ (Rect.whole S2816x1024).set; rw [Rect.set_whole]; exact Finset.mem_univ y⟩)]
  exact congrArg (fun Y => View.ld Y r) (View.canon_unit_zero (S := S2816x1024) (off := fun _ => 0) rfl _ _)

/-! ## What a tile leaves, over its blocks -/

section
variable (t : Fin cfg0.N)

theorem leaves_step : (outsAt0 m c t.val t.isLt).1 = (fun x g p q w => after x (k0_pay3 (F := Ideal) x g) p q w) (iblk m c 0 t) (iblk m c 1 t) (m ((c : Thread nD τ).loc main_arg2)) (m ((c : Thread nD τ).loc main_arg3)) (m ((c : Thread nD τ).loc main_arg4)) := by
  by_cases h : t.val % 16 = 0
  · rw [outsAt0_A m c t h]; frame_out
    simp only [loaded]
    rw [← V_main_arg2 m c, ← V_main_arg3 m c, ← V_main_arg4 m c]; rfl
  · rw [outsAt0_B m c t h]; frame_out
    simp only [read_unread_whole, kept0, kept1, kept2]
    rfl

theorem leaves_normal : (outsAt0 m c t.val t.isLt).2.1 = (fun x g => k0_pay3 (F := Ideal) x g) (iblk m c 0 t) (iblk m c 1 t)  := by
  by_cases h : t.val % 16 = 0
  · rw [outsAt0_A m c t h]; frame_out
  · rw [outsAt0_B m c t h]; frame_out

theorem leaves_slope : (outsAt0 m c t.val t.isLt).2.2.1 = (fun x g p q => slopes (k0_pay3 (F := Ideal) x g) p q) (iblk m c 0 t) (iblk m c 1 t) (m ((c : Thread nD τ).loc main_arg2)) (m ((c : Thread nD τ).loc main_arg3)) := by
  by_cases h : t.val % 16 = 0
  · rw [outsAt0_A m c t h]; frame_out
    simp only [loaded]
    rw [← V_main_arg2 m c, ← V_main_arg3 m c]; rfl
  · rw [outsAt0_B m c t h]; frame_out
    simp only [read_unread_whole, kept0, kept1]
    rfl

theorem leaves_half : (outsAt0 m c t.val t.isLt).2.2.2.1 = (fun x g p => halves (k0_pay3 (F := Ideal) x g) p) (iblk m c 0 t) (iblk m c 1 t) (m ((c : Thread nD τ).loc main_arg2)) := by
  by_cases h : t.val % 16 = 0
  · rw [outsAt0_A m c t h]; frame_out
    simp only [loaded]
    rw [← V_main_arg2 m c]; rfl
  · rw [outsAt0_B m c t h]; frame_out
    simp only [read_unread_whole, kept0]
    rfl

theorem leaves_hid : (outsAt0 m c t.val t.isLt).2.2.2.2.1 = (fun x g p q => hids (k0_pay3 (F := Ideal) x g) p q) (iblk m c 0 t) (iblk m c 1 t) (m ((c : Thread nD τ).loc main_arg2)) (m ((c : Thread nD τ).loc main_arg3)) := by
  by_cases h : t.val % 16 = 0
  · rw [outsAt0_A m c t h]; frame_out
    simp only [loaded]
    rw [← V_main_arg2 m c, ← V_main_arg3 m c]; rfl
  · rw [outsAt0_B m c t h]; frame_out
    simp only [read_unread_whole, kept0, kept1]
    rfl

end

/-! ## The blocks, at arguments whose elements are real numbers -/

/-- The arguments hold these real numbers. -/
structure Holds (H : Fin 8192 → Fin 1024 → ℝ) (G : Fin 1 → Fin 1024 → ℝ) (P Q W : Fin 2816 → Fin 1024 → ℝ) : Prop where
  rows : m ((c : Thread nD τ).loc main_arg0) = up2 H
  gain : m ((c : Thread nD τ).loc main_arg1) = up2 G
  gate : m ((c : Thread nD τ).loc main_arg2) = up2 P
  upward : m ((c : Thread nD τ).loc main_arg3) = up2 Q
  down : m ((c : Thread nD τ).loc main_arg4) = up2 W

variable {m c}
variable {H : Fin 8192 → Fin 1024 → ℝ} {G : Fin 1 → Fin 1024 → ℝ} {P Q W : Fin 2816 → Fin 1024 → ℝ} (hm : Holds m c H G P Q W)
include hm

theorem block0 (t : Fin cfg0.N) : iblk m c 0 t = up2 (rows t H) := by
  have e := (idx t).1
  refine ext2 fun r f => ?_
  have hV : V m c main_arg0 = up2 H := (V_main_arg0 m c).trans hm.rows
  have hR : iblk m c 0 t (ix2 r f) = V m c main_arg0 (ix2 ⟨512 * t.val + r.val, by have : t.val < 16 := t.isLt; omega⟩ f) := by
    blk_ext [iblk, e]
  rw [hR, hV]; rfl

theorem block1 (t : Fin cfg0.N) : iblk m c 1 t = up2 G := by
  have e := (idx t).2.1
  refine ext2 fun r f => ?_
  have hV : V m c main_arg1 = up2 G := (V_main_arg1 m c).trans hm.gain
  have hR : iblk m c 1 t (ix2 r f) = V m c main_arg1 (ix2 r f) := by
    blk_ext [iblk, e]
  rw [hR, hV]; rfl

/-! ## What a tile leaves -/

theorem tile_step (t : Fin cfg0.N) : (outsAt0 m c t.val t.isLt).1 = up2 (rows t (step H G P Q W)) := by
  rw [leaves_step, block0 hm, block1 hm, hm.gate, hm.upward, hm.down]
  dsimp only
  rw [Cert.Fwd.Pay.normed, after_real]; rfl

theorem tile_normal (t : Fin cfg0.N) : (outsAt0 m c t.val t.isLt).2.1 = up2 (rows t (nrm H G)) := by
  rw [leaves_normal, block0 hm, block1 hm]
  dsimp only
  rw [Cert.Fwd.Pay.normed]; rfl

theorem tile_slope (t : Fin cfg0.N) : (outsAt0 m c t.val t.isLt).2.2.1 = up2 (rows t (slope H G P Q)) := by
  rw [leaves_slope, block0 hm, block1 hm, hm.gate, hm.upward]
  dsimp only
  rw [Cert.Fwd.Pay.normed, slopes_real]; rfl

theorem tile_half (t : Fin cfg0.N) : (outsAt0 m c t.val t.isLt).2.2.2.1 = up2 (rows t (half H G P)) := by
  rw [leaves_half, block0 hm, block1 hm, hm.gate]
  dsimp only
  rw [Cert.Fwd.Pay.normed, halves_real]; rfl

theorem tile_hid (t : Fin cfg0.N) : (outsAt0 m c t.val t.isLt).2.2.2.2.1 = up2 (rows t (hid H G P Q)) := by
  rw [leaves_hid, block0 hm, block1 hm, hm.gate, hm.upward]
  dsimp only
  rw [Cert.Fwd.Pay.normed, hids_real]; rfl

/-! ## The arrays -/

theorem array_step : (dats m 0 c).arrAt 2 cfg0.N = up2 (step H G P Q W) := by
  refine (dats m 0 c).arrAt_eq_of_covers 2 _ (by decide +kernel) fun t hf y => ?_
  blk_simp
  rw [after0_2, tile_step hm t]
  have e := (idx t).2.2.1
  have ht : t.val < 16 := t.isLt
  have hy : (y 0).val < 512 := (y 0).isLt
  have e' : up2 (step H G P Q W) ((win0_2.blk t).view.emb y) = up2 (step H G P Q W) (ix2 ⟨512 * t.val + (y 0).val, by omega⟩ (y 1)) := by
    blk_ext [e]
  rw [e']; rfl

theorem array_normal : (dats m 0 c).arrAt 3 cfg0.N = up2 (nrm H G) := by
  refine (dats m 0 c).arrAt_eq_of_covers 3 _ (by decide +kernel) fun t hf y => ?_
  blk_simp
  rw [after0_3, tile_normal hm t]
  have e := (idx t).2.2.2.1
  have ht : t.val < 16 := t.isLt
  have hy : (y 0).val < 512 := (y 0).isLt
  have e' : up2 (nrm H G) ((win0_3.blk t).view.emb y) = up2 (nrm H G) (ix2 ⟨512 * t.val + (y 0).val, by omega⟩ (y 1)) := by
    blk_ext [e]
  rw [e']; rfl

theorem array_slope : (dats m 0 c).arrAt 4 cfg0.N = up2 (slope H G P Q) := by
  refine (dats m 0 c).arrAt_eq_of_covers 4 _ (by decide +kernel) fun t hf y => ?_
  blk_simp
  rw [after0_4, tile_slope hm t]
  have e := (idx t).2.2.2.2.1
  have ht : t.val < 16 := t.isLt
  have hy : (y 0).val < 512 := (y 0).isLt
  have e' : up2 (slope H G P Q) ((win0_4.blk t).view.emb y) = up2 (slope H G P Q) (ix2 ⟨512 * t.val + (y 0).val, by omega⟩ (y 1)) := by
    blk_ext [e]
  rw [e']; rfl

theorem array_half : (dats m 0 c).arrAt 5 cfg0.N = up2 (half H G P) := by
  refine (dats m 0 c).arrAt_eq_of_covers 5 _ (by decide +kernel) fun t hf y => ?_
  blk_simp
  rw [after0_5, tile_half hm t]
  have e := (idx t).2.2.2.2.2.1
  have ht : t.val < 16 := t.isLt
  have hy : (y 0).val < 512 := (y 0).isLt
  have e' : up2 (half H G P) ((win0_5.blk t).view.emb y) = up2 (half H G P) (ix2 ⟨512 * t.val + (y 0).val, by omega⟩ (y 1)) := by
    blk_ext [e]
  rw [e']; rfl

theorem array_hid : (dats m 0 c).arrAt 6 cfg0.N = up2 (hid H G P Q) := by
  refine (dats m 0 c).arrAt_eq_of_covers 6 _ (by decide +kernel) fun t hf y => ?_
  blk_simp
  rw [after0_6, tile_hid hm t]
  have e := (idx t).2.2.2.2.2.2
  have ht : t.val < 16 := t.isLt
  have hy : (y 0).val < 512 := (y 0).isLt
  have e' : up2 (hid H G P Q) ((win0_6.blk t).view.emb y) = up2 (hid H G P Q) (ix2 ⟨512 * t.val + (y 0).val, by omega⟩ (y 1)) := by
    blk_ext [e]
  rw [e']; rfl

end Cert.FwdArray

end
-- ==== Proof.FwdPre.lean ====
/-
  The precondition of the network's forward call read back: every element of the five arguments is a real number.
-/
module

public import proofs.«01_k».proof.Defs
public import proofs.«01_k».proof.Proof.FfnPre

@[expose] public section

set_option maxRecDepth 16384

noncomputable section

namespace Cert.Fwd.Pre

open Cert.Pre_finite5 Idealize.ShloMosaic
open Cert.Ffn (up2)
open Cert.Ffn.Pre (matrix lit_inf)

theorem facts : Cert.Pre_finite5.Facts where
  bcast_S_S8192x1024 := by decide
  reducesTo_S8192x1024_S_d0_1 := by decide
  h_S_ := by decide
  bcast_S_S1x1024 := by decide
  reducesTo_S1x1024_S_d0_1 := by decide
  bitsLt_bf16_f32 := by decide
  bcast_S_S2816x1024 := by decide
  reducesTo_S2816x1024_S_d0_1 := by decide

instance : Subsingleton S_.Idx := ⟨fun _ _ => funext fun a => a.elim0⟩

theorem finite_real [Cert.Pre_finite5.Facts] (x0 : S8192x1024.Idx → EReal) (x1 : S1x1024.Idx → EReal) (x2 x3 x4 : S2816x1024.Idx → EReal)
    (h : Cert.Pre_finite5.fn (F := Ideal) x0 x1 x2 x3 x4 = fun _ => 1#1) :
    (∃ A, x0 = up2 A) ∧ (∃ A, x1 = up2 A) ∧ (∃ A, x2 = up2 A) ∧ (∃ A, x3 = up2 A) ∧ ∃ A, x4 = up2 A := by
  have h := congrFun h (Shape.Idx.first Facts.h_S_)
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨matrix x0 _ _ _ _ (fun _ => lit_inf) _ h0,
    matrix x1 _ _ _ _ (fun _ => lit_inf) _ h1,
    matrix x2 _ _ _ _ (fun _ => lit_inf) _ h2,
    matrix x3 _ _ _ _ (fun _ => lit_inf) _ h3,
    matrix x4 _ _ _ _ (fun _ => lit_inf) _ h4⟩

end Cert.Fwd.Pre
-- ==== Proof.FwdClaim.lean ====
/-
  The forward call's value claim: the kernel's run and the reference's run end with the same five arrays.
-/
module

public import proofs.«01_k».proof.Defs
public import proofs.«01_k».proof.Proof.FwdArray
public import proofs.«01_k».proof.Proof.FwdPre
public import proofs.«01_k».proof.Proof.FwdReference

@[expose] public section

noncomputable section

namespace Cert.FwdClaim

open Idealize.ShloMosaic Idealize.ShloMosaic.TcCoe Idealize.SL.Sem
open Cert.Ffn (up2 nrm)
open Cert.Fwd (slope half hid step)
open Cert.FwdArray (Holds)

/-- Where the precondition holds, the arguments hold real numbers. -/
theorem holds [Cert.Pre_finite5.Facts] (m : (ℓ : Loc Cert.Kernel5Ideal.nD Cert.Kernel5Ideal.τ Cert.Kernel5Ideal.sig) → Buf (Elt Ideal) ℓ)
    (h : Cert.Pre_Kernel5Ideal_finite5 m) (c : Dev Cert.Kernel5Ideal.nD) : ∃ H G P Q W, Holds m c H G P Q W := by
  obtain ⟨⟨H, hH⟩, ⟨G, hG⟩, ⟨P, hP⟩, ⟨Q, hQ⟩, W, hW⟩ := Cert.Fwd.Pre.finite_real _ _ _ _ _ (h c)
  exact ⟨H, G, P, Q, W, ⟨hH, hG, hP, hQ, hW⟩⟩

theorem algebraic [hfinite5 : Cert.Pre_finite5.Facts] : Cert.algebraic_Kernel5Ideal_Reference5Ideal_pre_finite5 := by
  intro m g m' g' hpre hagree
  choose H G P Q W hm using holds m hpre
  refine ⟨fun c => up2 (step (H c) (G c) (P c) (Q c) (W c)),
    fun c => up2 (nrm (H c) (G c)),
    fun c => up2 (slope (H c) (G c) (P c) (Q c)),
    fun c => up2 (half (H c) (G c) (P c)),
    fun c => up2 (hid (H c) (G c) (P c) (Q c)), ?_, ?_⟩
  · refine (θ_run Cert.Kernel5Ideal.defs _ _).mono (fun r h c => ?_) (Cert.Kernel5Ideal.Value.run_blocks (F := Ideal) m g)
    obtain ⟨h0, h1, h2, h3, h4, hargs⟩ := h c
    exact ⟨h0.trans (Cert.FwdArray.array_step (hm c)),
      h1.trans (Cert.FwdArray.array_normal (hm c)),
      h2.trans (Cert.FwdArray.array_slope (hm c)),
      h3.trans (Cert.FwdArray.array_half (hm c)),
      h4.trans (Cert.FwdArray.array_hid (hm c)), hargs⟩
  · refine (θ_run Cert.Reference5Ideal.defs _ _).mono (fun r h c => ?_) (Cert.Reference5Ideal.Value.run (F := Ideal) m' g')
    obtain ⟨h0, h1, h2, h3, h4, hargs⟩ := h c
    obtain ⟨a0, a1, a2, a3, a4⟩ := hagree c
    refine ⟨(h0.trans (Cert.Reference5Ideal.Read.val_main_v28_eq _ _ _ _ _)).trans ?_,
      (h1.trans (Cert.Reference5Ideal.Read.val_main_v29_eq _ _)).trans ?_,
      (h2.trans (Cert.Reference5Ideal.Read.val_main_v30_eq m' c)).trans ?_,
      (h3.trans (Cert.Reference5Ideal.Read.val_main_v31_eq _ _ _)).trans ?_,
      (h4.trans (Cert.Reference5Ideal.Read.val_main_v32_eq _ _ _ _)).trans ?_, hargs⟩
    · rw [a0, a1, a2, a3, a4, (hm c).rows, (hm c).gain, (hm c).gate, (hm c).upward, (hm c).down]
      exact funext fun i => Cert.Fwd.Reference.out_step _ _ _ _ _ i
    · rw [a0, a1, (hm c).rows, (hm c).gain]
      exact funext fun i => Cert.Fwd.Reference.normed _ _ i
    · rw [a0, a1, a2, a3, (hm c).rows, (hm c).gain, (hm c).gate, (hm c).upward]
      exact funext fun i => Cert.Fwd.Reference.out_slope _ _ _ _ i
    · rw [a0, a1, a2, (hm c).rows, (hm c).gain, (hm c).gate]
      exact funext fun i => Cert.Fwd.Reference.out_half _ _ _ i
    · rw [a0, a1, a2, a3, (hm c).rows, (hm c).gain, (hm c).gate, (hm c).upward]
      exact funext fun i => Cert.Fwd.Reference.hidden _ _ _ _ i

end Cert.FwdClaim

end
-- ==== Proof.HeadReference.lean ====
/-
  The last network's forward results and the loss head's by the reference, at arguments whose elements are real numbers.
-/
module

public import proofs.«01_k».proof.Proof.Gen.Reference6Ideal.Read
public import proofs.«01_k».proof.Proof.FwdReference

@[expose] public section

set_option maxRecDepth 16384
set_option maxHeartbeats 1600000

noncomputable section

namespace Cert.Head

open Cert.Ffn

variable {R : ℕ} (Y : Fin R → Fin 1024 → ℝ) (L : Fin 1 → Fin 1024 → ℝ) (T : Fin R → Fin 1024 → ℝ)

/-- The outputs less the targets. -/
def miss (r : Fin R) (c : Fin 1024) : ℝ := nrm Y L r c - T r c
/-- The loss: half of each row's mean square, summed over the rows. -/
def loss : ℝ := 1 / 2 * ∑ r, (∑ c, miss Y L T r c * miss Y L T r c) / 1024
/-- The gradient of the outputs. -/
def pull (r : Fin R) (c : Fin 1024) : ℝ := miss Y L T r c / 1024
/-- The gradient of the last rows. -/
def grad : Fin R → Fin 1024 → ℝ := dIn (fun _ _ => 0) Y (pull Y L T) L
/-- The gradient of the last gain. -/
def dLast (c : Fin 1024) : ℝ := dGain Y (pull Y L T) c

theorem lit_two : Idealize.ShloMosaic.Ideal.ofBits .f32 0x40000000#32 = ((2 : ℝ) : EReal) := by
  simp [Idealize.ShloMosaic.Ideal.ofBits, Idealize.ShloMosaic.Ideal.ieee, -EReal.coe_mul]; norm_num

end Cert.Head

namespace Cert.Head.Reference

open Cert.Reference6Ideal Cert.Reference6Ideal.Gen Cert.Reference6Ideal.Value Cert.Reference6Ideal.Read Idealize.ShloMosaic
open Cert.Ffn
open Cert.Fwd (slope half hid step)

variable (H : Fin 8192 → Fin 1024 → ℝ) (G : Fin 1 → Fin 1024 → ℝ) (P Q W : Fin 2816 → Fin 1024 → ℝ)

/-! The network's results are those of the network without the head. -/

theorem out_normed (i : S8192x1024.Idx) : val_main_v78 (F := Ideal) (up2 H) (up2 G) i = ((nrm H G (i 0) (i 1) : ℝ) : EReal) :=
  Cert.Fwd.Reference.normed H G i

theorem out_slope (i : S8192x2816.Idx) :
    val_main_v79 (F := Ideal) (up2 H) (up2 G) (up2 P) (up2 Q) i = ((slope H G P Q (i 0) (i 1) : ℝ) : EReal) :=
  Cert.Fwd.Reference.out_slope H G P Q i

theorem out_half (i : S8192x2816.Idx) :
    val_main_v80 (F := Ideal) (up2 H) (up2 G) (up2 P) i = ((half H G P (i 0) (i 1) : ℝ) : EReal) :=
  Cert.Fwd.Reference.out_half H G P i

theorem out_hid (i : S8192x2816.Idx) :
    val_main_v81 (F := Ideal) (up2 H) (up2 G) (up2 P) (up2 Q) i = ((hid H G P Q (i 0) (i 1) : ℝ) : EReal) :=
  Cert.Fwd.Reference.hidden H G P Q i

theorem last : val_main_v28 (F := Ideal) (up2 H) (up2 G) (up2 P) (up2 Q) (up2 W) = up2 (step H G P Q W) :=
  funext fun i => Cert.Fwd.Reference.out_step H G P Q W i

/-! The norm of the last rows is the norm of the gradient's reference. -/

variable (L : Fin 1 → Fin 1024 → ℝ) (T : Fin 8192 → Fin 1024 → ℝ)

/-- The last rows. -/
abbrev rows : Fin 8192 → Fin 1024 → ℝ := step H G P Q W

theorem factor (i : S8192x1.Idx) :
    val_main_v36 (F := Ideal) (up2 H) (up2 G) (up2 P) (up2 Q) (up2 W) i = ((rs (rows H G P Q W) (i 0) : ℝ) : EReal) := by
  have e : val_main_v36 (F := Ideal) (up2 H) (up2 G) (up2 P) (up2 Q) (up2 W)
      = Cert.ReferenceIdeal.Read.val_main_v12 (F := Ideal) (val_main_v28 (F := Ideal) (up2 H) (up2 G) (up2 P) (up2 Q) (up2 W)) := rfl
  rw [e, last]; exact Cert.Ffn.Reference.factor (rows H G P Q W) i

theorem bent (i : S8192x1.Idx) :
    val_main_v39 (F := Ideal) (up2 H) (up2 G) (up2 P) (up2 Q) (up2 W) i
      = ((-(1 / 2) * (rs (rows H G P Q W) (i 0) / ms (rows H G P Q W) (i 0)) : ℝ) : EReal) := by
  have e : val_main_v39 (F := Ideal) (up2 H) (up2 G) (up2 P) (up2 Q) (up2 W)
      = Cert.ReferenceIdeal.Read.val_main_v15 (F := Ideal) (val_main_v28 (F := Ideal) (up2 H) (up2 G) (up2 P) (up2 Q) (up2 W)) := rfl
  rw [e, last]; exact Cert.Ffn.Reference.slope (rows H G P Q W) i

theorem normal (i : S8192x1024.Idx) :
    val_main_v41 (F := Ideal) (up2 H) (up2 G) (up2 P) (up2 Q) (up2 W) i = ((hn (rows H G P Q W) (i 0) (i 1) : ℝ) : EReal) := by
  have e : val_main_v41 (F := Ideal) (up2 H) (up2 G) (up2 P) (up2 Q) (up2 W)
      = Cert.ReferenceIdeal.Read.val_main_v17 (F := Ideal) (val_main_v28 (F := Ideal) (up2 H) (up2 G) (up2 P) (up2 Q) (up2 W)) := rfl
  rw [e, last]; exact Cert.Ffn.Reference.normal (rows H G P Q W) i

theorem missed (i : S8192x1024.Idx) :
    val_main_v44 (F := Ideal) (up2 H) (up2 G) (up2 P) (up2 Q) (up2 W) (up2 L) (up2 T) i
      = ((miss (rows H G P Q W) L T (i 0) (i 1) : ℝ) : EReal) := by
  rw [val_main_v44_apply, val_main_v43_apply, val_main_v42_apply]
  exact sub_real (mul_real (normal H G P Q W i) rfl) rfl

/-! The loss. -/

/-- The loss of one row, twice. -/
theorem row_loss (j : S8192.Idx) :
    val_main_v50 (F := Ideal) (up2 H) (up2 G) (up2 P) (up2 Q) (up2 W) (up2 L) (up2 T) j
      = (((∑ c, miss (rows H G P Q W) L T (j 0) c * miss (rows H G P Q W) L T (j 0) c) / 1024 : ℝ) : EReal) := by
  rw [val_main_v50_apply, val_main_v48_apply, val_main_v49_apply]
  refine hostDiv_real (by norm_num) (zero_sum_real lit_zero _ _ fun k => ?_) lit_width
  rw [val_main_v45_apply]
  exact mul_real (missed H G P Q W L T _) (missed H G P Q W L T _)

/-- The indices of a list of numbers are its places. -/
def places : S8192.Idx ≃ Fin 8192 where
  toFun j := j 0
  invFun r := fun a => match a with | ⟨0, _⟩ => r
  left_inv j := funext fun a => match a with | ⟨0, _⟩ => rfl
  right_inv r := rfl

theorem out_loss (i : S8x128.Idx) :
    val_main_v82 (F := Ideal) (up2 H) (up2 G) (up2 P) (up2 Q) (up2 W) (up2 L) (up2 T) i
      = ((loss (rows H G P Q W) L T : ℝ) : EReal) := by
  rw [val_main_v82_apply, val_main_v52_apply, val_main_v51_apply]
  refine mul_real lit_half ?_
  rw [← places.symm.sum_comp]
  exact zero_sum_real lit_zero _ _ fun r => row_loss H G P Q W L T (places.symm r)

/-! The gradients. -/

theorem pulled (i : S8192x1024.Idx) :
    val_main_v58 (F := Ideal) (up2 H) (up2 G) (up2 P) (up2 Q) (up2 W) (up2 L) (up2 T) i
      = ((pull (rows H G P Q W) L T (i 0) (i 1) : ℝ) : EReal) := by
  rw [val_main_v58_apply, val_main_v57_apply, val_main_v56_apply, val_main_v54_apply, val_main_v53_apply, val_main_v55_apply,
    val_main_v47_apply, val_main_v46_apply]
  refine real_of_eq (mul_real (hostDiv_real (by norm_num) (mul_real lit_half lit_one) lit_width)
    (mul_real lit_two (missed H G P Q W L T i))) ?_
  unfold pull; ring

theorem out_last (i : S1x1024.Idx) :
    val_main_v61 (F := Ideal) (up2 H) (up2 G) (up2 P) (up2 Q) (up2 W) (up2 L) (up2 T) i
      = ((dLast (rows H G P Q W) L T (i 1) : ℝ) : EReal) := by
  have e : idx_main_v61 i = fun a => match a with | ⟨0, _⟩ => ⟨(i 1).val, (i 1).isLt⟩ := funext fun a => match a with
    | ⟨0, _⟩ => Fin.ext (by have h : (i 0).val < 1 := (i 0).isLt; show (i 0).val * 1024 + (i 1).val = (i 1).val; omega)
  rw [val_main_v61_apply, e, val_main_v60_apply]
  refine zero_sum_real lit_zero _ (fun k => pull (rows H G P Q W) L T k (i 1) * hn (rows H G P Q W) k (i 1)) fun k => ?_
  rw [val_main_v59_apply]
  exact real_of_eq (mul_real (normal H G P Q W _) (pulled H G P Q W L T _)) (mul_comm _ _)

theorem scaled (i : S8192x1024.Idx) :
    val_main_v63 (F := Ideal) (up2 H) (up2 G) (up2 P) (up2 Q) (up2 W) (up2 L) (up2 T) i
      = ((pull (rows H G P Q W) L T (i 0) (i 1) * L 0 (i 1) : ℝ) : EReal) := by
  rw [val_main_v63_apply, val_main_v62_apply]; exact mul_real (pulled H G P Q W L T i) rfl

/-- The sum over a row that reaches the row's mean square. -/
theorem gathered (j : S8192x1.Idx) :
    val_main_v66 (F := Ideal) (up2 H) (up2 G) (up2 P) (up2 Q) (up2 W) (up2 L) (up2 T) j
      = ((∑ k, rows H G P Q W (j 0) k * (pull (rows H G P Q W) L T (j 0) k * L 0 k) : ℝ) : EReal) := by
  have e : idx_main_v66 j = fun a => match a with | ⟨0, _⟩ => ⟨(j 0).val, (j 0).isLt⟩ := funext fun a => match a with
    | ⟨0, _⟩ => Fin.ext (by have h : (j 1).val < 1 := (j 1).isLt; show (j 0).val * 1 + (j 1).val = (j 0).val; omega)
  rw [val_main_v66_apply, e, val_main_v65_apply]
  refine zero_sum_real lit_zero _ _ fun k => ?_
  rw [val_main_v64_apply, last]; exact mul_real rfl (scaled H G P Q W L T _)

/-- What reaches the mean square of a row, spread over the row. -/
theorem spread (i : S8192x1024.Idx) :
    val_main_v73 (F := Ideal) (up2 H) (up2 G) (up2 P) (up2 Q) (up2 W) (up2 L) (up2 T) i
      = (((∑ k, rows H G P Q W (i 0) k * (pull (rows H G P Q W) L T (i 0) k * L 0 k))
        * (-(1 / 2) * (rs (rows H G P Q W) (i 0) / ms (rows H G P Q W) (i 0))) / 1024 : ℝ) : EReal) := by
  rw [val_main_v73_apply, val_main_v72_apply]
  refine (zero_sum_real lit_zero _ (fun _ => (∑ k, rows H G P Q W (i 0) k * (pull (rows H G P Q W) L T (i 0) k * L 0 k))
    * (-(1 / 2) * (rs (rows H G P Q W) (i 0) / ms (rows H G P Q W) (i 0))) / 1024) fun k => ?_).trans ?_
  · rw [val_main_v71_apply, val_main_v69_apply]
    refine hostDiv_real (by norm_num) (mul_real (gathered H G P Q W L T _) (bent H G P Q W _)) ?_
    rw [val_main_v70_apply]; exact lit_width
  · rw [Fin.sum_univ_one]

theorem out_grad (i : S8192x1024.Idx) :
    val_main_v77 (F := Ideal) (up2 H) (up2 G) (up2 P) (up2 Q) (up2 W) (up2 L) (up2 T) i
      = ((grad (rows H G P Q W) L T (i 0) (i 1) : ℝ) : EReal) := by
  rw [val_main_v77_apply, val_main_v75_apply, val_main_v68_apply, val_main_v67_apply, val_main_v74_apply, val_main_v76_apply, last]
  refine real_of_eq (add_real (add_real (mul_real (scaled H G P Q W L T i) (factor H G P Q W _))
    (mul_real rfl (spread H G P Q W L T i))) (mul_real (spread H G P Q W L T i) rfl)) ?_
  refine Eq.trans ?_ (dIn_chain (fun _ _ => 0) (rows H G P Q W) (pull (rows H G P Q W) L T) L (i 0) (i 1))
  rw [zero_add, add_assoc]
  rfl

end Cert.Head.Reference

end
-- ==== Proof.HeadPay.lean ====
/-
  The values of the loss head's body at one row tile, at operands whose elements are real numbers, as the real functions of
  the last rows.
-/
module

public import proofs.«01_k».proof.Proof.Gen.Kernel6Ideal.Value
public import proofs.«01_k».proof.Proof.FwdPay
public import proofs.«01_k».proof.Proof.HeadReference
public import Idealize.ShloMosaic.Lib.Pointwise
public import Idealize.ShloMosaic.Lib.Pipeline.ValueKit

@[expose] public section

set_option maxRecDepth 16384
set_option maxHeartbeats 1600000

noncomputable section

namespace Cert.Head

variable {R : ℕ} (Y : Fin R → Fin 1024 → ℝ) (L : Fin 1 → Fin 1024 → ℝ) (T : Fin R → Fin 1024 → ℝ)

/-- A tile's part of the loss. -/
def part : ℝ := 1 / 2048 * ∑ r, ∑ c, miss Y L T r c * miss Y L T r c

end Cert.Head

namespace Cert.Head.Pay

open Cert.Kernel6Ideal Cert.Kernel6Ideal.Gen Idealize.ShloMosaic
open Cert.Ffn
open Cert.Ffn.Pay (ext2)

theorem lit_part : Ideal.ofBits .f32 0x3A000000#32 = ((1 / 2048 : ℝ) : EReal) := by
  simp [Ideal.ofBits, Ideal.ieee, -EReal.coe_mul]; norm_num

theorem lit_share : Ideal.ofBits .f32 0x3A800000#32 = ((1 / 1024 : ℝ) : EReal) := by
  simp [Ideal.ofBits, Ideal.ieee, -EReal.coe_mul]; norm_num

section
variable {x : Vec Ideal S512x1024 .f32} {a : Vec Ideal S512x1024 .f32} {b : Vec Ideal S512x768 .bf16} {w : Vec Ideal S768x1024 .bf16}
  {Y : Fin 512 → Fin 1024 → ℝ} (hy : k0_pay33 (F := Ideal) x a b w = up2 Y) (L : Fin 1 → Fin 1024 → ℝ) (T : Fin 512 → Fin 1024 → ℝ)
include hy

theorem factor : k0_pay34 (F := Ideal) x a b w = up2 fun r (_ : Fin 1) => rs Y r := by
  unfold k0_pay34
  rw [hy]
  refine ext2 fun r c => ?_
  refine Eq.trans ?_ (rsqrt_ms Y r)
  pointwise
  exact congrArg Ideal.rsqrt (add_real (φ := .f32) (quot_real (φ := .f32) (by norm_num)
    (sum_real _ (fun k => Y r k * Y r k) fun k => (EReal.coe_mul _ _).symm) lit_width) lit_eps)

theorem normal : k0_pay35 (F := Ideal) x a b w = up2 (hn Y) := by
  unfold k0_pay35
  rw [hy, factor hy]
  refine ext2 fun r c => mul_real rfl ?_
  pointwise
  rfl

theorem missed : k0_pay36 (F := Ideal) x a b w (up2 L) (up2 T) = up2 (miss Y L T) := by
  unfold k0_pay36
  rw [normal hy]
  refine ext2 fun r c => sub_real (mul_real rfl (b := L 0 c) ?_) rfl
  pointwise
  rfl

theorem parted : k0_pay37 (F := Ideal) x a b w (up2 L) (up2 T) = up2 fun (_ _ : Fin 1) => part Y L T := by
  unfold k0_pay37
  rw [missed hy]
  refine ext2 fun r c => mul_real lit_part ?_
  pointwise
  exact sum_real _ _ fun r => sum_real _ _ fun c => (EReal.coe_mul _ _).symm

theorem pulled : k0_pay38 (F := Ideal) x a b w (up2 L) (up2 T) = up2 (pull Y L T) := by
  unfold k0_pay38
  rw [missed hy]
  refine ext2 fun r c => real_of_eq (mul_real rfl lit_share) ?_
  change miss Y L T r c * (1 / 1024) = miss Y L T r c / 1024
  ring

theorem scaled : k0_pay39 (F := Ideal) x a b w (up2 L) (up2 T) = up2 fun r c => pull Y L T r c * L 0 c := by
  unfold k0_pay39
  rw [pulled hy]
  refine ext2 fun r c => mul_real rfl ?_
  pointwise
  rfl

theorem mean : k0_pay40 (F := Ideal) x a b w (up2 L) (up2 T)
    = up2 fun r (_ : Fin 1024) => (∑ k, pull Y L T r k * L 0 k * hn Y r k) / 1024 := by
  unfold k0_pay40
  rw [scaled hy, normal hy]
  refine ext2 fun r c => ?_
  pointwise
  exact quot_real (φ := .f32) (by norm_num) (sum_real _ _ fun k => mul_real (φ := .f32) rfl rfl) lit_width

/-- The gradient of the last rows. -/
theorem graded : k0_pay1 (F := Ideal) (k0_pay34 (F := Ideal) x a b w) (k0_pay35 (F := Ideal) x a b w)
    (k0_pay39 (F := Ideal) x a b w (up2 L) (up2 T)) (k0_pay40 (F := Ideal) x a b w (up2 L) (up2 T)) = up2 (grad Y L T) := by
  unfold k0_pay1
  rw [factor hy, normal hy, scaled hy, mean hy]
  refine ext2 fun r c => real_of_eq (mul_real (a := rs Y r) ?_ (sub_real rfl (mul_real rfl rfl))) (zero_add _).symm
  pointwise
  rfl

/-- The loss: what the tiles before left, plus this tile's part. -/
theorem loss_step (S : Fin 8 → Fin 128 → ℝ) : k0_pay2 (F := Ideal) (k0_pay37 (F := Ideal) x a b w (up2 L) (up2 T)) (up2 S)
    = up2 fun z c => S z c + part Y L T := by
  unfold k0_pay2
  rw [parted hy]
  refine ext2 fun r c => add_real (by rw [shapeCast_self]; rfl) ?_
  pointwise
  rfl

/-- The last gain's gradient: what the tiles before left, plus this tile's column sums. -/
theorem last_step (S : Fin 1 → Fin 1024 → ℝ) : k0_pay3 (F := Ideal) (k0_pay35 (F := Ideal) x a b w) (k0_pay38 (F := Ideal) x a b w (up2 L) (up2 T)) (up2 S)
    = up2 fun z c => S z c + dLast Y L T c := by
  unfold k0_pay3
  rw [normal hy, pulled hy]
  refine ext2 fun r c => add_real (by rw [shapeCast_self]; rfl) ?_
  pointwise
  exact sum_real _ _ fun k => (EReal.coe_mul _ _).symm
end

/-! ## The last rows, over the body's operands -/

open Cert.Fwd.Pay (w1 w2 w3)

/-- The down projection of the first two chunks. -/
abbrev two (n : Vec Ideal S512x1024 .bf16) (p q w : Vec Ideal S2816x1024 .bf16) : Vec Ideal S512x1024 .f32 :=
  Cert.Kernel5Ideal.Gen.k0_pay22 (F := Ideal) (Cert.Kernel5Ideal.Gen.k0_pay12 (F := Ideal) (Cert.Kernel5Ideal.Gen.k0_pay4 (F := Ideal))
    (Cert.Kernel5Ideal.Gen.k0_pay17 (F := Ideal) n (w1 p) (w1 q)) (w1 w)) (Cert.Kernel5Ideal.Gen.k0_pay17 (F := Ideal) n (w2 p) (w2 q)) (w2 w)
/-- The hidden columns of the last chunk. -/
abbrev three (n : Vec Ideal S512x1024 .bf16) (p q : Vec Ideal S2816x1024 .bf16) : Vec Ideal S512x768 .bf16 :=
  Cert.Kernel5Ideal.Gen.k0_pay27 (F := Ideal) n (w3 p) (w3 q)

variable (H : Fin 512 → Fin 1024 → ℝ) (G : Fin 1 → Fin 1024 → ℝ) (P Q W : Fin 2816 → Fin 1024 → ℝ)

theorem rows_real : k0_pay33 (F := Ideal) (up2 H) (two (up2 (nrm H G)) (up2 P) (up2 Q) (up2 W)) (three (up2 (nrm H G)) (up2 P) (up2 Q)) (w3 (up2 W))
    = up2 (Cert.Fwd.step H G P Q W) :=
  Cert.Fwd.Pay.after_real H G P Q W

end Cert.Head.Pay

end
-- ==== Proof.HeadArray.lean ====
/-
  The arrays after the network's forward call with the loss head has run over its 16 row tiles.
-/
module

public import proofs.«01_k».proof.Proof.HeadPay
public import proofs.«01_k».proof.Proof.ProjArray
public import Idealize.ShloMosaic.Lib.Pipeline.ValueKit
public import Idealize.ShloMosaic.Lib.Pipeline.ReadBack

@[expose] public section

set_option maxRecDepth 16384
set_option maxHeartbeats 1600000

noncomputable section

namespace Cert.HeadArray

open Cert.Kernel6Ideal Cert.Kernel6Ideal.Gen Idealize.ShloMosaic Idealize.ShloMosaic.TcCoe Idealize.SL.Sem
open Idealize.ShloMosaic.Pipeline (Dat)
open Cert.Ffn (up2 nrm)
open Cert.Ffn.Pay (ext2)
open Cert.Fwd (slope half hid step)
open Cert.Fwd.Pay (slopes halves hids w3 slopes_real halves_real hids_real)
open Cert.Head (part loss grad pull dLast miss)
open Cert.Head.Pay (two three rows_real)
open Cert.ProjArray (rows)

theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![0, 0] ∧ win0_2.index t = ![0, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0])

variable (m : (ℓ : Loc nD τ Cert.Kernel6Ideal.sig) → Buf (Elt Ideal) ℓ) (c : Dev nD)

/-! ## The weights stay in the scratch -/

theorem kept0 (n : ℕ) (hn : n < cfg0.N) : (outsAt0 m c n hn).2.2.2.2.2.2.2.1 = m ((c : Thread nD τ).loc main_arg2) := by
  induction n with
  | zero =>
    rw [outsAt0_A m c ⟨0, hn⟩ rfl]
    frame_out
    refine (View.canon_unit_zero (S := S2816x1024) (off := fun _ => 0) rfl _ _).trans ?_
    exact V_main_arg2 m c
  | succ n ih =>
    rw [outsAt0_B m c ⟨n + 1, hn⟩ (by show ¬ (n + 1) % 16 = 0; have : n + 1 < 16 := hn; omega)]
    dsimp only
    unfold sout0_B_0
    exact ih (by omega)

theorem kept1 (n : ℕ) (hn : n < cfg0.N) : (outsAt0 m c n hn).2.2.2.2.2.2.2.2.1 = m ((c : Thread nD τ).loc main_arg3) := by
  induction n with
  | zero =>
    rw [outsAt0_A m c ⟨0, hn⟩ rfl]
    frame_out
    refine (View.canon_unit_zero (S := S2816x1024) (off := fun _ => 0) rfl _ _).trans ?_
    exact V_main_arg3 m c
  | succ n ih =>
    rw [outsAt0_B m c ⟨n + 1, hn⟩ (by show ¬ (n + 1) % 16 = 0; have : n + 1 < 16 := hn; omega)]
    dsimp only
    unfold sout0_B_1
    exact ih (by omega)

theorem kept2 (n : ℕ) (hn : n < cfg0.N) : (outsAt0 m c n hn).2.2.2.2.2.2.2.2.2 = m ((c : Thread nD τ).loc main_arg4) := by
  induction n with
  | zero =>
    rw [outsAt0_A m c ⟨0, hn⟩ rfl]
    frame_out
    refine (View.canon_unit_zero (S := S2816x1024) (off := fun _ => 0) rfl _ _).trans ?_
    exact V_main_arg4 m c
  | succ n ih =>
    rw [outsAt0_B m c ⟨n + 1, hn⟩ (by show ¬ (n + 1) % 16 = 0; have : n + 1 < 16 := hn; omega)]
    dsimp only
    unfold sout0_B_2
    exact ih (by omega)

/-- A load from a scratch that was stored whole. -/
theorem loaded {κ : Kind} {sp : Space} (v : View Cert.Kernel6Ideal.sig κ sp S2816x1024 .bf16) (X : Vec Ideal S2816x1024 .bf16) (r : Rect S2816x1024) :
    v.readCov (Val := Elt Ideal) [(⟨Rect.whole S2816x1024, X⟩ : View.Piece (Elt Ideal) S2816x1024 .bf16)] r.toLoadRect = View.ld X r := by
  rw [View.readCov_eq_canon_ld _ _ _ (fun y => ⟨_, List.mem_singleton_self _, by
    show y ∈ (Rect.whole S2816x1024).set; rw [Rect.set_whole]; exact Finset.mem_univ y⟩)]
  exact congrArg (fun Y => View.ld Y r) (View.canon_unit_zero (S := S2816x1024) (off := fun _ => 0) rfl _ _)

/-! ## What a tile leaves, over its blocks -/

section
variable (t : Fin cfg0.N)

theorem leaves_grad : (outsAt0 m c t.val t.isLt).1 = (fun x g l y p q w => k0_pay1 (F := Ideal) (k0_pay34 (F := Ideal) x (two (Cert.Kernel5Ideal.Gen.k0_pay3 (F := Ideal) x g) p q w) (three (Cert.Kernel5Ideal.Gen.k0_pay3 (F := Ideal) x g) p q) (w3 w)) (k0_pay35 (F := Ideal) x (two (Cert.Kernel5Ideal.Gen.k0_pay3 (F := Ideal) x g) p q w) (three (Cert.Kernel5Ideal.Gen.k0_pay3 (F := Ideal) x g) p q) (w3 w)) (k0_pay39 (F := Ideal) x (two (Cert.Kernel5Ideal.Gen.k0_pay3 (F := Ideal) x g) p q w) (three (Cert.Kernel5Ideal.Gen.k0_pay3 (F := Ideal) x g) p q) (w3 w) l y) (k0_pay40 (F := Ideal) x (two (Cert.Kernel5Ideal.Gen.k0_pay3 (F := Ideal) x g) p q w) (three (Cert.Kernel5Ideal.Gen.k0_pay3 (F := Ideal) x g) p q) (w3 w) l y)) (iblk m c 0 t) (iblk m c 1 t) (iblk m c 2 t) (iblk m c 3 t) (m ((c : Thread nD τ).loc main_arg2)) (m ((c : Thread nD τ).loc main_arg3)) (m ((c : Thread nD τ).loc main_arg4)) := by
  by_cases h : t.val % 16 = 0
  · rw [outsAt0_A m c t h]; frame_out
    simp only [loaded]
    rw [← V_main_arg2 m c, ← V_main_arg3 m c, ← V_main_arg4 m c]; rfl
  · rw [outsAt0_B m c t h]; frame_out
    simp only [read_unread_whole, kept0, kept1, kept2]
    rfl

theorem leaves_normal : (outsAt0 m c t.val t.isLt).2.1 = (fun x g => Cert.Kernel5Ideal.Gen.k0_pay3 (F := Ideal) x g) (iblk m c 0 t) (iblk m c 1 t)  := by
  by_cases h : t.val % 16 = 0
  · rw [outsAt0_A m c t h]; frame_out; rfl
  · rw [outsAt0_B m c t h]; frame_out; rfl

theorem leaves_slope : (outsAt0 m c t.val t.isLt).2.2.1 = (fun x g p q => slopes (Cert.Kernel5Ideal.Gen.k0_pay3 (F := Ideal) x g) p q) (iblk m c 0 t) (iblk m c 1 t) (m ((c : Thread nD τ).loc main_arg2)) (m ((c : Thread nD τ).loc main_arg3)) := by
  by_cases h : t.val % 16 = 0
  · rw [outsAt0_A m c t h]; frame_out
    simp only [loaded]
    rw [← V_main_arg2 m c, ← V_main_arg3 m c]; rfl
  · rw [outsAt0_B m c t h]; frame_out
    simp only [read_unread_whole, kept0, kept1]
    rfl

theorem leaves_half : (outsAt0 m c t.val t.isLt).2.2.2.1 = (fun x g p => halves (Cert.Kernel5Ideal.Gen.k0_pay3 (F := Ideal) x g) p) (iblk m c 0 t) (iblk m c 1 t) (m ((c : Thread nD τ).loc main_arg2)) := by
  by_cases h : t.val % 16 = 0
  · rw [outsAt0_A m c t h]; frame_out
    simp only [loaded]
    rw [← V_main_arg2 m c]; rfl
  · rw [outsAt0_B m c t h]; frame_out
    simp only [read_unread_whole, kept0]
    rfl

theorem leaves_hid : (outsAt0 m c t.val t.isLt).2.2.2.2.1 = (fun x g p q => hids (Cert.Kernel5Ideal.Gen.k0_pay3 (F := Ideal) x g) p q) (iblk m c 0 t) (iblk m c 1 t) (m ((c : Thread nD τ).loc main_arg2)) (m ((c : Thread nD τ).loc main_arg3)) := by
  by_cases h : t.val % 16 = 0
  · rw [outsAt0_A m c t h]; frame_out
    simp only [loaded]
    rw [← V_main_arg2 m c, ← V_main_arg3 m c]; rfl
  · rw [outsAt0_B m c t h]; frame_out
    simp only [read_unread_whole, kept0, kept1]
    rfl

/-- What a tile leaves, over what was there before. -/
abbrev lossOf (prev : Vec Ideal S8x128 .f32) : Vec Ideal S8x128 .f32 := (fun x g l y p q w => k0_pay2 (F := Ideal) (k0_pay37 (F := Ideal) x (two (Cert.Kernel5Ideal.Gen.k0_pay3 (F := Ideal) x g) p q w) (three (Cert.Kernel5Ideal.Gen.k0_pay3 (F := Ideal) x g) p q) (w3 w) l y) prev) (iblk m c 0 t) (iblk m c 1 t) (iblk m c 2 t) (iblk m c 3 t) (m ((c : Thread nD τ).loc main_arg2)) (m ((c : Thread nD τ).loc main_arg3)) (m ((c : Thread nD τ).loc main_arg4))

theorem leaves_loss_first (h : t.val % 16 = 0) : (outsAt0 m c t.val t.isLt).2.2.2.2.2.1 = lossOf m c t (k0_pay4 (F := Ideal)) := by
  rw [outsAt0_A m c t h]; frame_out
  simp only [loaded]
  unfold lossOf
  rw [← V_main_arg2 m c, ← V_main_arg3 m c, ← V_main_arg4 m c]; rfl

theorem leaves_loss (h : ¬ t.val % 16 = 0) : (outsAt0 m c t.val t.isLt).2.2.2.2.2.1 = lossOf m c t (outsAt0 m c (t.val - 1) (by omega)).2.2.2.2.2.1 := by
  rw [outsAt0_B m c t h]; frame_out
  simp only [read_unread_whole, kept0, kept1, kept2]
  rfl

/-- What a tile leaves, over what was there before. -/
abbrev lastOf (prev : Vec Ideal S1x1024 .f32) : Vec Ideal S1x1024 .f32 := (fun x g l y p q w => k0_pay3 (F := Ideal) (k0_pay35 (F := Ideal) x (two (Cert.Kernel5Ideal.Gen.k0_pay3 (F := Ideal) x g) p q w) (three (Cert.Kernel5Ideal.Gen.k0_pay3 (F := Ideal) x g) p q) (w3 w)) (k0_pay38 (F := Ideal) x (two (Cert.Kernel5Ideal.Gen.k0_pay3 (F := Ideal) x g) p q w) (three (Cert.Kernel5Ideal.Gen.k0_pay3 (F := Ideal) x g) p q) (w3 w) l y) prev) (iblk m c 0 t) (iblk m c 1 t) (iblk m c 2 t) (iblk m c 3 t) (m ((c : Thread nD τ).loc main_arg2)) (m ((c : Thread nD τ).loc main_arg3)) (m ((c : Thread nD τ).loc main_arg4))

theorem leaves_last_first (h : t.val % 16 = 0) : (outsAt0 m c t.val t.isLt).2.2.2.2.2.2.1 = lastOf m c t (k0_pay5 (F := Ideal)) := by
  rw [outsAt0_A m c t h]; frame_out
  simp only [loaded]
  unfold lastOf
  rw [← V_main_arg2 m c, ← V_main_arg3 m c, ← V_main_arg4 m c]; rfl

theorem leaves_last (h : ¬ t.val % 16 = 0) : (outsAt0 m c t.val t.isLt).2.2.2.2.2.2.1 = lastOf m c t (outsAt0 m c (t.val - 1) (by omega)).2.2.2.2.2.2.1 := by
  rw [outsAt0_B m c t h]; frame_out
  simp only [read_unread_whole, kept0, kept1, kept2]
  rfl

end

/-! ## The blocks, at arguments whose elements are real numbers -/

/-- The arguments hold these real numbers. -/
structure Holds (H : Fin 8192 → Fin 1024 → ℝ) (G : Fin 1 → Fin 1024 → ℝ) (P Q W : Fin 2816 → Fin 1024 → ℝ)
    (L : Fin 1 → Fin 1024 → ℝ) (T : Fin 8192 → Fin 1024 → ℝ) : Prop where
  rows : m ((c : Thread nD τ).loc main_arg0) = up2 H
  gain : m ((c : Thread nD τ).loc main_arg1) = up2 G
  gate : m ((c : Thread nD τ).loc main_arg2) = up2 P
  upward : m ((c : Thread nD τ).loc main_arg3) = up2 Q
  down : m ((c : Thread nD τ).loc main_arg4) = up2 W
  final : m ((c : Thread nD τ).loc main_arg5) = up2 L
  target : m ((c : Thread nD τ).loc main_arg6) = up2 T

variable {m c}
variable {H : Fin 8192 → Fin 1024 → ℝ} {G : Fin 1 → Fin 1024 → ℝ} {P Q W : Fin 2816 → Fin 1024 → ℝ}
  {L : Fin 1 → Fin 1024 → ℝ} {T : Fin 8192 → Fin 1024 → ℝ} (hm : Holds m c H G P Q W L T)
include hm

theorem block0 (t : Fin cfg0.N) : iblk m c 0 t = up2 (rows t H) := by
  have e := (idx t).1
  refine ext2 fun r f => ?_
  have hV : V m c main_arg0 = up2 H := (V_main_arg0 m c).trans hm.rows
  have hR : iblk m c 0 t (ix2 r f) = V m c main_arg0 (ix2 ⟨512 * t.val + r.val, by have : t.val < 16 := t.isLt; omega⟩ f) := by
    blk_ext [iblk, e]
  rw [hR, hV]; rfl

theorem block1 (t : Fin cfg0.N) : iblk m c 1 t = up2 G := by
  have e := (idx t).2.1
  refine ext2 fun r f => ?_
  have hV : V m c main_arg1 = up2 G := (V_main_arg1 m c).trans hm.gain
  have hR : iblk m c 1 t (ix2 r f) = V m c main_arg1 (ix2 r f) := by
    blk_ext [iblk, e]
  rw [hR, hV]; rfl

theorem block2 (t : Fin cfg0.N) : iblk m c 2 t = up2 L := by
  have e := (idx t).2.2.1
  refine ext2 fun r f => ?_
  have hV : V m c main_arg5 = up2 L := (V_main_arg5 m c).trans hm.final
  have hR : iblk m c 2 t (ix2 r f) = V m c main_arg5 (ix2 r f) := by
    blk_ext [iblk, e]
  rw [hR, hV]; rfl

theorem block3 (t : Fin cfg0.N) : iblk m c 3 t = up2 (rows t T) := by
  have e := (idx t).2.2.2.1
  refine ext2 fun r f => ?_
  have hV : V m c main_arg6 = up2 T := (V_main_arg6 m c).trans hm.target
  have hR : iblk m c 3 t (ix2 r f) = V m c main_arg6 (ix2 ⟨512 * t.val + r.val, by have : t.val < 16 := t.isLt; omega⟩ f) := by
    blk_ext [iblk, e]
  rw [hR, hV]; rfl

/-! ## What a tile leaves -/

theorem tile_grad (t : Fin cfg0.N) : (outsAt0 m c t.val t.isLt).1 = up2 (rows t (grad (step H G P Q W) L T)) := by
  rw [leaves_grad, block0 hm, block1 hm, block2 hm, block3 hm, hm.gate, hm.upward, hm.down]
  dsimp only
  rw [Cert.Fwd.Pay.normed, Cert.Head.Pay.graded (rows_real (rows t H) G P Q W)]; rfl

theorem tile_normal (t : Fin cfg0.N) : (outsAt0 m c t.val t.isLt).2.1 = up2 (rows t (nrm H G)) := by
  rw [leaves_normal, block0 hm, block1 hm]
  dsimp only
  rw [Cert.Fwd.Pay.normed]; rfl

theorem tile_slope (t : Fin cfg0.N) : (outsAt0 m c t.val t.isLt).2.2.1 = up2 (rows t (slope H G P Q)) := by
  rw [leaves_slope, block0 hm, block1 hm, hm.gate, hm.upward]
  dsimp only
  rw [Cert.Fwd.Pay.normed, slopes_real]; rfl

theorem tile_half (t : Fin cfg0.N) : (outsAt0 m c t.val t.isLt).2.2.2.1 = up2 (rows t (half H G P)) := by
  rw [leaves_half, block0 hm, block1 hm, hm.gate]
  dsimp only
  rw [Cert.Fwd.Pay.normed, halves_real]; rfl

theorem tile_hid (t : Fin cfg0.N) : (outsAt0 m c t.val t.isLt).2.2.2.2.1 = up2 (rows t (hid H G P Q)) := by
  rw [leaves_hid, block0 hm, block1 hm, hm.gate, hm.upward]
  dsimp only
  rw [Cert.Fwd.Pay.normed, hids_real]; rfl

/-- One tile's part. -/
theorem tile_loss (t : Fin cfg0.N) (S : Fin 8 → Fin 128 → ℝ) :
    lossOf m c t (up2 S) = up2 fun z f => S z f + part (rows t (step H G P Q W)) L (rows t T) := by
  unfold lossOf
  rw [block0 hm, block1 hm, block2 hm, block3 hm, hm.gate, hm.upward, hm.down]
  dsimp only
  rw [Cert.Fwd.Pay.normed, Cert.Head.Pay.loss_step (rows_real (rows t H) G P Q W)]; rfl

/-- One tile's part. -/
theorem tile_last (t : Fin cfg0.N) (S : Fin 1 → Fin 1024 → ℝ) :
    lastOf m c t (up2 S) = up2 fun z f => S z f + Cert.Ffn.dGain (rows t (step H G P Q W)) (rows t (pull (step H G P Q W) L T)) f := by
  unfold lastOf
  rw [block0 hm, block1 hm, block2 hm, block3 hm, hm.gate, hm.upward, hm.down]
  dsimp only
  rw [Cert.Fwd.Pay.normed, Cert.Head.Pay.last_step (rows_real (rows t H) G P Q W)]; rfl

theorem loss_upto (n : ℕ) (hn : n < cfg0.N) : (outsAt0 m c n hn).2.2.2.2.2.1
    = up2 fun _ _ => ∑ k : Fin (n + 1), part (rows ⟨k.val, by have : n < 16 := hn; omega⟩ (step H G P Q W)) L (rows ⟨k.val, by have : n < 16 := hn; omega⟩ T) := by
  induction n with
  | zero =>
    rw [leaves_loss_first m c ⟨0, hn⟩ rfl]
    have e : k0_pay4 (F := Ideal) = up2 fun _ _ => 0 := ext2 fun r f => Cert.Ffn.lit_zero
    rw [e, tile_loss hm]
    refine ext2 fun r f => congrArg Real.toEReal ?_
    rw [Fin.sum_univ_one]; exact zero_add _
  | succ n ih =>
    rw [leaves_loss m c ⟨n + 1, hn⟩ (by show ¬ (n + 1) % 16 = 0; have : n + 1 < 16 := hn; omega)]
    have e := ih (by omega)
    have e' : (outsAt0 m c ((⟨n + 1, hn⟩ : Fin cfg0.N).val - 1) (by show n < cfg0.N; omega)).2.2.2.2.2.1 = (outsAt0 m c n (by omega)).2.2.2.2.2.1 := rfl
    rw [e', e, tile_loss hm]
    refine ext2 fun r f => congrArg Real.toEReal ?_
    rw [Fin.sum_univ_castSucc (n := n + 1)]; rfl

theorem last_upto (n : ℕ) (hn : n < cfg0.N) : (outsAt0 m c n hn).2.2.2.2.2.2.1
    = up2 fun _ f => ∑ k : Fin (n + 1), Cert.Ffn.dGain (rows ⟨k.val, by have : n < 16 := hn; omega⟩ (step H G P Q W)) (rows ⟨k.val, by have : n < 16 := hn; omega⟩ (pull (step H G P Q W) L T)) f := by
  induction n with
  | zero =>
    rw [leaves_last_first m c ⟨0, hn⟩ rfl]
    have e : k0_pay5 (F := Ideal) = up2 fun _ _ => 0 := ext2 fun r f => Cert.Ffn.lit_zero
    rw [e, tile_last hm]
    refine ext2 fun r f => congrArg Real.toEReal ?_
    rw [Fin.sum_univ_one]; exact zero_add _
  | succ n ih =>
    rw [leaves_last m c ⟨n + 1, hn⟩ (by show ¬ (n + 1) % 16 = 0; have : n + 1 < 16 := hn; omega)]
    have e := ih (by omega)
    have e' : (outsAt0 m c ((⟨n + 1, hn⟩ : Fin cfg0.N).val - 1) (by show n < cfg0.N; omega)).2.2.2.2.2.2.1 = (outsAt0 m c n (by omega)).2.2.2.2.2.2.1 := rfl
    rw [e', e, tile_last hm]
    refine ext2 fun r f => congrArg Real.toEReal ?_
    rw [Fin.sum_univ_castSucc (n := n + 1)]; rfl

/-! ## The arrays -/

theorem array_grad : (dats m 0 c).arrAt 4 cfg0.N = up2 (grad (step H G P Q W) L T) := by
  refine (dats m 0 c).arrAt_eq_of_covers 4 _ (by decide +kernel) fun t hf y => ?_
  blk_simp
  rw [after0_4, tile_grad hm t]
  have e := (idx t).2.2.2.2.1
  have ht : t.val < 16 := t.isLt
  have hy : (y 0).val < 512 := (y 0).isLt
  have e' : up2 (grad (step H G P Q W) L T) ((win0_4.blk t).view.emb y) = up2 (grad (step H G P Q W) L T) (ix2 ⟨512 * t.val + (y 0).val, by omega⟩ (y 1)) := by
    blk_ext [e]
  rw [e']; rfl

theorem array_normal : (dats m 0 c).arrAt 5 cfg0.N = up2 (nrm H G) := by
  refine (dats m 0 c).arrAt_eq_of_covers 5 _ (by decide +kernel) fun t hf y => ?_
  blk_simp
  rw [after0_5, tile_normal hm t]
  have e := (idx t).2.2.2.2.2.1
  have ht : t.val < 16 := t.isLt
  have hy : (y 0).val < 512 := (y 0).isLt
  have e' : up2 (nrm H G) ((win0_5.blk t).view.emb y) = up2 (nrm H G) (ix2 ⟨512 * t.val + (y 0).val, by omega⟩ (y 1)) := by
    blk_ext [e]
  rw [e']; rfl

theorem array_slope : (dats m 0 c).arrAt 6 cfg0.N = up2 (slope H G P Q) := by
  refine (dats m 0 c).arrAt_eq_of_covers 6 _ (by decide +kernel) fun t hf y => ?_
  blk_simp
  rw [after0_6, tile_slope hm t]
  have e := (idx t).2.2.2.2.2.2.1
  have ht : t.val < 16 := t.isLt
  have hy : (y 0).val < 512 := (y 0).isLt
  have e' : up2 (slope H G P Q) ((win0_6.blk t).view.emb y) = up2 (slope H G P Q) (ix2 ⟨512 * t.val + (y 0).val, by omega⟩ (y 1)) := by
    blk_ext [e]
  rw [e']; rfl

theorem array_half : (dats m 0 c).arrAt 7 cfg0.N = up2 (half H G P) := by
  refine (dats m 0 c).arrAt_eq_of_covers 7 _ (by decide +kernel) fun t hf y => ?_
  blk_simp
  rw [after0_7, tile_half hm t]
  have e := (idx t).2.2.2.2.2.2.2.1
  have ht : t.val < 16 := t.isLt
  have hy : (y 0).val < 512 := (y 0).isLt
  have e' : up2 (half H G P) ((win0_7.blk t).view.emb y) = up2 (half H G P) (ix2 ⟨512 * t.val + (y 0).val, by omega⟩ (y 1)) := by
    blk_ext [e]
  rw [e']; rfl

theorem array_hid : (dats m 0 c).arrAt 8 cfg0.N = up2 (hid H G P Q) := by
  refine (dats m 0 c).arrAt_eq_of_covers 8 _ (by decide +kernel) fun t hf y => ?_
  blk_simp
  rw [after0_8, tile_hid hm t]
  have e := (idx t).2.2.2.2.2.2.2.2
  have ht : t.val < 16 := t.isLt
  have hy : (y 0).val < 512 := (y 0).isLt
  have e' : up2 (hid H G P Q) ((win0_8.blk t).view.emb y) = up2 (hid H G P Q) (ix2 ⟨512 * t.val + (y 0).val, by omega⟩ (y 1)) := by
    blk_ext [e]
  rw [e']; rfl

omit hm in
/-- The 16 tiles' parts of the loss add up to the whole. -/
theorem losses (Y T : Fin 8192 → Fin 1024 → ℝ) : ∑ k : Fin 16, part (rows k Y) L (rows k T) = loss Y L T := by
  unfold part loss
  rw [← finProdFinEquiv.sum_comp (fun r : Fin (16 * 512) => (∑ c, miss Y L T r c * miss Y L T r c) / 1024), Fintype.sum_prod_type, Finset.mul_sum]
  refine Finset.sum_congr rfl fun k _ => ?_
  rw [Finset.mul_sum, Finset.mul_sum]
  refine Finset.sum_congr rfl fun r _ => ?_
  have e : (finProdFinEquiv (k, r) : Fin (16 * 512)) = ⟨512 * k.val + r.val, by omega⟩ := Fin.ext (by simp [finProdFinEquiv]; omega)
  rw [e]
  refine Eq.trans ?_ (show 1 / 2048 * (∑ c, miss Y L T ⟨512 * k.val + r.val, by omega⟩ c * miss Y L T ⟨512 * k.val + r.val, by omega⟩ c)
    = 1 / 2 * ((∑ c, miss Y L T ⟨512 * k.val + r.val, by omega⟩ c * miss Y L T ⟨512 * k.val + r.val, by omega⟩ c) / 1024) by ring)
  rfl

omit hm in
/-- The last tile. -/
def lastTile : Fin cfg0.N := ⟨15, by decide⟩

theorem array_loss : (dats m 0 c).arrAt 9 cfg0.N = up2 fun _ _ => loss (step H G P Q W) L T := by
  refine (dats m 0 c).arrAt_eq_of_after_last 9 lastTile (by decide +kernel) _ fun j => ?_
  blk_simp
  rw [after0_9]
  refine (congrFun (loss_upto hm 15 _) _).trans ?_
  exact congrArg Real.toEReal (losses (step H G P Q W) T)

theorem array_last : (dats m 0 c).arrAt 10 cfg0.N = up2 fun _ f => dLast (step H G P Q W) L T f := by
  refine (dats m 0 c).arrAt_eq_of_after_last 10 lastTile (by decide +kernel) _ fun j => ?_
  blk_simp
  rw [after0_10]
  refine (congrFun (last_upto hm 15 _) _).trans ?_
  exact congrArg Real.toEReal (Cert.ProjArray.parts (step H G P Q W) (pull (step H G P Q W) L T) (j 1))

end Cert.HeadArray

end
-- ==== Proof.HeadPre.lean ====
/-
  The precondition of the forward call with the loss head read back: every element of the seven arguments is a real number.
-/
module

public import proofs.«01_k».proof.Defs
public import proofs.«01_k».proof.Proof.FfnPre

@[expose] public section

set_option maxRecDepth 16384

noncomputable section

namespace Cert.Head.Pre

open Cert.Pre_finite6 Idealize.ShloMosaic
open Cert.Ffn (up2)
open Cert.Ffn.Pre (matrix lit_inf)

theorem facts : Cert.Pre_finite6.Facts where
  bcast_S_S8192x1024 := by decide
  reducesTo_S8192x1024_S_d0_1 := by decide
  h_S_ := by decide
  bcast_S_S1x1024 := by decide
  reducesTo_S1x1024_S_d0_1 := by decide
  bitsLt_bf16_f32 := by decide
  bcast_S_S2816x1024 := by decide
  reducesTo_S2816x1024_S_d0_1 := by decide

instance : Subsingleton S_.Idx := ⟨fun _ _ => funext fun a => a.elim0⟩

theorem finite_real [Cert.Pre_finite6.Facts] (x0 : S8192x1024.Idx → EReal) (x1 : S1x1024.Idx → EReal) (x2 x3 x4 : S2816x1024.Idx → EReal) (x5 : S1x1024.Idx → EReal)
    (x6 : S8192x1024.Idx → EReal)
    (h : Cert.Pre_finite6.fn (F := Ideal) x0 x1 x2 x3 x4 x5 x6 = fun _ => 1#1) :
    (∃ A, x0 = up2 A) ∧ (∃ A, x1 = up2 A) ∧ (∃ A, x2 = up2 A) ∧ (∃ A, x3 = up2 A) ∧ (∃ A, x4 = up2 A) ∧ (∃ A, x5 = up2 A) ∧ ∃ A, x6 = up2 A := by
  have h := congrFun h (Shape.Idx.first Facts.h_S_)
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨matrix x0 _ _ _ _ (fun _ => lit_inf) _ h0,
    matrix x1 _ _ _ _ (fun _ => lit_inf) _ h1,
    matrix x2 _ _ _ _ (fun _ => lit_inf) _ h2,
    matrix x3 _ _ _ _ (fun _ => lit_inf) _ h3,
    matrix x4 _ _ _ _ (fun _ => lit_inf) _ h4,
    matrix x5 _ _ _ _ (fun _ => lit_inf) _ h5,
    matrix x6 _ _ _ _ (fun _ => lit_inf) _ h6⟩

end Cert.Head.Pre
-- ==== Proof.HeadClaim.lean ====
/-
  The value claim of the forward call with the loss head: the kernel's run and the reference's run end with the same seven arrays.
-/
module

public import proofs.«01_k».proof.Defs
public import proofs.«01_k».proof.Proof.HeadArray
public import proofs.«01_k».proof.Proof.HeadPre
public import proofs.«01_k».proof.Proof.HeadReference

@[expose] public section

set_option maxHeartbeats 1600000
set_option maxRecDepth 16384

noncomputable section

namespace Cert.HeadClaim

open Idealize.ShloMosaic Idealize.ShloMosaic.TcCoe Idealize.SL.Sem
open Cert.Ffn (up2 nrm)
open Cert.Fwd (slope half hid step)
open Cert.HeadArray (Holds)

/-- Where the precondition holds, the arguments hold real numbers. -/
theorem holds [Cert.Pre_finite6.Facts] (m : (ℓ : Loc Cert.Kernel6Ideal.nD Cert.Kernel6Ideal.τ Cert.Kernel6Ideal.sig) → Buf (Elt Ideal) ℓ)
    (h : Cert.Pre_Kernel6Ideal_finite6 m) (c : Dev Cert.Kernel6Ideal.nD) : ∃ H G P Q W L T, Holds m c H G P Q W L T := by
  obtain ⟨⟨H, hH⟩, ⟨G, hG⟩, ⟨P, hP⟩, ⟨Q, hQ⟩, ⟨W, hW⟩, ⟨L, hL⟩, T, hT⟩ := Cert.Head.Pre.finite_real _ _ _ _ _ _ _ (h c)
  exact ⟨H, G, P, Q, W, L, T, ⟨hH, hG, hP, hQ, hW, hL, hT⟩⟩

theorem algebraic [hfinite6 : Cert.Pre_finite6.Facts] : Cert.algebraic_Kernel6Ideal_Reference6Ideal_pre_finite6 := by
  intro m g m' g' hpre hagree
  choose H G P Q W L T hm using holds m hpre
  refine ⟨fun c => up2 (Cert.Head.grad (step (H c) (G c) (P c) (Q c) (W c)) (L c) (T c)),
    fun c => up2 (nrm (H c) (G c)),
    fun c => up2 (slope (H c) (G c) (P c) (Q c)),
    fun c => up2 (half (H c) (G c) (P c)),
    fun c => up2 (hid (H c) (G c) (P c) (Q c)),
    fun c => up2 fun _ _ => Cert.Head.loss (step (H c) (G c) (P c) (Q c) (W c)) (L c) (T c),
    fun c => up2 fun _ f => Cert.Head.dLast (step (H c) (G c) (P c) (Q c) (W c)) (L c) (T c) f, ?_, ?_⟩
  · refine (θ_run Cert.Kernel6Ideal.defs _ _).mono (fun r h c => ?_) (Cert.Kernel6Ideal.Value.run_blocks (F := Ideal) m g)
    obtain ⟨h0, h1, h2, h3, h4, h5, h6, hargs⟩ := h c
    exact ⟨h0.trans (Cert.HeadArray.array_grad (hm c)),
      h1.trans (Cert.HeadArray.array_normal (hm c)),
      h2.trans (Cert.HeadArray.array_slope (hm c)),
      h3.trans (Cert.HeadArray.array_half (hm c)),
      h4.trans (Cert.HeadArray.array_hid (hm c)),
      h5.trans (Cert.HeadArray.array_loss (hm c)),
      h6.trans (Cert.HeadArray.array_last (hm c)), hargs⟩
  · refine (θ_run Cert.Reference6Ideal.defs _ _).mono (fun r h c => ?_) (Cert.Reference6Ideal.Value.run (F := Ideal) m' g')
    obtain ⟨h0, h1, h2, h3, h4, h5, h6, hargs⟩ := h c
    obtain ⟨a0, a1, a2, a3, a4, a5, a6⟩ := hagree c
    refine ⟨(h0.trans (Cert.Reference6Ideal.Read.val_main_v77_eq m' c)).trans ?_,
      (h1.trans (Cert.Reference6Ideal.Read.val_main_v78_eq _ _)).trans ?_,
      (h2.trans (Cert.Reference6Ideal.Read.val_main_v79_eq m' c)).trans ?_,
      (h3.trans (Cert.Reference6Ideal.Read.val_main_v80_eq _ _ _)).trans ?_,
      (h4.trans (Cert.Reference6Ideal.Read.val_main_v81_eq _ _ _ _)).trans ?_,
      (h5.trans (Cert.Reference6Ideal.Read.val_main_v82_eq m' c)).trans ?_,
      (h6.trans (Cert.Reference6Ideal.Read.val_main_v61_eq m' c)).trans ?_, hargs⟩
    · rw [a0, a1, a2, a3, a4, a5, a6, (hm c).rows, (hm c).gain, (hm c).gate, (hm c).upward, (hm c).down, (hm c).final, (hm c).target]
      exact funext fun i => Cert.Head.Reference.out_grad _ _ _ _ _ _ _ i
    · rw [a0, a1, (hm c).rows, (hm c).gain]
      exact funext fun i => Cert.Head.Reference.out_normed _ _ i
    · rw [a0, a1, a2, a3, (hm c).rows, (hm c).gain, (hm c).gate, (hm c).upward]
      exact funext fun i => Cert.Head.Reference.out_slope _ _ _ _ i
    · rw [a0, a1, a2, (hm c).rows, (hm c).gain, (hm c).gate]
      exact funext fun i => Cert.Head.Reference.out_half _ _ _ i
    · rw [a0, a1, a2, a3, (hm c).rows, (hm c).gain, (hm c).gate, (hm c).upward]
      exact funext fun i => Cert.Head.Reference.out_hid _ _ _ _ i
    · rw [a0, a1, a2, a3, a4, a5, a6, (hm c).rows, (hm c).gain, (hm c).gate, (hm c).upward, (hm c).down, (hm c).final, (hm c).target]
      exact funext fun i => Cert.Head.Reference.out_loss _ _ _ _ _ _ _ i
    · rw [a0, a1, a2, a3, a4, a5, a6, (hm c).rows, (hm c).gain, (hm c).gate, (hm c).upward, (hm c).down, (hm c).final, (hm c).target]
      exact funext fun i => Cert.Head.Reference.out_last _ _ _ _ _ _ _ i

end Cert.HeadClaim

end
-- ==== Proof.EntryPay.lean ====
/-
  The values of the input projection's forward body at one row tile: the normalised rows, and the products with the rows of
  the weight, plus the bias, in the three arrays they are kept in.
-/
module

public import proofs.«01_k».proof.Proof.Gen.Kernel7Ideal.Value
public import Idealize.ShloMosaic.Lib.Pointwise
public import proofs.«01_k».proof.Proof.FfnPay
public import Idealize.ShloMosaic.Lib.Pipeline.ValueKit

@[expose] public section

set_option maxRecDepth 16384
set_option maxHeartbeats 1600000

noncomputable section

namespace Cert.Entry

open Idealize.ShloMosaic

/-- An array of two axes. -/
abbrev Mat (a b : ℕ) : Type := (⟨2, ![a, b]⟩ : Shape).Idx → EReal

variable {R : ℕ} (h : Mat R 1024) (g : Mat 1 1024) (w : Mat 5120 1024) (b : Mat 1 5120)

/-- The normalised rows. -/
def normal (r : Fin R) (k : Fin 1024) : EReal :=
  h (ix2 r k) * Ideal.rsqrt (Ideal.div (∑ j : Fin 1024, h (ix2 r j) * h (ix2 r j)) (Ideal.ofBits .f32 0x44800000#32)
    + Ideal.ofBits .f32 0x358637BD#32) * g (ix2 0 k)

/-- The projection of the normalised rows. -/
def entry (r : Fin R) (f : Fin 5120) : EReal := (∑ k, normal h g r k * w (ix2 f k)) + b (ix2 0 f)

end Cert.Entry

namespace Cert.Entry.Pay

open Cert.Kernel7Ideal Cert.Kernel7Ideal.Gen Idealize.ShloMosaic
open Cert.Entry

/-- The rows of the weight in each chunk. -/
abbrev w1 (X : Vec Ideal S5120x1024 .bf16) : Vec Ideal S1280x1024 .bf16 := View.ld (Val := Elt Ideal) (e' := .bf16) X (Rect.unit (s := S5120x1024) ![0, 0] ![1280, 1024] inb_S5120x1024_S1280x1024_0_0)
abbrev w2 (X : Vec Ideal S5120x1024 .bf16) : Vec Ideal S1024x1024 .bf16 := View.ld (Val := Elt Ideal) (e' := .bf16) X (Rect.unit (s := S5120x1024) ![1280, 0] ![1024, 1024] inb_S5120x1024_S1024x1024_1280_0)
abbrev w3 (X : Vec Ideal S5120x1024 .bf16) : Vec Ideal S768x1024 .bf16 := View.ld (Val := Elt Ideal) (e' := .bf16) X (Rect.unit (s := S5120x1024) ![2304, 0] ![768, 1024] inb_S5120x1024_S768x1024_2304_0)
abbrev w4 (X : Vec Ideal S5120x1024 .bf16) : Vec Ideal S1024x1024 .bf16 := View.ld (Val := Elt Ideal) (e' := .bf16) X (Rect.unit (s := S5120x1024) ![3072, 0] ![1024, 1024] inb_S5120x1024_S1024x1024_3072_0)
abbrev w5 (X : Vec Ideal S5120x1024 .bf16) : Vec Ideal S1024x1024 .bf16 := View.ld (Val := Elt Ideal) (e' := .bf16) X (Rect.unit (s := S5120x1024) ![4096, 0] ![1024, 1024] inb_S5120x1024_S1024x1024_4096_0)

/-- The bias of each chunk. -/
abbrev b1 (X : Vec Ideal S1x5120 .f32) : Vec Ideal S1x1280 .f32 := View.ld (Val := Elt Ideal) (e' := .f32) X (Rect.unit (s := S1x5120) ![0, 0] ![1, 1280] inb_S1x5120_S1x1280_0_0)
abbrev b2 (X : Vec Ideal S1x5120 .f32) : Vec Ideal S1x1024 .f32 := View.ld (Val := Elt Ideal) (e' := .f32) X (Rect.unit (s := S1x5120) ![0, 1280] ![1, 1024] inb_S1x5120_S1x1024_0_1280)
abbrev b3 (X : Vec Ideal S1x5120 .f32) : Vec Ideal S1x768 .f32 := View.ld (Val := Elt Ideal) (e' := .f32) X (Rect.unit (s := S1x5120) ![0, 2304] ![1, 768] inb_S1x5120_S1x768_0_2304)
abbrev b4 (X : Vec Ideal S1x5120 .f32) : Vec Ideal S1x1024 .f32 := View.ld (Val := Elt Ideal) (e' := .f32) X (Rect.unit (s := S1x5120) ![0, 3072] ![1, 1024] inb_S1x5120_S1x1024_0_3072)
abbrev b5 (X : Vec Ideal S1x5120 .f32) : Vec Ideal S1x1024 .f32 := View.ld (Val := Elt Ideal) (e' := .f32) X (Rect.unit (s := S1x5120) ![0, 4096] ![1, 1024] inb_S1x5120_S1x1024_0_4096)

variable (x : Vec Ideal S512x1024 .f32) (g : Vec Ideal S1x1024 .f32) (w : Vec Ideal S5120x1024 .bf16) (b : Vec Ideal S1x5120 .f32)

theorem normed (r : Fin 512) (k : Fin 1024) : k0_pay3 (F := Ideal) x g (ix2 r k) = normal x g r k := by
  unfold k0_pay3
  pointwise
  rfl

/-- Rows times the rows of a weight, from the zero array. -/
theorem rows_rows {k : ℕ} (A : Mat 512 1024) (B : Mat k 1024) (r : Fin 512) (c : Fin k) :
    FloatOps.matmul (F := Ideal) (φ₁ := .bf16) (φ₂ := .bf16) (DotDims.transposedRhs 512 1024 k) none A B (fun _ => Ideal.ofBits .f32 0x00000000#32) (ix2 r c)
      = ∑ j : Fin 1024, A (ix2 r j) * B (ix2 c j) := by
  refine (Ideal.matmul_transposedRhs_apply (φ₁ := .bf16) (φ₂ := .bf16) none A B _ r c).trans ?_
  rw [Ideal.ofBits_zero, zero_add]; rfl

/-- A product's element from its chunk. -/
theorem chunk {k : ℕ} (B : Mat k 1024) (d : EReal) (r : Fin 512) (c : Fin k) (f : Fin 5120)
    (hB : ∀ j, B (ix2 c j) = w (ix2 f j)) (hd : d = b (ix2 0 f)) :
    FloatOps.matmul (F := Ideal) (φ₁ := .bf16) (φ₂ := .bf16) (DotDims.transposedRhs 512 1024 k) none (k0_pay3 (F := Ideal) x g) B
      (fun _ => Ideal.ofBits .f32 0x00000000#32) (ix2 r c) + d = entry x g w b r f := by
  rw [rows_rows, hd]
  exact congrArg (· + _) (Finset.sum_congr rfl fun j _ => by rw [normed, hB])

theorem part1 (r : Fin 512) (c : Fin 1280) :
    k0_pay4 (F := Ideal) x g (w1 w) (b1 b) (ix2 r c) = entry x g w b r ⟨0 + c.val, by omega⟩ := by
  refine Eq.trans ?_ (chunk x g w b (w1 w) (b1 b (ix2 0 c)) r c ⟨0 + c.val, by omega⟩ (fun j => ?_) ?_)
  · unfold k0_pay4
    pointwise
  · exact View.ld_unit_apply_of (Val := Elt Ideal) (S := S5120x1024) (e := .bf16) w ![0, 0] ![1280, 1024] inb_S5120x1024_S1280x1024_0_0 (ix2 c j)
      (ix2 ⟨0 + c.val, by omega⟩ j) fun a => by fin_cases a <;> simp
  · exact View.ld_unit_apply_of (Val := Elt Ideal) (S := S1x5120) (e := .f32) b ![0, 0] ![1, 1280] inb_S1x5120_S1x1280_0_0 (ix2 0 c)
      (ix2 0 ⟨0 + c.val, by omega⟩) fun a => by fin_cases a <;> simp

theorem part2 (r : Fin 512) (c : Fin 1024) :
    k0_pay16 (F := Ideal) (k0_pay3 (F := Ideal) x g) (w2 w) (b2 b) (ix2 r c) = entry x g w b r ⟨1280 + c.val, by omega⟩ := by
  refine Eq.trans ?_ (chunk x g w b (w2 w) (b2 b (ix2 0 c)) r c ⟨1280 + c.val, by omega⟩ (fun j => ?_) ?_)
  · unfold k0_pay16
    pointwise
  · exact View.ld_unit_apply_of (Val := Elt Ideal) (S := S5120x1024) (e := .bf16) w ![1280, 0] ![1024, 1024] inb_S5120x1024_S1024x1024_1280_0 (ix2 c j)
      (ix2 ⟨1280 + c.val, by omega⟩ j) fun a => by fin_cases a <;> simp
  · exact View.ld_unit_apply_of (Val := Elt Ideal) (S := S1x5120) (e := .f32) b ![0, 1280] ![1, 1024] inb_S1x5120_S1x1024_0_1280 (ix2 0 c)
      (ix2 0 ⟨1280 + c.val, by omega⟩) fun a => by fin_cases a <;> simp

theorem part3 (r : Fin 512) (c : Fin 768) :
    k0_pay26 (F := Ideal) (k0_pay3 (F := Ideal) x g) (w3 w) (b3 b) (ix2 r c) = entry x g w b r ⟨2304 + c.val, by omega⟩ := by
  refine Eq.trans ?_ (chunk x g w b (w3 w) (b3 b (ix2 0 c)) r c ⟨2304 + c.val, by omega⟩ (fun j => ?_) ?_)
  · unfold k0_pay26
    pointwise
  · exact View.ld_unit_apply_of (Val := Elt Ideal) (S := S5120x1024) (e := .bf16) w ![2304, 0] ![768, 1024] inb_S5120x1024_S768x1024_2304_0 (ix2 c j)
      (ix2 ⟨2304 + c.val, by omega⟩ j) fun a => by fin_cases a <;> simp
  · exact View.ld_unit_apply_of (Val := Elt Ideal) (S := S1x5120) (e := .f32) b ![0, 2304] ![1, 768] inb_S1x5120_S1x768_0_2304 (ix2 0 c)
      (ix2 0 ⟨2304 + c.val, by omega⟩) fun a => by fin_cases a <;> simp

theorem part4 (r : Fin 512) (c : Fin 1024) :
    k0_pay27 (F := Ideal) (k0_pay3 (F := Ideal) x g) (w4 w) (b4 b) (ix2 r c) = entry x g w b r ⟨3072 + c.val, by omega⟩ := by
  refine Eq.trans ?_ (chunk x g w b (w4 w) (b4 b (ix2 0 c)) r c ⟨3072 + c.val, by omega⟩ (fun j => ?_) ?_)
  · unfold k0_pay27
    pointwise
  · exact View.ld_unit_apply_of (Val := Elt Ideal) (S := S5120x1024) (e := .bf16) w ![3072, 0] ![1024, 1024] inb_S5120x1024_S1024x1024_3072_0 (ix2 c j)
      (ix2 ⟨3072 + c.val, by omega⟩ j) fun a => by fin_cases a <;> simp
  · exact View.ld_unit_apply_of (Val := Elt Ideal) (S := S1x5120) (e := .f32) b ![0, 3072] ![1, 1024] inb_S1x5120_S1x1024_0_3072 (ix2 0 c)
      (ix2 0 ⟨3072 + c.val, by omega⟩) fun a => by fin_cases a <;> simp

theorem part5 (r : Fin 512) (c : Fin 1024) :
    k0_pay2 (F := Ideal) (k0_pay3 (F := Ideal) x g) (w5 w) (b5 b) (ix2 r c) = entry x g w b r ⟨4096 + c.val, by omega⟩ := by
  refine Eq.trans ?_ (chunk x g w b (w5 w) (b5 b (ix2 0 c)) r c ⟨4096 + c.val, by omega⟩ (fun j => ?_) ?_)
  · unfold k0_pay2
    pointwise
  · exact View.ld_unit_apply_of (Val := Elt Ideal) (S := S5120x1024) (e := .bf16) w ![4096, 0] ![1024, 1024] inb_S5120x1024_S1024x1024_4096_0 (ix2 c j)
      (ix2 ⟨4096 + c.val, by omega⟩ j) fun a => by fin_cases a <;> simp
  · exact View.ld_unit_apply_of (Val := Elt Ideal) (S := S1x5120) (e := .f32) b ![0, 4096] ![1, 1024] inb_S1x5120_S1x1024_0_4096 (ix2 0 c)
      (ix2 0 ⟨4096 + c.val, by omega⟩) fun a => by fin_cases a <;> simp

/-- Columns of a product as a block of four axes. -/
theorem cut {k : ℕ} (V : Mat 512 k) (o : ℕ) (hs : (⟨2, ![512, k]⟩ : Shape).Slices ![0, o] S512x128) (hc : S512x128.ShapeCasts S1x1x512x128)
    (i : S1x1x512x128.Idx) (f : Fin k) (hf : f.val = o + (i 3).val) :
    shapeCast S1x1x512x128 (extractStridedSlice S512x128 ![0, o] V hs) hc i = V (ix2 (i 2) f) := by
  have h0 : (i 0).val < 1 := (i 0).isLt
  have h1 : (i 1).val < 1 := (i 1).isLt
  refine (shapeCast_apply _ hc i (ix2 (i 2) (i 3)) ?_).trans ?_
  · rewrite [Shape.rowMajor_val_two, Shape.rowMajor_val_four]
    show (i 2).val * 128 + (i 3).val = ((((i 0).val * 1 + (i 1).val) * 512 + (i 2).val) * 128 + (i 3).val)
    omega
  · refine extractStridedSlice_apply ![0, o] V hs (ix2 (i 2) (i 3)) (ix2 (i 2) f) fun a => ?_
    match a with
    | ⟨0, _⟩ => show (i 2).val = 0 + (i 2).val; omega
    | ⟨1, _⟩ => exact hf

/-- The head blocks, last first. -/
abbrev heads : S1x18x512x128.Idx → Elt Ideal .f32 :=
  View.canon (Val := Elt Ideal) (s := S1x18x512x128) (e := .f32) [⟨Rect.unit ![0, 17, 0, 0] ![1, 1, 512, 128] inb_S1x18x512x128_S1x1x512x128_0_17_0_0, k0_pay25 (F := Ideal) (k0_pay16 (F := Ideal) (k0_pay3 (F := Ideal) x g) (w2 w) (b2 b))⟩,
    ⟨Rect.unit ![0, 16, 0, 0] ![1, 1, 512, 128] inb_S1x18x512x128_S1x1x512x128_0_16_0_0, k0_pay24 (F := Ideal) (k0_pay16 (F := Ideal) (k0_pay3 (F := Ideal) x g) (w2 w) (b2 b))⟩,
    ⟨Rect.unit ![0, 15, 0, 0] ![1, 1, 512, 128] inb_S1x18x512x128_S1x1x512x128_0_15_0_0, k0_pay23 (F := Ideal) (k0_pay16 (F := Ideal) (k0_pay3 (F := Ideal) x g) (w2 w) (b2 b))⟩,
    ⟨Rect.unit ![0, 14, 0, 0] ![1, 1, 512, 128] inb_S1x18x512x128_S1x1x512x128_0_14_0_0, k0_pay22 (F := Ideal) (k0_pay21 (F := Ideal) (k0_pay3 (F := Ideal) x g) (w2 w) (b2 b))⟩,
    ⟨Rect.unit ![0, 13, 0, 0] ![1, 1, 512, 128] inb_S1x18x512x128_S1x1x512x128_0_13_0_0, k0_pay20 (F := Ideal) (k0_pay3 (F := Ideal) x g) (w2 w) (b2 b)⟩,
    ⟨Rect.unit ![0, 12, 0, 0] ![1, 1, 512, 128] inb_S1x18x512x128_S1x1x512x128_0_12_0_0, k0_pay19 (F := Ideal) (k0_pay3 (F := Ideal) x g) (w2 w) (b2 b)⟩,
    ⟨Rect.unit ![0, 11, 0, 0] ![1, 1, 512, 128] inb_S1x18x512x128_S1x1x512x128_0_11_0_0, k0_pay18 (F := Ideal) (k0_pay3 (F := Ideal) x g) (w2 w) (b2 b)⟩,
    ⟨Rect.unit ![0, 10, 0, 0] ![1, 1, 512, 128] inb_S1x18x512x128_S1x1x512x128_0_10_0_0, k0_pay17 (F := Ideal) (k0_pay3 (F := Ideal) x g) (w2 w) (b2 b)⟩,
    ⟨Rect.unit ![0, 9, 0, 0] ![1, 1, 512, 128] inb_S1x18x512x128_S1x1x512x128_0_9_0_0, k0_pay15 (F := Ideal) (k0_pay4 (F := Ideal) x g (w1 w) (b1 b))⟩,
    ⟨Rect.unit ![0, 8, 0, 0] ![1, 1, 512, 128] inb_S1x18x512x128_S1x1x512x128_0_8_0_0, k0_pay14 (F := Ideal) (k0_pay13 (F := Ideal) (k0_pay4 (F := Ideal) x g (w1 w) (b1 b)))⟩,
    ⟨Rect.unit ![0, 7, 0, 0] ![1, 1, 512, 128] inb_S1x18x512x128_S1x1x512x128_0_7_0_0, k0_pay12 (F := Ideal) (k0_pay4 (F := Ideal) x g (w1 w) (b1 b))⟩,
    ⟨Rect.unit ![0, 6, 0, 0] ![1, 1, 512, 128] inb_S1x18x512x128_S1x1x512x128_0_6_0_0, k0_pay11 (F := Ideal) (k0_pay4 (F := Ideal) x g (w1 w) (b1 b))⟩,
    ⟨Rect.unit ![0, 5, 0, 0] ![1, 1, 512, 128] inb_S1x18x512x128_S1x1x512x128_0_5_0_0, k0_pay10 (F := Ideal) (k0_pay4 (F := Ideal) x g (w1 w) (b1 b))⟩,
    ⟨Rect.unit ![0, 4, 0, 0] ![1, 1, 512, 128] inb_S1x18x512x128_S1x1x512x128_0_4_0_0, k0_pay9 (F := Ideal) (k0_pay4 (F := Ideal) x g (w1 w) (b1 b))⟩,
    ⟨Rect.unit ![0, 3, 0, 0] ![1, 1, 512, 128] inb_S1x18x512x128_S1x1x512x128_0_3_0_0, k0_pay8 (F := Ideal) (k0_pay4 (F := Ideal) x g (w1 w) (b1 b))⟩,
    ⟨Rect.unit ![0, 2, 0, 0] ![1, 1, 512, 128] inb_S1x18x512x128_S1x1x512x128_0_2_0_0, k0_pay7 (F := Ideal) (k0_pay4 (F := Ideal) x g (w1 w) (b1 b))⟩,
    ⟨Rect.unit ![0, 1, 0, 0] ![1, 1, 512, 128] inb_S1x18x512x128_S1x1x512x128_0_1_0_0, k0_pay6 (F := Ideal) x g (w1 w) (b1 b)⟩,
    ⟨Rect.unit ![0, 0, 0, 0] ![1, 1, 512, 128] inb_S1x18x512x128_S1x1x512x128_0_0_0_0, k0_pay5 (F := Ideal) x g (w1 w) (b1 b)⟩]

/-- The last two chunks, last first. -/
abbrev gates : S512x2048.Idx → Elt Ideal .bf16 :=
  View.canon (Val := Elt Ideal) (s := S512x2048) (e := .bf16) [⟨Rect.unit ![0, 1024] ![512, 1024] inb_S512x2048_S512x1024_0_1024, k0_pay2 (F := Ideal) (k0_pay3 (F := Ideal) x g) (w5 w) (b5 b)⟩,
    ⟨Rect.unit ![0, 0] ![512, 1024] inb_S512x2048_S512x1024_0_0, k0_pay1 (F := Ideal) (k0_pay27 (F := Ideal) (k0_pay3 (F := Ideal) x g) (w4 w) (b4 b))⟩]

/-- Elements at equal places are equal. -/
theorem place {r r' : Fin 512} {f f' : Fin 5120} (hf : f.val = f'.val) (hr : r.val = r'.val) : entry x g w b r f = entry x g w b r' f' := by
  rw [Fin.ext hf, Fin.ext hr]

/-- The head blocks' elements. -/
def headOf (i : S1x18x512x128.Idx) : EReal :=
  entry x g w b (i 2) ⟨128 * (i 1).val + (i 3).val, by have h1 : (i 1).val < 18 := (i 1).isLt; have h3 : (i 3).val < 128 := (i 3).isLt; omega⟩

theorem head0 (y : S1x1x512x128.Idx) : k0_pay5 (F := Ideal) x g (w1 w) (b1 b) y
    = headOf x g w b ((Rect.unit (s := S1x18x512x128) ![0, 0, 0, 0] ![1, 1, 512, 128] inb_S1x18x512x128_S1x1x512x128_0_0_0_0).emb y) := by
  have h1 : (y 1).val < 1 := (y 1).isLt
  have h3 : (y 3).val < 128 := (y 3).isLt
  refine (cut (k := 1280) (k0_pay4 (F := Ideal) x g (w1 w) (b1 b)) 0 slices_S512x1280_o0_0_S512x128 shapeCasts_S512x128_S1x1x512x128 y ⟨0 + (y 3).val, by omega⟩ rfl).trans
    ((part1 x g w b (y 2) ⟨0 + (y 3).val, by omega⟩).trans ?_)
  exact place x g w b (by show 0 + (0 + (y 3).val) = 128 * (0 + 1 * (y 1).val) + (0 + 1 * (y 3).val); omega) (by show (y 2).val = 0 + 1 * (y 2).val; omega)

theorem head1 (y : S1x1x512x128.Idx) : k0_pay6 (F := Ideal) x g (w1 w) (b1 b) y
    = headOf x g w b ((Rect.unit (s := S1x18x512x128) ![0, 1, 0, 0] ![1, 1, 512, 128] inb_S1x18x512x128_S1x1x512x128_0_1_0_0).emb y) := by
  have h1 : (y 1).val < 1 := (y 1).isLt
  have h3 : (y 3).val < 128 := (y 3).isLt
  refine (cut (k := 1280) (k0_pay4 (F := Ideal) x g (w1 w) (b1 b)) 128 slices_S512x1280_o0_128_S512x128 shapeCasts_S512x128_S1x1x512x128 y ⟨128 + (y 3).val, by omega⟩ rfl).trans
    ((part1 x g w b (y 2) ⟨128 + (y 3).val, by omega⟩).trans ?_)
  exact place x g w b (by show 0 + (128 + (y 3).val) = 128 * (1 + 1 * (y 1).val) + (0 + 1 * (y 3).val); omega) (by show (y 2).val = 0 + 1 * (y 2).val; omega)

theorem head2 (y : S1x1x512x128.Idx) : k0_pay7 (F := Ideal) (k0_pay4 (F := Ideal) x g (w1 w) (b1 b)) y
    = headOf x g w b ((Rect.unit (s := S1x18x512x128) ![0, 2, 0, 0] ![1, 1, 512, 128] inb_S1x18x512x128_S1x1x512x128_0_2_0_0).emb y) := by
  have h1 : (y 1).val < 1 := (y 1).isLt
  have h3 : (y 3).val < 128 := (y 3).isLt
  refine (cut (k := 1280) (k0_pay4 (F := Ideal) x g (w1 w) (b1 b)) 256 slices_S512x1280_o0_256_S512x128 shapeCasts_S512x128_S1x1x512x128 y ⟨256 + (y 3).val, by omega⟩ rfl).trans
    ((part1 x g w b (y 2) ⟨256 + (y 3).val, by omega⟩).trans ?_)
  exact place x g w b (by show 0 + (256 + (y 3).val) = 128 * (2 + 1 * (y 1).val) + (0 + 1 * (y 3).val); omega) (by show (y 2).val = 0 + 1 * (y 2).val; omega)

theorem head3 (y : S1x1x512x128.Idx) : k0_pay8 (F := Ideal) (k0_pay4 (F := Ideal) x g (w1 w) (b1 b)) y
    = headOf x g w b ((Rect.unit (s := S1x18x512x128) ![0, 3, 0, 0] ![1, 1, 512, 128] inb_S1x18x512x128_S1x1x512x128_0_3_0_0).emb y) := by
  have h1 : (y 1).val < 1 := (y 1).isLt
  have h3 : (y 3).val < 128 := (y 3).isLt
  refine (cut (k := 1280) (k0_pay4 (F := Ideal) x g (w1 w) (b1 b)) 384 slices_S512x1280_o0_384_S512x128 shapeCasts_S512x128_S1x1x512x128 y ⟨384 + (y 3).val, by omega⟩ rfl).trans
    ((part1 x g w b (y 2) ⟨384 + (y 3).val, by omega⟩).trans ?_)
  exact place x g w b (by show 0 + (384 + (y 3).val) = 128 * (3 + 1 * (y 1).val) + (0 + 1 * (y 3).val); omega) (by show (y 2).val = 0 + 1 * (y 2).val; omega)

theorem head4 (y : S1x1x512x128.Idx) : k0_pay9 (F := Ideal) (k0_pay4 (F := Ideal) x g (w1 w) (b1 b)) y
    = headOf x g w b ((Rect.unit (s := S1x18x512x128) ![0, 4, 0, 0] ![1, 1, 512, 128] inb_S1x18x512x128_S1x1x512x128_0_4_0_0).emb y) := by
  have h1 : (y 1).val < 1 := (y 1).isLt
  have h3 : (y 3).val < 128 := (y 3).isLt
  refine (cut (k := 1280) (k0_pay4 (F := Ideal) x g (w1 w) (b1 b)) 512 slices_S512x1280_o0_512_S512x128 shapeCasts_S512x128_S1x1x512x128 y ⟨512 + (y 3).val, by omega⟩ rfl).trans
    ((part1 x g w b (y 2) ⟨512 + (y 3).val, by omega⟩).trans ?_)
  exact place x g w b (by show 0 + (512 + (y 3).val) = 128 * (4 + 1 * (y 1).val) + (0 + 1 * (y 3).val); omega) (by show (y 2).val = 0 + 1 * (y 2).val; omega)

theorem head5 (y : S1x1x512x128.Idx) : k0_pay10 (F := Ideal) (k0_pay4 (F := Ideal) x g (w1 w) (b1 b)) y
    = headOf x g w b ((Rect.unit (s := S1x18x512x128) ![0, 5, 0, 0] ![1, 1, 512, 128] inb_S1x18x512x128_S1x1x512x128_0_5_0_0).emb y) := by
  have h1 : (y 1).val < 1 := (y 1).isLt
  have h3 : (y 3).val < 128 := (y 3).isLt
  refine (cut (k := 1280) (k0_pay4 (F := Ideal) x g (w1 w) (b1 b)) 640 slices_S512x1280_o0_640_S512x128 shapeCasts_S512x128_S1x1x512x128 y ⟨640 + (y 3).val, by omega⟩ rfl).trans
    ((part1 x g w b (y 2) ⟨640 + (y 3).val, by omega⟩).trans ?_)
  exact place x g w b (by show 0 + (640 + (y 3).val) = 128 * (5 + 1 * (y 1).val) + (0 + 1 * (y 3).val); omega) (by show (y 2).val = 0 + 1 * (y 2).val; omega)

theorem head6 (y : S1x1x512x128.Idx) : k0_pay11 (F := Ideal) (k0_pay4 (F := Ideal) x g (w1 w) (b1 b)) y
    = headOf x g w b ((Rect.unit (s := S1x18x512x128) ![0, 6, 0, 0] ![1, 1, 512, 128] inb_S1x18x512x128_S1x1x512x128_0_6_0_0).emb y) := by
  have h1 : (y 1).val < 1 := (y 1).isLt
  have h3 : (y 3).val < 128 := (y 3).isLt
  refine (cut (k := 1280) (k0_pay4 (F := Ideal) x g (w1 w) (b1 b)) 768 slices_S512x1280_o0_768_S512x128 shapeCasts_S512x128_S1x1x512x128 y ⟨768 + (y 3).val, by omega⟩ rfl).trans
    ((part1 x g w b (y 2) ⟨768 + (y 3).val, by omega⟩).trans ?_)
  exact place x g w b (by show 0 + (768 + (y 3).val) = 128 * (6 + 1 * (y 1).val) + (0 + 1 * (y 3).val); omega) (by show (y 2).val = 0 + 1 * (y 2).val; omega)

theorem head7 (y : S1x1x512x128.Idx) : k0_pay12 (F := Ideal) (k0_pay4 (F := Ideal) x g (w1 w) (b1 b)) y
    = headOf x g w b ((Rect.unit (s := S1x18x512x128) ![0, 7, 0, 0] ![1, 1, 512, 128] inb_S1x18x512x128_S1x1x512x128_0_7_0_0).emb y) := by
  have h1 : (y 1).val < 1 := (y 1).isLt
  have h3 : (y 3).val < 128 := (y 3).isLt
  refine (cut (k := 1280) (k0_pay4 (F := Ideal) x g (w1 w) (b1 b)) 896 slices_S512x1280_o0_896_S512x128 shapeCasts_S512x128_S1x1x512x128 y ⟨896 + (y 3).val, by omega⟩ rfl).trans
    ((part1 x g w b (y 2) ⟨896 + (y 3).val, by omega⟩).trans ?_)
  exact place x g w b (by show 0 + (896 + (y 3).val) = 128 * (7 + 1 * (y 1).val) + (0 + 1 * (y 3).val); omega) (by show (y 2).val = 0 + 1 * (y 2).val; omega)

theorem head8 (y : S1x1x512x128.Idx) : k0_pay14 (F := Ideal) (k0_pay13 (F := Ideal) (k0_pay4 (F := Ideal) x g (w1 w) (b1 b))) y
    = headOf x g w b ((Rect.unit (s := S1x18x512x128) ![0, 8, 0, 0] ![1, 1, 512, 128] inb_S1x18x512x128_S1x1x512x128_0_8_0_0).emb y) := by
  have h1 : (y 1).val < 1 := (y 1).isLt
  have h3 : (y 3).val < 128 := (y 3).isLt
  refine (cut (k := 1280) (k0_pay4 (F := Ideal) x g (w1 w) (b1 b)) 1024 slices_S512x1280_o0_1024_S512x128 shapeCasts_S512x128_S1x1x512x128 y ⟨1024 + (y 3).val, by omega⟩ rfl).trans
    ((part1 x g w b (y 2) ⟨1024 + (y 3).val, by omega⟩).trans ?_)
  exact place x g w b (by show 0 + (1024 + (y 3).val) = 128 * (8 + 1 * (y 1).val) + (0 + 1 * (y 3).val); omega) (by show (y 2).val = 0 + 1 * (y 2).val; omega)

theorem head9 (y : S1x1x512x128.Idx) : k0_pay15 (F := Ideal) (k0_pay4 (F := Ideal) x g (w1 w) (b1 b)) y
    = headOf x g w b ((Rect.unit (s := S1x18x512x128) ![0, 9, 0, 0] ![1, 1, 512, 128] inb_S1x18x512x128_S1x1x512x128_0_9_0_0).emb y) := by
  have h1 : (y 1).val < 1 := (y 1).isLt
  have h3 : (y 3).val < 128 := (y 3).isLt
  refine (cut (k := 1280) (k0_pay4 (F := Ideal) x g (w1 w) (b1 b)) 1152 slices_S512x1280_o0_1152_S512x128 shapeCasts_S512x128_S1x1x512x128 y ⟨1152 + (y 3).val, by omega⟩ rfl).trans
    ((part1 x g w b (y 2) ⟨1152 + (y 3).val, by omega⟩).trans ?_)
  exact place x g w b (by show 0 + (1152 + (y 3).val) = 128 * (9 + 1 * (y 1).val) + (0 + 1 * (y 3).val); omega) (by show (y 2).val = 0 + 1 * (y 2).val; omega)

theorem head10 (y : S1x1x512x128.Idx) : k0_pay17 (F := Ideal) (k0_pay3 (F := Ideal) x g) (w2 w) (b2 b) y
    = headOf x g w b ((Rect.unit (s := S1x18x512x128) ![0, 10, 0, 0] ![1, 1, 512, 128] inb_S1x18x512x128_S1x1x512x128_0_10_0_0).emb y) := by
  have h1 : (y 1).val < 1 := (y 1).isLt
  have h3 : (y 3).val < 128 := (y 3).isLt
  refine (cut (k := 1024) (k0_pay16 (F := Ideal) (k0_pay3 (F := Ideal) x g) (w2 w) (b2 b)) 0 slices_S512x1024_o0_0_S512x128 shapeCasts_S512x128_S1x1x512x128 y ⟨0 + (y 3).val, by omega⟩ rfl).trans
    ((part2 x g w b (y 2) ⟨0 + (y 3).val, by omega⟩).trans ?_)
  exact place x g w b (by show 1280 + (0 + (y 3).val) = 128 * (10 + 1 * (y 1).val) + (0 + 1 * (y 3).val); omega) (by show (y 2).val = 0 + 1 * (y 2).val; omega)

theorem head11 (y : S1x1x512x128.Idx) : k0_pay18 (F := Ideal) (k0_pay3 (F := Ideal) x g) (w2 w) (b2 b) y
    = headOf x g w b ((Rect.unit (s := S1x18x512x128) ![0, 11, 0, 0] ![1, 1, 512, 128] inb_S1x18x512x128_S1x1x512x128_0_11_0_0).emb y) := by
  have h1 : (y 1).val < 1 := (y 1).isLt
  have h3 : (y 3).val < 128 := (y 3).isLt
  refine (cut (k := 1024) (k0_pay16 (F := Ideal) (k0_pay3 (F := Ideal) x g) (w2 w) (b2 b)) 128 slices_S512x1024_o0_128_S512x128 shapeCasts_S512x128_S1x1x512x128 y ⟨128 + (y 3).val, by omega⟩ rfl).trans
    ((part2 x g w b (y 2) ⟨128 + (y 3).val, by omega⟩).trans ?_)
  exact place x g w b (by show 1280 + (128 + (y 3).val) = 128 * (11 + 1 * (y 1).val) + (0 + 1 * (y 3).val); omega) (by show (y 2).val = 0 + 1 * (y 2).val; omega)

theorem head12 (y : S1x1x512x128.Idx) : k0_pay19 (F := Ideal) (k0_pay3 (F := Ideal) x g) (w2 w) (b2 b) y
    = headOf x g w b ((Rect.unit (s := S1x18x512x128) ![0, 12, 0, 0] ![1, 1, 512, 128] inb_S1x18x512x128_S1x1x512x128_0_12_0_0).emb y) := by
  have h1 : (y 1).val < 1 := (y 1).isLt
  have h3 : (y 3).val < 128 := (y 3).isLt
  refine (cut (k := 1024) (k0_pay16 (F := Ideal) (k0_pay3 (F := Ideal) x g) (w2 w) (b2 b)) 256 slices_S512x1024_o0_256_S512x128 shapeCasts_S512x128_S1x1x512x128 y ⟨256 + (y 3).val, by omega⟩ rfl).trans
    ((part2 x g w b (y 2) ⟨256 + (y 3).val, by omega⟩).trans ?_)
  exact place x g w b (by show 1280 + (256 + (y 3).val) = 128 * (12 + 1 * (y 1).val) + (0 + 1 * (y 3).val); omega) (by show (y 2).val = 0 + 1 * (y 2).val; omega)

theorem head13 (y : S1x1x512x128.Idx) : k0_pay20 (F := Ideal) (k0_pay3 (F := Ideal) x g) (w2 w) (b2 b) y
    = headOf x g w b ((Rect.unit (s := S1x18x512x128) ![0, 13, 0, 0] ![1, 1, 512, 128] inb_S1x18x512x128_S1x1x512x128_0_13_0_0).emb y) := by
  have h1 : (y 1).val < 1 := (y 1).isLt
  have h3 : (y 3).val < 128 := (y 3).isLt
  refine (cut (k := 1024) (k0_pay16 (F := Ideal) (k0_pay3 (F := Ideal) x g) (w2 w) (b2 b)) 384 slices_S512x1024_o0_384_S512x128 shapeCasts_S512x128_S1x1x512x128 y ⟨384 + (y 3).val, by omega⟩ rfl).trans
    ((part2 x g w b (y 2) ⟨384 + (y 3).val, by omega⟩).trans ?_)
  exact place x g w b (by show 1280 + (384 + (y 3).val) = 128 * (13 + 1 * (y 1).val) + (0 + 1 * (y 3).val); omega) (by show (y 2).val = 0 + 1 * (y 2).val; omega)

theorem head14 (y : S1x1x512x128.Idx) : k0_pay22 (F := Ideal) (k0_pay21 (F := Ideal) (k0_pay3 (F := Ideal) x g) (w2 w) (b2 b)) y
    = headOf x g w b ((Rect.unit (s := S1x18x512x128) ![0, 14, 0, 0] ![1, 1, 512, 128] inb_S1x18x512x128_S1x1x512x128_0_14_0_0).emb y) := by
  have h1 : (y 1).val < 1 := (y 1).isLt
  have h3 : (y 3).val < 128 := (y 3).isLt
  refine (cut (k := 1024) (k0_pay16 (F := Ideal) (k0_pay3 (F := Ideal) x g) (w2 w) (b2 b)) 512 slices_S512x1024_o0_512_S512x128 shapeCasts_S512x128_S1x1x512x128 y ⟨512 + (y 3).val, by omega⟩ rfl).trans
    ((part2 x g w b (y 2) ⟨512 + (y 3).val, by omega⟩).trans ?_)
  exact place x g w b (by show 1280 + (512 + (y 3).val) = 128 * (14 + 1 * (y 1).val) + (0 + 1 * (y 3).val); omega) (by show (y 2).val = 0 + 1 * (y 2).val; omega)

theorem head15 (y : S1x1x512x128.Idx) : k0_pay23 (F := Ideal) (k0_pay16 (F := Ideal) (k0_pay3 (F := Ideal) x g) (w2 w) (b2 b)) y
    = headOf x g w b ((Rect.unit (s := S1x18x512x128) ![0, 15, 0, 0] ![1, 1, 512, 128] inb_S1x18x512x128_S1x1x512x128_0_15_0_0).emb y) := by
  have h1 : (y 1).val < 1 := (y 1).isLt
  have h3 : (y 3).val < 128 := (y 3).isLt
  refine (cut (k := 1024) (k0_pay16 (F := Ideal) (k0_pay3 (F := Ideal) x g) (w2 w) (b2 b)) 640 slices_S512x1024_o0_640_S512x128 shapeCasts_S512x128_S1x1x512x128 y ⟨640 + (y 3).val, by omega⟩ rfl).trans
    ((part2 x g w b (y 2) ⟨640 + (y 3).val, by omega⟩).trans ?_)
  exact place x g w b (by show 1280 + (640 + (y 3).val) = 128 * (15 + 1 * (y 1).val) + (0 + 1 * (y 3).val); omega) (by show (y 2).val = 0 + 1 * (y 2).val; omega)

theorem head16 (y : S1x1x512x128.Idx) : k0_pay24 (F := Ideal) (k0_pay16 (F := Ideal) (k0_pay3 (F := Ideal) x g) (w2 w) (b2 b)) y
    = headOf x g w b ((Rect.unit (s := S1x18x512x128) ![0, 16, 0, 0] ![1, 1, 512, 128] inb_S1x18x512x128_S1x1x512x128_0_16_0_0).emb y) := by
  have h1 : (y 1).val < 1 := (y 1).isLt
  have h3 : (y 3).val < 128 := (y 3).isLt
  refine (cut (k := 1024) (k0_pay16 (F := Ideal) (k0_pay3 (F := Ideal) x g) (w2 w) (b2 b)) 768 slices_S512x1024_o0_768_S512x128 shapeCasts_S512x128_S1x1x512x128 y ⟨768 + (y 3).val, by omega⟩ rfl).trans
    ((part2 x g w b (y 2) ⟨768 + (y 3).val, by omega⟩).trans ?_)
  exact place x g w b (by show 1280 + (768 + (y 3).val) = 128 * (16 + 1 * (y 1).val) + (0 + 1 * (y 3).val); omega) (by show (y 2).val = 0 + 1 * (y 2).val; omega)

theorem head17 (y : S1x1x512x128.Idx) : k0_pay25 (F := Ideal) (k0_pay16 (F := Ideal) (k0_pay3 (F := Ideal) x g) (w2 w) (b2 b)) y
    = headOf x g w b ((Rect.unit (s := S1x18x512x128) ![0, 17, 0, 0] ![1, 1, 512, 128] inb_S1x18x512x128_S1x1x512x128_0_17_0_0).emb y) := by
  have h1 : (y 1).val < 1 := (y 1).isLt
  have h3 : (y 3).val < 128 := (y 3).isLt
  refine (cut (k := 1024) (k0_pay16 (F := Ideal) (k0_pay3 (F := Ideal) x g) (w2 w) (b2 b)) 896 slices_S512x1024_o0_896_S512x128 shapeCasts_S512x128_S1x1x512x128 y ⟨896 + (y 3).val, by omega⟩ rfl).trans
    ((part2 x g w b (y 2) ⟨896 + (y 3).val, by omega⟩).trans ?_)
  exact place x g w b (by show 1280 + (896 + (y 3).val) = 128 * (17 + 1 * (y 1).val) + (0 + 1 * (y 3).val); omega) (by show (y 2).val = 0 + 1 * (y 2).val; omega)

theorem heads_eq : heads x g w b = headOf x g w b := by
  funext j
  unfold heads
  refine View.canon_apply_of_pieces (Val := Elt Ideal) (S := S1x18x512x128) (e := .f32) (headOf x g w b) _ ?_ j ?_
  · intro p hp y
    rcases List.mem_cons.mp hp with rfl | hp
    · exact head17 x g w b y
    rcases List.mem_cons.mp hp with rfl | hp
    · exact head16 x g w b y
    rcases List.mem_cons.mp hp with rfl | hp
    · exact head15 x g w b y
    rcases List.mem_cons.mp hp with rfl | hp
    · exact head14 x g w b y
    rcases List.mem_cons.mp hp with rfl | hp
    · exact head13 x g w b y
    rcases List.mem_cons.mp hp with rfl | hp
    · exact head12 x g w b y
    rcases List.mem_cons.mp hp with rfl | hp
    · exact head11 x g w b y
    rcases List.mem_cons.mp hp with rfl | hp
    · exact head10 x g w b y
    rcases List.mem_cons.mp hp with rfl | hp
    · exact head9 x g w b y
    rcases List.mem_cons.mp hp with rfl | hp
    · exact head8 x g w b y
    rcases List.mem_cons.mp hp with rfl | hp
    · exact head7 x g w b y
    rcases List.mem_cons.mp hp with rfl | hp
    · exact head6 x g w b y
    rcases List.mem_cons.mp hp with rfl | hp
    · exact head5 x g w b y
    rcases List.mem_cons.mp hp with rfl | hp
    · exact head4 x g w b y
    rcases List.mem_cons.mp hp with rfl | hp
    · exact head3 x g w b y
    rcases List.mem_cons.mp hp with rfl | hp
    · exact head2 x g w b y
    rcases List.mem_cons.mp hp with rfl | hp
    · exact head1 x g w b y
    rcases List.mem_cons.mp hp with rfl | hp
    · exact head0 x g w b y
    · cases hp
  · exact View.cover_of_tiledBy _ ![1, 1, 512, 128] (by sl_kernel_rfl) j

theorem gates_eq : gates x g w b = fun i => entry x g w b (i 0) ⟨3072 + (i 1).val, by have h : (i 1).val < 2048 := (i 1).isLt; omega⟩ := by
  funext j
  unfold gates
  refine View.canon_apply_of_pieces (Val := Elt Ideal) (S := S512x2048) (e := .bf16)
    (fun i => entry x g w b (i 0) ⟨3072 + (i 1).val, by have h : (i 1).val < 2048 := (i 1).isLt; omega⟩) _ ?_ j ?_
  · intro p hp y
    rcases List.mem_cons.mp hp with rfl | hp
    · refine (congrArg _ (eq_ix2 y)).trans ((part5 x g w b (y 0) (y 1)).trans ?_)
      exact place x g w b (by show 4096 + (y 1).val = 3072 + (1024 + 1 * (y 1).val); omega) (by show (y 0).val = 0 + 1 * (y 0).val; omega)
    rcases List.mem_cons.mp hp with rfl | hp
    · refine (congrArg _ (eq_ix2 y)).trans ((part4 x g w b (y 0) (y 1)).trans ?_)
      exact place x g w b (by show 3072 + (y 1).val = 3072 + (0 + 1 * (y 1).val); omega) (by show (y 0).val = 0 + 1 * (y 0).val; omega)
    · cases hp
  · exact View.cover_of_tiledBy _ ![512, 1024] (by sl_kernel_rfl) j

end Cert.Entry.Pay

end
-- ==== Proof.EntryArray.lean ====
/-
  The arrays after the input projection's forward call has run over its 16 row tiles.
-/
module

public import proofs.«01_k».proof.Proof.EntryPay
public import Idealize.ShloMosaic.Lib.Pipeline.ValueKit
public import Idealize.ShloMosaic.Lib.Pipeline.ReadBack

@[expose] public section

set_option maxRecDepth 16384
set_option maxHeartbeats 1600000

noncomputable section

namespace Cert.Entry

variable (h : Mat 8192 1024) (g : Mat 1 1024) (w : Mat 5120 1024) (b : Mat 1 5120)

/-- The normalised rows as an array. -/
def normals : Mat 8192 1024 := fun i => normal h g (i 0) (i 1)

/-- The first 2304 columns, by sequence and block of 128 columns. -/
def headCols : (⟨4, ![4, 18, 2048, 128]⟩ : Idealize.ShloMosaic.Shape).Idx → EReal := fun i =>
  entry h g w b ⟨2048 * (i 0).val + (i 2).val, by have h0 : (i 0).val < 4 := (i 0).isLt; have h2 : (i 2).val < 2048 := (i 2).isLt; omega⟩
    ⟨128 * (i 1).val + (i 3).val, by have h1 : (i 1).val < 18 := (i 1).isLt; have h3 : (i 3).val < 128 := (i 3).isLt; omega⟩

/-- The next 768 columns. -/
def midCols : Mat 8192 768 := fun i => entry h g w b (i 0) ⟨2304 + (i 1).val, by have h1 : (i 1).val < 768 := (i 1).isLt; omega⟩

/-- The last 2048 columns. -/
def lastCols : Mat 8192 2048 := fun i => entry h g w b (i 0) ⟨3072 + (i 1).val, by have h1 : (i 1).val < 2048 := (i 1).isLt; omega⟩

/-- Elements at equal places are equal. -/
theorem place {R : ℕ} (h : Mat R 1024) {r r' : Fin R} {f f' : Fin 5120} (hr : r.val = r'.val) (hf : f.val = f'.val) :
    entry h g w b r f = entry h g w b r' f' := by
  rw [Fin.ext hf, Fin.ext hr]

end Cert.Entry

namespace Cert.EntryArray

open Cert.Kernel7Ideal Cert.Kernel7Ideal.Gen Idealize.ShloMosaic Idealize.ShloMosaic.TcCoe Idealize.SL.Sem
open Idealize.ShloMosaic.Pipeline (Dat)
open Cert.Entry
open Cert.Entry.Pay (heads gates heads_eq gates_eq headOf normed part3 w3 b3)

theorem idx : ∀ t : Fin cfg0.N, win0_0.index t = ![t.val, 0] ∧ win0_1.index t = ![0, 0] ∧ win0_2.index t = ![0, 0] ∧ win0_3.index t = ![t.val, 0] ∧ win0_4.index t = ![t.val / 4, 0, t.val % 4, 0] ∧ win0_5.index t = ![t.val, 0] ∧ win0_6.index t = ![t.val, 0] :=
  (by decide +kernel : ∀ t : Fin grid0.N, win0_0.index t = ![t.val, 0] ∧ win0_1.index t = ![0, 0] ∧ win0_2.index t = ![0, 0] ∧ win0_3.index t = ![t.val, 0] ∧ win0_4.index t = ![t.val / 4, 0, t.val % 4, 0] ∧ win0_5.index t = ![t.val, 0] ∧ win0_6.index t = ![t.val, 0])

variable (m : (ℓ : Loc nD τ Cert.Kernel7Ideal.sig) → Buf (Elt Ideal) ℓ) (c : Dev nD)

/-! ## The weight stays in the scratch -/

theorem kept0 (n : ℕ) (hn : n < cfg0.N) : (outsAt0 m c n hn).2.2.2.2 = m ((c : Thread nD τ).loc main_arg2) := by
  induction n with
  | zero =>
    rw [outsAt0_A m c ⟨0, hn⟩ rfl]
    frame_out
    refine (View.canon_unit_zero (S := S5120x1024) (off := fun _ => 0) rfl _ _).trans ?_
    exact V_main_arg2 m c
  | succ n ih =>
    rw [outsAt0_B m c ⟨n + 1, hn⟩ (by show ¬ (n + 1) % 16 = 0; have : n + 1 < 16 := hn; omega)]
    dsimp only
    unfold sout0_B_0
    exact ih (by omega)

/-- A load from a scratch that was stored whole. -/
theorem loaded {κ : Kind} {sp : Space} (v : View Cert.Kernel7Ideal.sig κ sp S5120x1024 .bf16) (X : Vec Ideal S5120x1024 .bf16) (r : Rect S5120x1024) :
    v.readCov (Val := Elt Ideal) [(⟨Rect.whole S5120x1024, X⟩ : View.Piece (Elt Ideal) S5120x1024 .bf16)] r.toLoadRect = View.ld X r := by
  rw [View.readCov_eq_canon_ld _ _ _ (fun y => ⟨_, List.mem_singleton_self _, by
    show y ∈ (Rect.whole S5120x1024).set; rw [Rect.set_whole]; exact Finset.mem_univ y⟩)]
  exact congrArg (fun Y => View.ld Y r) (View.canon_unit_zero (S := S5120x1024) (off := fun _ => 0) rfl _ _)

/-! ## What a tile leaves, over its blocks -/

section
variable (t : Fin cfg0.N)

theorem leaves_normal : (outsAt0 m c t.val t.isLt).1 = k0_pay3 (F := Ideal) (iblk m c 0 t) (iblk m c 1 t) := by
  by_cases h : t.val % 16 = 0
  · rw [outsAt0_A m c t h]; frame_out
  · rw [outsAt0_B m c t h]; frame_out

theorem leaves_head : (outsAt0 m c t.val t.isLt).2.1 = heads (iblk m c 0 t) (iblk m c 1 t) (m ((c : Thread nD τ).loc main_arg2)) (iblk m c 2 t) := by
  by_cases h : t.val % 16 = 0
  · rw [outsAt0_A m c t h]; frame_out
    simp only [loaded]
    rw [← V_main_arg2 m c]; rfl
  · rw [outsAt0_B m c t h]; frame_out
    simp only [read_unread_whole, kept0]

theorem leaves_mid : (outsAt0 m c t.val t.isLt).2.2.1 = k0_pay26 (F := Ideal) (k0_pay3 (F := Ideal) (iblk m c 0 t) (iblk m c 1 t)) (w3 (m ((c : Thread nD τ).loc main_arg2))) (b3 (iblk m c 2 t)) := by
  by_cases h : t.val % 16 = 0
  · rw [outsAt0_A m c t h]; frame_out
    simp only [loaded]
    rw [← V_main_arg2 m c]; rfl
  · rw [outsAt0_B m c t h]; frame_out
    simp only [read_unread_whole, kept0]

theorem leaves_last : (outsAt0 m c t.val t.isLt).2.2.2.1 = gates (iblk m c 0 t) (iblk m c 1 t) (m ((c : Thread nD τ).loc main_arg2)) (iblk m c 2 t) := by
  by_cases h : t.val % 16 = 0
  · rw [outsAt0_A m c t h]; frame_out
    simp only [loaded]
    rw [← V_main_arg2 m c]; rfl
  · rw [outsAt0_B m c t h]; frame_out
    simp only [read_unread_whole, kept0]

/-! ## The blocks -/

/-- A tile of 512 rows. -/
def rows {k : ℕ} (t : Fin 16) (X : Mat 8192 k) : Mat 512 k := fun i => X (ix2 ⟨512 * t.val + (i 0).val, by have h : (i 0).val < 512 := (i 0).isLt; omega⟩ (i 1))

theorem block0 : iblk m c 0 t = rows (k := 1024) t (m ((c : Thread nD τ).loc main_arg0)) := by
  have e := (idx t).1
  rw [← V_main_arg0 m c]
  funext y
  unfold rows
  blk_ext [iblk, e]

theorem block1 : iblk m c 1 t = m ((c : Thread nD τ).loc main_arg1) := by
  have e := (idx t).2.1
  rw [← V_main_arg1 m c]
  funext y
  blk_ext [iblk, e]

theorem block2 : iblk m c 2 t = m ((c : Thread nD τ).loc main_arg3) := by
  have e := (idx t).2.2.1
  rw [← V_main_arg3 m c]
  funext y
  blk_ext [iblk, e]

end

/-! ## The arrays -/

section
/-- The arrays' values at the call's arguments. -/
abbrev argRows : Mat 8192 1024 := m ((c : Thread nD τ).loc main_arg0)
abbrev argGain : Mat 1 1024 := m ((c : Thread nD τ).loc main_arg1)
abbrev argWeight : Mat 5120 1024 := m ((c : Thread nD τ).loc main_arg2)
abbrev argBias : Mat 1 5120 := m ((c : Thread nD τ).loc main_arg3)

theorem array_normal : (dats m 0 c).arrAt 3 cfg0.N = normals (argRows m c) (argGain m c) := by
  refine (dats m 0 c).arrAt_eq_of_covers 3 _ (by decide +kernel) fun t hf y => ?_
  blk_simp
  rw [after0_3, leaves_normal, block0, block1]
  have e := (idx t).2.2.2.1
  have ht : t.val < 16 := t.isLt
  have hy : (y 0).val < 512 := (y 0).isLt
  refine (congrArg _ (eq_ix2 y)).trans ((normed _ _ (y 0) (y 1)).trans ?_)
  refine Eq.trans (b := normals (argRows m c) (argGain m c) (ix2 ⟨512 * t.val + (y 0).val, by omega⟩ (y 1))) rfl ?_
  refine Eq.symm ?_
  blk_ext [e]

theorem array_mid : (dats m 0 c).arrAt 5 cfg0.N = midCols (argRows m c) (argGain m c) (argWeight m c) (argBias m c) := by
  refine (dats m 0 c).arrAt_eq_of_covers 5 _ (by decide +kernel) fun t hf y => ?_
  blk_simp
  rw [after0_5, leaves_mid, block0, block1, block2]
  have e := (idx t).2.2.2.2.2.1
  have ht : t.val < 16 := t.isLt
  have hy : (y 0).val < 512 := (y 0).isLt
  refine (congrArg _ (eq_ix2 y)).trans ((part3 _ _ _ _ (y 0) (y 1)).trans ?_)
  refine Eq.trans (b := midCols (argRows m c) (argGain m c) (argWeight m c) (argBias m c) (ix2 ⟨512 * t.val + (y 0).val, by omega⟩ (y 1))) rfl ?_
  refine Eq.symm ?_
  blk_ext [e]

theorem array_last : (dats m 0 c).arrAt 6 cfg0.N = lastCols (argRows m c) (argGain m c) (argWeight m c) (argBias m c) := by
  refine (dats m 0 c).arrAt_eq_of_covers 6 _ (by decide +kernel) fun t hf y => ?_
  blk_simp
  rw [after0_6, leaves_last, block0, block1, block2, gates_eq]
  have e := (idx t).2.2.2.2.2.2
  have ht : t.val < 16 := t.isLt
  have hy : (y 0).val < 512 := (y 0).isLt
  refine Eq.trans (b := lastCols (argRows m c) (argGain m c) (argWeight m c) (argBias m c) (ix2 ⟨512 * t.val + (y 0).val, by omega⟩ (y 1))) rfl ?_
  refine Eq.symm ?_
  blk_ext [e]

theorem array_head : (dats m 0 c).arrAt 4 cfg0.N = headCols (argRows m c) (argGain m c) (argWeight m c) (argBias m c) := by
  refine (dats m 0 c).arrAt_eq_of_covers 4 _ (by decide +kernel) fun t hf y => ?_
  blk_simp
  rw [after0_4, leaves_head, block0, block1, block2, heads_eq]
  have e := (idx t).2.2.2.2.1
  have ht : t.val < 16 := t.isLt
  have h0 : (y 0).val < 1 := (y 0).isLt
  have h1 : (y 1).val < 18 := (y 1).isLt
  have h2 : (y 2).val < 512 := (y 2).isLt
  have h3 : (y 3).val < 128 := (y 3).isLt
  refine Eq.trans (b := headCols (argRows m c) (argGain m c) (argWeight m c) (argBias m c) (ix4 ⟨t.val / 4, by omega⟩ (y 1) ⟨512 * (t.val % 4) + (y 2).val, by omega⟩ (y 3))) ?_ ?_
  · exact place (argGain m c) (argWeight m c) (argBias m c) (argRows m c)
      (by show 512 * t.val + (y 2).val = 2048 * (t.val / 4) + (512 * (t.val % 4) + (y 2).val); omega) rfl
  · refine Eq.symm ?_
    blk_ext [e]

end

end Cert.EntryArray

end
-- ==== Proof.EntryClaim.lean ====
/-
  The value claim of the input projection's forward call: the kernel's run and the reference's run end with the same four arrays.
-/
module

public import proofs.«01_k».proof.Defs
public import proofs.«01_k».proof.Proof.EntryArray
public import proofs.«01_k».proof.Proof.Gen.Reference7Ideal.Read

@[expose] public section

set_option maxRecDepth 16384
set_option maxHeartbeats 1600000

noncomputable section

namespace Cert.EntryClaim

open Idealize.ShloMosaic Idealize.ShloMosaic.TcCoe Idealize.SL.Sem
open Cert.Entry

section
open Cert.Reference7Ideal Cert.Reference7Ideal.Read

variable (h : Mat 8192 1024) (g : Mat 1 1024) (w : Mat 5120 1024) (b : Mat 1 5120)

/-- The reference's normalised rows. -/
theorem normed (i : S8192x1024.Idx) : val_main_v11 (F := Ideal) h g i = normal h g (i 0) (i 1) := by
  rw [val_main_v11_apply, val_main_v9_apply, val_main_v8_apply, val_main_v7_apply, val_main_v6_apply, val_main_v4_apply, val_main_v2_apply,
    val_main_v1_apply, val_main_v3_apply, val_main_v5_apply, val_main_v10_apply, val_main_cst_apply, val_main_cst_0_apply, val_main_cst_1_apply]
  show _ * Ideal.rsqrt (Ideal.div (Ideal.ofBits .f32 0x00000000#32 + _) _ + _) * _ = _
  rw [Ideal.ofBits_zero, zero_add]
  have e : i = ix2 (i 0) (i 1) := eq_ix2 i
  unfold normal
  congr 1
  · congr 1
    · exact congrArg h e
    · congr 3
      refine Finset.sum_congr rfl fun k _ => ?_
      have ek : idx_main_v1 (idx_main_v2 (idx_main_v8 i)) k = ix2 (i 0) k := eq_ix2 _
      rw [val_main_v0_apply, ek]; rfl
  · exact congrArg g (eq_ix2 _)

/-- The reference's projection. -/
theorem entered (i : S8192x5120.Idx) : val_main_v16 (F := Ideal) h g w b i = entry h g w b (i 0) (i 1) := by
  rw [val_main_v16_apply, val_main_v14_apply, val_main_v15_apply]
  unfold entry
  refine congrArg₂ (· + ·) (Finset.sum_congr rfl fun k _ => ?_) (congrArg b (eq_ix2 _))
  rw [normed, val_main_v13_apply, val_main_v12_apply]
  exact congrArg _ (congrArg w (eq_ix2 _))

theorem out_normal : val_main_v22 (F := Ideal) h g = normals h g := funext fun i => normed h g i

theorem out_mid : val_main_v23 (F := Ideal) h g w b = midCols h g w b := funext fun i => by
  rw [val_main_v23_apply, val_main_v18_apply]; exact entered h g w b _

theorem out_last : val_main_v24 (F := Ideal) h g w b = lastCols h g w b := funext fun i => by
  rw [val_main_v24_apply, val_main_v19_apply]; exact entered h g w b _

theorem out_head : val_main_v21 (F := Ideal) h g w b = headCols h g w b := funext fun i => by
  rw [val_main_v21_apply, val_main_v20_apply, val_main_v17_apply]
  refine (entered h g w b _).trans ?_
  have h0 : (i 0).val < 4 := (i 0).isLt
  have h1 : (i 1).val < 18 := (i 1).isLt
  have h2 : (i 2).val < 2048 := (i 2).isLt
  have h3 : (i 3).val < 128 := (i 3).isLt
  exact place g w b h
    (by show ((((i 0).val * 2048 + (i 2).val) * 18 + (i 1).val) * 128 + (i 3).val) / 2304 = 2048 * (i 0).val + (i 2).val; omega)
    (by show ((((i 0).val * 2048 + (i 2).val) * 18 + (i 1).val) * 128 + (i 3).val) % 2304 = 128 * (i 1).val + (i 3).val; omega)
end

open Cert.EntryArray (argRows argGain argWeight argBias)

theorem algebraic : Cert.algebraic_Kernel7Ideal_Reference7Ideal := by
  intro m g m' g' _ hagree
  refine ⟨fun c => normals (argRows m c) (argGain m c), fun c => headCols (argRows m c) (argGain m c) (argWeight m c) (argBias m c),
    fun c => midCols (argRows m c) (argGain m c) (argWeight m c) (argBias m c),
    fun c => lastCols (argRows m c) (argGain m c) (argWeight m c) (argBias m c), ?_, ?_⟩
  · refine (θ_run Cert.Kernel7Ideal.defs _ _).mono (fun r h c => ?_) (Cert.Kernel7Ideal.Value.run_blocks (F := Ideal) m g)
    obtain ⟨h0, h1, h2, h3, hargs⟩ := h c
    exact ⟨h0.trans (Cert.EntryArray.array_normal m c), h1.trans (Cert.EntryArray.array_head m c),
      h2.trans (Cert.EntryArray.array_mid m c), h3.trans (Cert.EntryArray.array_last m c), hargs⟩
  · refine (θ_run Cert.Reference7Ideal.defs _ _).mono (fun r h c => ?_) (Cert.Reference7Ideal.Value.run (F := Ideal) m' g')
    obtain ⟨h0, h1, h2, h3, hargs⟩ := h c
    obtain ⟨a0, a1, a2, a3⟩ := hagree c
    refine ⟨(h0.trans (Cert.Reference7Ideal.Read.val_main_v22_eq _ _)).trans ?_,
      (h1.trans (Cert.Reference7Ideal.Read.val_main_v21_eq _ _ _ _)).trans ?_,
      (h2.trans (Cert.Reference7Ideal.Read.val_main_v23_eq _ _ _ _)).trans ?_,
      (h3.trans (Cert.Reference7Ideal.Read.val_main_v24_eq _ _ _ _)).trans ?_, hargs⟩
    · rw [a0, a1]; exact out_normal _ _
    · rw [a0, a1, a2, a3]; exact out_head _ _ _ _
    · rw [a0, a1, a2, a3]; exact out_mid _ _ _ _
    · rw [a0, a1, a2, a3]; exact out_last _ _ _ _

end Cert.EntryClaim

end
-- ==== Proof.OutWgrad.lean ====
/-
  The gradient of the output projection's weight: what the kernel leaves in its result array is, element by element, the sum over the 8192 rows of
  a left column times a right column, and the reference's product is the same sum.
-/
module

public import proofs.«01_k».proof.Defs
public import proofs.«01_k».proof.Proof.Gen.Kernel8Ideal.Value
public import proofs.«01_k».proof.Proof.Gen.Reference8Ideal.Read
public import proofs.«01_k».proof.Proof.Products
public import Idealize.ShloMosaic.Lib.Pipeline.ValueKit

@[expose] public section

set_option maxRecDepth 16384

noncomputable section

namespace Cert.OutWgrad

open Cert.Kernel8Ideal Cert.Kernel8Ideal.Gen Idealize.ShloMosaic Idealize.ShloMosaic.TcCoe Idealize.SL.Sem
open Idealize.ShloMosaic.Pipeline (Dat)

/-- The product of the transposed left array with the right one. -/
def wgrad (x : S8192x1024.Idx → EReal) (y : S8192x1024.Idx → EReal) : S1024x1024.Idx → EReal :=
  fun j => ∑ k : Fin 8192, x (ix2 k (j 0)) * y (ix2 k (j 1))

/-- One block of the product. -/
theorem pay_apply (v0 : Vec Ideal S8192x256 .bf16) (v1 : Vec Ideal S8192x1024 .bf16) (r : Fin 256) (c : Fin 1024) :
    k0_pay1 v0 v1 (ix2 r c) = ∑ k : Fin 8192, v0 (ix2 k r) * v1 (ix2 k c) := by
  refine (Products.matmul_tn (φ₁ := .bf16) (φ₂ := .bf16) _ none v0 v1 _ r c).trans ?_
  show Ideal.ofBits .f32 0x00000000#32 + _ = _
  rw [Ideal.ofBits_zero, zero_add]
  rfl

variable (m : (ℓ : Loc nD τ sig) → Buf (Elt Ideal) ℓ)

theorem idx : ∀ t : Fin cfg0.N, win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0])

/-- The result array after the run. -/
theorem array_eq (c : Dev nD) :
    (dats m 0 c).arrAt 2 cfg0.N = wgrad (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [show y = ix2 (y 0) (y 1) from eq_ix2 y]
  refine (pay_apply _ _ _ _).trans ?_
  unfold wgrad
  obtain ⟨e0, e1, e2⟩ := idx t
  refine Finset.sum_congr rfl fun k _ => ?_
  congr 1 <;> blk_ext [iblk, e0, e1, e2]

/-- The reference's result is the same product. -/
theorem reference_eq (x : S8192x1024.Idx → EReal) (y : S8192x1024.Idx → EReal) :
    Cert.Reference8Ideal.Read.val_main_v6 (F := Ideal) x y = wgrad x y := by
  funext j
  rw [Cert.Reference8Ideal.Read.val_main_v6_apply]
  show Cert.Reference8Ideal.Read.val_main_v5 (F := Ideal) x y j = _
  rw [Cert.Reference8Ideal.Read.val_main_v5_apply, Cert.Reference8Ideal.Read.val_main_v4_apply]
  unfold wgrad
  refine Finset.sum_congr rfl fun k _ => ?_
  rw [Cert.Reference8Ideal.Read.val_main_v1_apply, Cert.Reference8Ideal.Read.val_main_v0_apply]
  show y _ * x _ = _
  rw [mul_comm]
  congr 1 <;> blk_ext

/-- The kernel's run and the reference's run end with the same product. -/
theorem algebraic : Cert.algebraic_Kernel8Ideal_Reference8Ideal := by
  intro m g m' g' _ hagree
  refine ⟨fun c => wgrad (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1)), ?_, ?_⟩
  · exact (θ_run Cert.Kernel8Ideal.defs _ _).mono (fun r h c => ⟨(h c).1.trans (array_eq m c), (h c).2⟩)
      (Cert.Kernel8Ideal.Value.run_blocks (F := Ideal) m g)
  · refine (θ_run Cert.Reference8Ideal.defs _ _).mono (fun r h c => ⟨?_, (h c).2⟩)
      (Cert.Reference8Ideal.Value.run (F := Ideal) m' g')
    refine ((h c).1.trans (Cert.Reference8Ideal.Read.val_main_v6_eq _ _)).trans ?_
    rw [(hagree c).1, (hagree c).2]
    exact reference_eq _ _

end Cert.OutWgrad

end
-- ==== Proof.BranchWgrad.lean ====
/-
  The gradient of the first branch's projection: what the kernel leaves in its result array is, element by element, the sum over the 8192 rows of
  a left column times a right column, and the reference's product is the same sum.
-/
module

public import proofs.«01_k».proof.Defs
public import proofs.«01_k».proof.Proof.Gen.Kernel9Ideal.Value
public import proofs.«01_k».proof.Proof.Gen.Reference9Ideal.Read
public import proofs.«01_k».proof.Proof.Products
public import Idealize.ShloMosaic.Lib.Pipeline.ValueKit

@[expose] public section

set_option maxRecDepth 16384

noncomputable section

namespace Cert.BranchWgrad

open Cert.Kernel9Ideal Cert.Kernel9Ideal.Gen Idealize.ShloMosaic Idealize.ShloMosaic.TcCoe Idealize.SL.Sem
open Idealize.ShloMosaic.Pipeline (Dat)

/-- The product of the transposed left array with the right one. -/
def wgrad (x : S8192x1024.Idx → EReal) (y : S8192x256.Idx → EReal) : S1024x256.Idx → EReal :=
  fun j => ∑ k : Fin 8192, x (ix2 k (j 0)) * y (ix2 k (j 1))

/-- One block of the product. -/
theorem pay_apply (v0 : Vec Ideal S8192x256 .bf16) (v1 : Vec Ideal S8192x256 .bf16) (r : Fin 256) (c : Fin 256) :
    k0_pay1 v0 v1 (ix2 r c) = ∑ k : Fin 8192, v0 (ix2 k r) * v1 (ix2 k c) := by
  refine (Products.matmul_tn (φ₁ := .bf16) (φ₂ := .bf16) _ none v0 v1 _ r c).trans ?_
  show Ideal.ofBits .f32 0x00000000#32 + _ = _
  rw [Ideal.ofBits_zero, zero_add]
  rfl

variable (m : (ℓ : Loc nD τ sig) → Buf (Elt Ideal) ℓ)

theorem idx : ∀ t : Fin cfg0.N, win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0])

/-- The result array after the run. -/
theorem array_eq (c : Dev nD) :
    (dats m 0 c).arrAt 2 cfg0.N = wgrad (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [show y = ix2 (y 0) (y 1) from eq_ix2 y]
  refine (pay_apply _ _ _ _).trans ?_
  unfold wgrad
  obtain ⟨e0, e1, e2⟩ := idx t
  refine Finset.sum_congr rfl fun k _ => ?_
  congr 1 <;> blk_ext [iblk, e0, e1, e2]

/-- The reference's result is the same product. -/
theorem reference_eq (x : S8192x1024.Idx → EReal) (y : S8192x256.Idx → EReal) :
    Cert.Reference9Ideal.Read.val_main_v8 (F := Ideal) x y = wgrad x y := by
  funext j
  rw [Cert.Reference9Ideal.Read.val_main_v8_apply]
  show Cert.Reference9Ideal.Read.val_main_v7 (F := Ideal) x y j = _
  rw [Cert.Reference9Ideal.Read.val_main_v7_apply, Cert.Reference9Ideal.Read.val_main_v6_apply,
    Cert.Reference9Ideal.Read.val_main_v5_apply]
  unfold wgrad
  refine Finset.sum_congr rfl fun k _ => ?_
  rw [Cert.Reference9Ideal.Read.val_main_v1_apply, Cert.Reference9Ideal.Read.val_main_v0_apply]
  show x _ * y _ = _
  congr 1 <;> blk_ext

/-- The kernel's run and the reference's run end with the same product. -/
theorem algebraic : Cert.algebraic_Kernel9Ideal_Reference9Ideal := by
  intro m g m' g' _ hagree
  refine ⟨fun c => wgrad (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1)), ?_, ?_⟩
  · exact (θ_run Cert.Kernel9Ideal.defs _ _).mono (fun r h c => ⟨(h c).1.trans (array_eq m c), (h c).2⟩)
      (Cert.Kernel9Ideal.Value.run_blocks (F := Ideal) m g)
  · refine (θ_run Cert.Reference9Ideal.defs _ _).mono (fun r h c => ⟨?_, (h c).2⟩)
      (Cert.Reference9Ideal.Value.run (F := Ideal) m' g')
    refine ((h c).1.trans (Cert.Reference9Ideal.Read.val_main_v8_eq _ _)).trans ?_
    rw [(hagree c).1, (hagree c).2]
    exact reference_eq _ _

end Cert.BranchWgrad

end
-- ==== Proof.BranchWgrad2.lean ====
/-
  The gradient of the second branch's projection: what the kernel leaves in its result array is, element by element, the sum over the 8192 rows of
  a left column times a right column, and the reference's product is the same sum.
-/
module

public import proofs.«01_k».proof.Defs
public import proofs.«01_k».proof.Proof.Gen.Kernel10Ideal.Value
public import proofs.«01_k».proof.Proof.Gen.Reference10Ideal.Read
public import proofs.«01_k».proof.Proof.Products
public import Idealize.ShloMosaic.Lib.Pipeline.ValueKit

@[expose] public section

set_option maxRecDepth 16384

noncomputable section

namespace Cert.BranchWgrad2

open Cert.Kernel10Ideal Cert.Kernel10Ideal.Gen Idealize.ShloMosaic Idealize.ShloMosaic.TcCoe Idealize.SL.Sem
open Idealize.ShloMosaic.Pipeline (Dat)

/-- The product of the transposed left array with the right one. -/
def wgrad (x : S8192x1024.Idx → EReal) (y : S8192x512.Idx → EReal) : S1024x512.Idx → EReal :=
  fun j => ∑ k : Fin 8192, x (ix2 k (j 0)) * y (ix2 k (j 1))

/-- One block of the product. -/
theorem pay_apply (v0 : Vec Ideal S8192x256 .bf16) (v1 : Vec Ideal S8192x512 .bf16) (r : Fin 256) (c : Fin 512) :
    k0_pay1 v0 v1 (ix2 r c) = ∑ k : Fin 8192, v0 (ix2 k r) * v1 (ix2 k c) := by
  refine (Products.matmul_tn (φ₁ := .bf16) (φ₂ := .bf16) _ none v0 v1 _ r c).trans ?_
  show Ideal.ofBits .f32 0x00000000#32 + _ = _
  rw [Ideal.ofBits_zero, zero_add]
  rfl

variable (m : (ℓ : Loc nD τ sig) → Buf (Elt Ideal) ℓ)

theorem idx : ∀ t : Fin cfg0.N, win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0])

/-- The result array after the run. -/
theorem array_eq (c : Dev nD) :
    (dats m 0 c).arrAt 2 cfg0.N = wgrad (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [show y = ix2 (y 0) (y 1) from eq_ix2 y]
  refine (pay_apply _ _ _ _).trans ?_
  unfold wgrad
  obtain ⟨e0, e1, e2⟩ := idx t
  refine Finset.sum_congr rfl fun k _ => ?_
  congr 1 <;> blk_ext [iblk, e0, e1, e2]

/-- The reference's result is the same product. -/
theorem reference_eq (x : S8192x1024.Idx → EReal) (y : S8192x512.Idx → EReal) :
    Cert.Reference10Ideal.Read.val_main_v8 (F := Ideal) x y = wgrad x y := by
  funext j
  rw [Cert.Reference10Ideal.Read.val_main_v8_apply]
  show Cert.Reference10Ideal.Read.val_main_v7 (F := Ideal) x y j = _
  rw [Cert.Reference10Ideal.Read.val_main_v7_apply, Cert.Reference10Ideal.Read.val_main_v6_apply,
    Cert.Reference10Ideal.Read.val_main_v5_apply]
  unfold wgrad
  refine Finset.sum_congr rfl fun k _ => ?_
  rw [Cert.Reference10Ideal.Read.val_main_v1_apply, Cert.Reference10Ideal.Read.val_main_v0_apply]
  show x _ * y _ = _
  congr 1 <;> blk_ext

/-- The kernel's run and the reference's run end with the same product. -/
theorem algebraic : Cert.algebraic_Kernel10Ideal_Reference10Ideal := by
  intro m g m' g' _ hagree
  refine ⟨fun c => wgrad (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1)), ?_, ?_⟩
  · exact (θ_run Cert.Kernel10Ideal.defs _ _).mono (fun r h c => ⟨(h c).1.trans (array_eq m c), (h c).2⟩)
      (Cert.Kernel10Ideal.Value.run_blocks (F := Ideal) m g)
  · refine (θ_run Cert.Reference10Ideal.defs _ _).mono (fun r h c => ⟨?_, (h c).2⟩)
      (Cert.Reference10Ideal.Value.run (F := Ideal) m' g')
    refine ((h c).1.trans (Cert.Reference10Ideal.Read.val_main_v8_eq _ _)).trans ?_
    rw [(hagree c).1, (hagree c).2]
    exact reference_eq _ _

end Cert.BranchWgrad2

end
-- ==== Proof.AdamThree.lean ====
/-
  The optimiser's step on the second network's three projections: the kernel and the reference write each element of the step and of the two
  moments by the same operations, in the same order, on the same elements of the weight, the gradient and the moments.
-/
module

public import proofs.«01_k».proof.Defs
public import proofs.«01_k».proof.Proof.Gen.Kernel11Ideal.Value
public import proofs.«01_k».proof.Proof.Gen.Reference11Ideal.Run

@[expose] public section

set_option maxRecDepth 16384

noncomputable section

namespace Cert.AdamThree

open Idealize.ShloMosaic Idealize.ShloMosaic.TcCoe Idealize.SL.Sem

/-- The kernel's run and the reference's run end with the same steps and moments. -/
theorem algebraic : Cert.algebraic_Kernel11Ideal_Reference11Ideal := by
  intro m g m' g' _ hagree
  refine ⟨_, _, _, _, _, _, _, _, _, Cert.Kernel11Ideal.Value.run (F := Ideal) m g, ?_⟩
  refine (θ_run Cert.Reference11Ideal.defs _ _).mono (fun r h c => ?_)
    (Cert.Reference11Ideal.Value.run (F := Ideal) m' g')
  obtain ⟨hr0, hr1, hr2, hr3, hr4, hr5, hr6, hr7, hr8, kept⟩ := h c
  obtain ⟨h0, h1, h2, h3, h4, h5, h6, h7, h8, h9, h10, h11⟩ := hagree c
  exact ⟨hr0.trans (by rw [h0, h1, h2, h3]; rfl),
    hr1.trans (by rw [h1, h2]; rfl),
    hr2.trans (by rw [h1, h3]; rfl),
    hr3.trans (by rw [h4, h5, h6, h7]; rfl),
    hr4.trans (by rw [h5, h6]; rfl),
    hr5.trans (by rw [h5, h7]; rfl),
    hr6.trans (by rw [h8, h9, h10, h11]; rfl),
    hr7.trans (by rw [h9, h10]; rfl),
    hr8.trans (by rw [h9, h11]; rfl), kept⟩

end Cert.AdamThree

end
-- ==== Proof.AdamGate.lean ====
/-
  The optimiser's step on a projection of the first network: the kernel and the reference write each element of the step and of the two
  moments by the same operations, in the same order, on the same elements of the weight, the gradient and the moments.
-/
module

public import proofs.«01_k».proof.Defs
public import proofs.«01_k».proof.Proof.Gen.Kernel12Ideal.Value
public import proofs.«01_k».proof.Proof.Gen.Reference12Ideal.Run

@[expose] public section

set_option maxRecDepth 16384

noncomputable section

namespace Cert.AdamGate

open Idealize.ShloMosaic Idealize.ShloMosaic.TcCoe Idealize.SL.Sem

/-- The kernel's run and the reference's run end with the same steps and moments. -/
theorem algebraic : Cert.algebraic_Kernel12Ideal_Reference12Ideal := by
  intro m g m' g' _ hagree
  refine ⟨_, _, _, Cert.Kernel12Ideal.Value.run (F := Ideal) m g, ?_⟩
  refine (θ_run Cert.Reference12Ideal.defs _ _).mono (fun r h c => ?_)
    (Cert.Reference12Ideal.Value.run (F := Ideal) m' g')
  obtain ⟨hr0, hr1, hr2, kept⟩ := h c
  obtain ⟨h0, h1, h2, h3⟩ := hagree c
  exact ⟨hr0.trans (by rw [h0, h1, h2, h3]; rfl),
    hr1.trans (by rw [h1, h2]; rfl),
    hr2.trans (by rw [h1, h3]; rfl), kept⟩

end Cert.AdamGate

end
-- ==== Proof.AdamIn.lean ====
/-
  The optimiser's step on the entry's projection: the kernel and the reference write each element of the step and of the two
  moments by the same operations, in the same order, on the same elements of the weight, the gradient and the moments.
-/
module

public import proofs.«01_k».proof.Defs
public import proofs.«01_k».proof.Proof.Gen.Kernel13Ideal.Value
public import proofs.«01_k».proof.Proof.Gen.Reference13Ideal.Run

@[expose] public section

set_option maxRecDepth 16384

noncomputable section

namespace Cert.AdamIn

open Idealize.ShloMosaic Idealize.ShloMosaic.TcCoe Idealize.SL.Sem

/-- The kernel's run and the reference's run end with the same steps and moments. -/
theorem algebraic : Cert.algebraic_Kernel13Ideal_Reference13Ideal := by
  intro m g m' g' _ hagree
  refine ⟨_, _, _, Cert.Kernel13Ideal.Value.run (F := Ideal) m g, ?_⟩
  refine (θ_run Cert.Reference13Ideal.defs _ _).mono (fun r h c => ?_)
    (Cert.Reference13Ideal.Value.run (F := Ideal) m' g')
  obtain ⟨hr0, hr1, hr2, kept⟩ := h c
  obtain ⟨h0, h1, h2, h3⟩ := hagree c
  exact ⟨hr0.trans (by rw [h0, h1, h2, h3]; rfl),
    hr1.trans (by rw [h1, h2]; rfl),
    hr2.trans (by rw [h1, h3]; rfl), kept⟩

end Cert.AdamIn

end
-- ==== Proof.AdamBranch.lean ====
/-
  The optimiser's step on the first branch's projection: the kernel and the reference write each element of the step and of the two
  moments by the same operations, in the same order, on the same elements of the weight, the gradient and the moments.
-/
module

public import proofs.«01_k».proof.Defs
public import proofs.«01_k».proof.Proof.Gen.Kernel14Ideal.Value
public import proofs.«01_k».proof.Proof.Gen.Reference14Ideal.Run

@[expose] public section

set_option maxRecDepth 16384

noncomputable section

namespace Cert.AdamBranch

open Idealize.ShloMosaic Idealize.ShloMosaic.TcCoe Idealize.SL.Sem

/-- The kernel's run and the reference's run end with the same steps and moments. -/
theorem algebraic : Cert.algebraic_Kernel14Ideal_Reference14Ideal := by
  intro m g m' g' _ hagree
  refine ⟨_, _, _, Cert.Kernel14Ideal.Value.run (F := Ideal) m g, ?_⟩
  refine (θ_run Cert.Reference14Ideal.defs _ _).mono (fun r h c => ?_)
    (Cert.Reference14Ideal.Value.run (F := Ideal) m' g')
  obtain ⟨hr0, hr1, hr2, kept⟩ := h c
  obtain ⟨h0, h1, h2, h3⟩ := hagree c
  exact ⟨hr0.trans (by rw [h0, h1, h2, h3]; rfl),
    hr1.trans (by rw [h1, h2]; rfl),
    hr2.trans (by rw [h1, h3]; rfl), kept⟩

end Cert.AdamBranch

end
-- ==== Proof.AdamBranch2.lean ====
/-
  The optimiser's step on the second branch's projection: the kernel and the reference write each element of the step and of the two
  moments by the same operations, in the same order, on the same elements of the weight, the gradient and the moments.
-/
module

public import proofs.«01_k».proof.Defs
public import proofs.«01_k».proof.Proof.Gen.Kernel15Ideal.Value
public import proofs.«01_k».proof.Proof.Gen.Reference15Ideal.Run

@[expose] public section

set_option maxRecDepth 16384

noncomputable section

namespace Cert.AdamBranch2

open Idealize.ShloMosaic Idealize.ShloMosaic.TcCoe Idealize.SL.Sem

/-- The kernel's run and the reference's run end with the same steps and moments. -/
theorem algebraic : Cert.algebraic_Kernel15Ideal_Reference15Ideal := by
  intro m g m' g' _ hagree
  refine ⟨_, _, _, Cert.Kernel15Ideal.Value.run (F := Ideal) m g, ?_⟩
  refine (θ_run Cert.Reference15Ideal.defs _ _).mono (fun r h c => ?_)
    (Cert.Reference15Ideal.Value.run (F := Ideal) m' g')
  obtain ⟨hr0, hr1, hr2, kept⟩ := h c
  obtain ⟨h0, h1, h2, h3⟩ := hagree c
  exact ⟨hr0.trans (by rw [h0, h1, h2, h3]; rfl),
    hr1.trans (by rw [h1, h2]; rfl),
    hr2.trans (by rw [h1, h3]; rfl), kept⟩

end Cert.AdamBranch2

end
-- ==== Proof.AdamOut.lean ====
/-
  The optimiser's step on the exit's projection: the kernel and the reference write each element of the step and of the two
  moments by the same operations, in the same order, on the same elements of the weight, the gradient and the moments.
-/
module

public import proofs.«01_k».proof.Defs
public import proofs.«01_k».proof.Proof.Gen.Kernel16Ideal.Value
public import proofs.«01_k».proof.Proof.Gen.Reference16Ideal.Run

@[expose] public section

set_option maxRecDepth 16384

noncomputable section

namespace Cert.AdamOut

open Idealize.ShloMosaic Idealize.ShloMosaic.TcCoe Idealize.SL.Sem

/-- The kernel's run and the reference's run end with the same steps and moments. -/
theorem algebraic : Cert.algebraic_Kernel16Ideal_Reference16Ideal := by
  intro m g m' g' _ hagree
  refine ⟨_, _, _, Cert.Kernel16Ideal.Value.run (F := Ideal) m g, ?_⟩
  refine (θ_run Cert.Reference16Ideal.defs _ _).mono (fun r h c => ?_)
    (Cert.Reference16Ideal.Value.run (F := Ideal) m' g')
  obtain ⟨hr0, hr1, hr2, kept⟩ := h c
  obtain ⟨h0, h1, h2, h3⟩ := hagree c
  exact ⟨hr0.trans (by rw [h0, h1, h2, h3]; rfl),
    hr1.trans (by rw [h1, h2]; rfl),
    hr2.trans (by rw [h1, h3]; rfl), kept⟩

end Cert.AdamOut

end
-- ==== Proof.lean ====
module

public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Reference4Ideal
public import proofs.«01_k».proof.Proof.Gen.Reference4Ideal.Run
public import proofs.«01_k».proof.Proof.Gen.Reference4Ideal.Read
public import proofs.«01_k».proof.Proof.Gen.Reference5Ideal
public import proofs.«01_k».proof.Proof.Gen.Reference5Ideal.Run
public import proofs.«01_k».proof.Proof.Gen.Reference5Ideal.Read
public import proofs.«01_k».proof.Proof.Gen.Reference6Ideal
public import proofs.«01_k».proof.Proof.Gen.Reference6Ideal.Run
public import proofs.«01_k».proof.Proof.Gen.Reference6Ideal.Read
public import proofs.«01_k».proof.Proof.Gen.Reference7Ideal
public import proofs.«01_k».proof.Proof.Gen.Reference7Ideal.Run
public import proofs.«01_k».proof.Proof.Gen.Reference7Ideal.Read
public import proofs.«01_k».proof.Proof.Gen.Reference8Ideal
public import proofs.«01_k».proof.Proof.Gen.Reference8Ideal.Run
public import proofs.«01_k».proof.Proof.Gen.Reference8Ideal.Read
public import proofs.«01_k».proof.Proof.Gen.Reference9Ideal
public import proofs.«01_k».proof.Proof.Gen.Reference9Ideal.Run
public import proofs.«01_k».proof.Proof.Gen.Reference9Ideal.Read
public import proofs.«01_k».proof.Proof.Gen.Reference10Ideal
public import proofs.«01_k».proof.Proof.Gen.Reference10Ideal.Run
public import proofs.«01_k».proof.Proof.Gen.Reference10Ideal.Read
public import proofs.«01_k».proof.Proof.Gen.Reference11Ideal
public import proofs.«01_k».proof.Proof.Gen.Reference11Ideal.Run
public import proofs.«01_k».proof.Proof.Gen.Reference11Ideal.Read
public import proofs.«01_k».proof.Proof.Gen.Reference12Ideal
public import proofs.«01_k».proof.Proof.Gen.Reference12Ideal.Run
public import proofs.«01_k».proof.Proof.Gen.Reference12Ideal.Read
public import proofs.«01_k».proof.Proof.Gen.Reference13Ideal
public import proofs.«01_k».proof.Proof.Gen.Reference13Ideal.Run
public import proofs.«01_k».proof.Proof.Gen.Reference13Ideal.Read
public import proofs.«01_k».proof.Proof.Gen.Reference14Ideal
public import proofs.«01_k».proof.Proof.Gen.Reference14Ideal.Run
public import proofs.«01_k».proof.Proof.Gen.Reference14Ideal.Read
public import proofs.«01_k».proof.Proof.Gen.Reference15Ideal
public import proofs.«01_k».proof.Proof.Gen.Reference15Ideal.Run
public import proofs.«01_k».proof.Proof.Gen.Reference15Ideal.Read
public import proofs.«01_k».proof.Proof.Gen.Reference16Ideal
public import proofs.«01_k».proof.Proof.Gen.Reference16Ideal.Run
public import proofs.«01_k».proof.Proof.Gen.Reference16Ideal.Read
public import proofs.«01_k».proof.Defs

public import proofs.«01_k».proof.Proof.FfnClaim
public import proofs.«01_k».proof.Proof.FfnPre
public import proofs.«01_k».proof.Proof.WgradClaim
public import proofs.«01_k».proof.Proof.ProjWgrad
public import proofs.«01_k».proof.Proof.ProjClaim
public import proofs.«01_k».proof.Proof.ProjPre
public import proofs.«01_k».proof.Proof.FwdClaim
public import proofs.«01_k».proof.Proof.FwdPre
public import proofs.«01_k».proof.Proof.HeadClaim
public import proofs.«01_k».proof.Proof.HeadPre
public import proofs.«01_k».proof.Proof.EntryClaim
public import proofs.«01_k».proof.Proof.OutWgrad
public import proofs.«01_k».proof.Proof.BranchWgrad
public import proofs.«01_k».proof.Proof.BranchWgrad2
public import proofs.«01_k».proof.Proof.AdamThree
public import proofs.«01_k».proof.Proof.AdamGate
public import proofs.«01_k».proof.Proof.AdamIn
public import proofs.«01_k».proof.Proof.AdamBranch
public import proofs.«01_k».proof.Proof.AdamBranch2
public import proofs.«01_k».proof.Proof.AdamOut

@[expose] public section

noncomputable section

namespace Cert.Proof

open Idealize.ShloMosaic Idealize.SL.Sem

theorem frame_kernel : Cert.quiescent_Kernel := fun m ρ _ => Cert.Kernel.Gen.frame (F := Bits) m ρ

theorem frame_kernelIdeal : Cert.quiescent_KernelIdeal := fun m ρ _ => Cert.KernelIdeal.Gen.frame (F := Ideal) m ρ

theorem frame_referenceIdeal : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem frame_kernel2 : Cert.quiescent_Kernel2 := fun m ρ _ => Cert.Kernel2.Gen.frame (F := Bits) m ρ

theorem frame_kernel2Ideal : Cert.quiescent_Kernel2Ideal := fun m ρ _ => Cert.Kernel2Ideal.Gen.frame (F := Ideal) m ρ

theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_kernel3 : Cert.quiescent_Kernel3 := fun m ρ _ => Cert.Kernel3.Gen.frame (F := Bits) m ρ

theorem frame_kernel3Ideal : Cert.quiescent_Kernel3Ideal := fun m ρ _ => Cert.Kernel3Ideal.Gen.frame (F := Ideal) m ρ

theorem frame_reference3Ideal : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem frame_kernel4 : Cert.quiescent_Kernel4 := fun m ρ _ => Cert.Kernel4.Gen.frame (F := Bits) m ρ

theorem frame_kernel4Ideal : Cert.quiescent_Kernel4Ideal := fun m ρ _ => Cert.Kernel4Ideal.Gen.frame (F := Ideal) m ρ

theorem frame_reference4Ideal : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem frame_kernel5 : Cert.quiescent_Kernel5 := fun m ρ _ => Cert.Kernel5.Gen.frame (F := Bits) m ρ

theorem frame_kernel5Ideal : Cert.quiescent_Kernel5Ideal := fun m ρ _ => Cert.Kernel5Ideal.Gen.frame (F := Ideal) m ρ

theorem frame_reference5Ideal : Cert.quiescent_Reference5Ideal := fun m ρ _ =>
  (θ_run Cert.Reference5Ideal.defs _ _).mono (fun r h => ⟨fun c => (h c).2.2.2.2.2, sem_eq_zero_of_no_sems (by decide) r.2⟩)
    (Cert.Reference5Ideal.Value.run (F := Ideal) m ρ)

theorem frame_kernel6 : Cert.quiescent_Kernel6 := fun m ρ _ => Cert.Kernel6.Gen.frame (F := Bits) m ρ

theorem frame_kernel6Ideal : Cert.quiescent_Kernel6Ideal := fun m ρ _ => Cert.Kernel6Ideal.Gen.frame (F := Ideal) m ρ

theorem frame_reference6Ideal : Cert.quiescent_Reference6Ideal := fun m ρ _ =>
  (θ_run Cert.Reference6Ideal.defs _ _).mono (fun r h => ⟨fun c => (h c).2.2.2.2.2.2.2, sem_eq_zero_of_no_sems (by decide) r.2⟩)
    (Cert.Reference6Ideal.Value.run (F := Ideal) m ρ)

theorem frame_kernel7 : Cert.quiescent_Kernel7 := fun m ρ _ => Cert.Kernel7.Gen.frame (F := Bits) m ρ

theorem frame_kernel7Ideal : Cert.quiescent_Kernel7Ideal := fun m ρ _ => Cert.Kernel7Ideal.Gen.frame (F := Ideal) m ρ

theorem frame_reference7Ideal : Cert.quiescent_Reference7Ideal := fun m ρ _ =>
  (θ_run Cert.Reference7Ideal.defs _ _).mono (fun r h => ⟨fun c => (h c).2.2.2.2, sem_eq_zero_of_no_sems (by decide) r.2⟩)
    (Cert.Reference7Ideal.Value.run (F := Ideal) m ρ)

theorem frame_kernel8 : Cert.quiescent_Kernel8 := fun m ρ _ => Cert.Kernel8.Gen.frame (F := Bits) m ρ

theorem frame_kernel8Ideal : Cert.quiescent_Kernel8Ideal := fun m ρ _ => Cert.Kernel8Ideal.Gen.frame (F := Ideal) m ρ

theorem frame_reference8Ideal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem frame_kernel9 : Cert.quiescent_Kernel9 := fun m ρ _ => Cert.Kernel9.Gen.frame (F := Bits) m ρ

theorem frame_kernel9Ideal : Cert.quiescent_Kernel9Ideal := fun m ρ _ => Cert.Kernel9Ideal.Gen.frame (F := Ideal) m ρ

theorem frame_reference9Ideal : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem frame_kernel10 : Cert.quiescent_Kernel10 := fun m ρ _ => Cert.Kernel10.Gen.frame (F := Bits) m ρ

theorem frame_kernel10Ideal : Cert.quiescent_Kernel10Ideal := fun m ρ _ => Cert.Kernel10Ideal.Gen.frame (F := Ideal) m ρ

theorem frame_reference10Ideal : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem frame_kernel11 : Cert.quiescent_Kernel11 := fun m ρ _ => Cert.Kernel11.Gen.frame (F := Bits) m ρ

theorem frame_kernel11Ideal : Cert.quiescent_Kernel11Ideal := fun m ρ _ => Cert.Kernel11Ideal.Gen.frame (F := Ideal) m ρ

theorem frame_reference11Ideal : Cert.quiescent_Reference11Ideal := fun m ρ _ =>
  (θ_run Cert.Reference11Ideal.defs _ _).mono (fun r h => ⟨fun c => (h c).2.2.2.2.2.2.2.2.2, sem_eq_zero_of_no_sems (by decide) r.2⟩)
    (Cert.Reference11Ideal.Value.run (F := Ideal) m ρ)

theorem frame_kernel12 : Cert.quiescent_Kernel12 := fun m ρ _ => Cert.Kernel12.Gen.frame (F := Bits) m ρ

theorem frame_kernel12Ideal : Cert.quiescent_Kernel12Ideal := fun m ρ _ => Cert.Kernel12Ideal.Gen.frame (F := Ideal) m ρ

theorem frame_reference12Ideal : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

theorem frame_kernel13 : Cert.quiescent_Kernel13 := fun m ρ _ => Cert.Kernel13.Gen.frame (F := Bits) m ρ

theorem frame_kernel13Ideal : Cert.quiescent_Kernel13Ideal := fun m ρ _ => Cert.Kernel13Ideal.Gen.frame (F := Ideal) m ρ

theorem frame_reference13Ideal : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)

theorem frame_kernel14 : Cert.quiescent_Kernel14 := fun m ρ _ => Cert.Kernel14.Gen.frame (F := Bits) m ρ

theorem frame_kernel14Ideal : Cert.quiescent_Kernel14Ideal := fun m ρ _ => Cert.Kernel14Ideal.Gen.frame (F := Ideal) m ρ

theorem frame_reference14Ideal : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

theorem frame_kernel15 : Cert.quiescent_Kernel15 := fun m ρ _ => Cert.Kernel15.Gen.frame (F := Bits) m ρ

theorem frame_kernel15Ideal : Cert.quiescent_Kernel15Ideal := fun m ρ _ => Cert.Kernel15Ideal.Gen.frame (F := Ideal) m ρ

theorem frame_reference15Ideal : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)

theorem frame_kernel16 : Cert.quiescent_Kernel16 := fun m ρ _ => Cert.Kernel16.Gen.frame (F := Bits) m ρ

theorem frame_kernel16Ideal : Cert.quiescent_Kernel16Ideal := fun m ρ _ => Cert.Kernel16Ideal.Gen.frame (F := Ideal) m ρ

theorem frame_reference16Ideal : Cert.quiescent_Reference16Ideal := fun m ρ _ =>
  (θ_run Cert.Reference16Ideal.defs _ _).mono (fun r h => ⟨fun c => (h c).2.2.2, sem_eq_zero_of_no_sems (by decide) r.2⟩)
    (Cert.Reference16Ideal.Value.run (F := Ideal) m ρ)

section
variable [hfinite4 : Cert.Pre_finite4.Facts]

theorem frame_kernel4Ideal_finite : Cert.quiescent_Kernel4Ideal_pre_finite4 := fun m ρ _ => Cert.Kernel4Ideal.Gen.frame (F := Ideal) m ρ

theorem frame_reference4Ideal_finite : Cert.quiescent_Reference4Ideal_pre_finite4 := fun m ρ _ => frame_reference4Ideal m ρ trivial

end

section
variable [hfinite5 : Cert.Pre_finite5.Facts]

theorem frame_kernel5Ideal_finite : Cert.quiescent_Kernel5Ideal_pre_finite5 := fun m ρ _ => Cert.Kernel5Ideal.Gen.frame (F := Ideal) m ρ

theorem frame_reference5Ideal_finite : Cert.quiescent_Reference5Ideal_pre_finite5 := fun m ρ _ => frame_reference5Ideal m ρ trivial

end

section
variable [hfinite6 : Cert.Pre_finite6.Facts]

theorem frame_kernel6Ideal_finite : Cert.quiescent_Kernel6Ideal_pre_finite6 := fun m ρ _ => Cert.Kernel6Ideal.Gen.frame (F := Ideal) m ρ

theorem frame_reference6Ideal_finite : Cert.quiescent_Reference6Ideal_pre_finite6 := fun m ρ _ => frame_reference6Ideal m ρ trivial

end

section
variable [hfinite : Cert.Pre_finite.Facts]

theorem frame_kernelIdeal_finite : Cert.quiescent_KernelIdeal_pre_finite := fun m ρ _ => Cert.KernelIdeal.Gen.frame (F := Ideal) m ρ

theorem frame_referenceIdeal_finite : Cert.quiescent_ReferenceIdeal_pre_finite := fun m ρ _ => frame_referenceIdeal m ρ trivial

end

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.Kernel10.Gen.facts,
    Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Ffn.Pre.facts, Cert.Proj.Pre.facts, Cert.Fwd.Pre.facts, Cert.Head.Pre.facts,
    frame_kernel, frame_kernelIdeal, frame_kernelIdeal_finite (hfinite := Cert.Ffn.Pre.facts), frame_referenceIdeal,
    frame_referenceIdeal_finite (hfinite := Cert.Ffn.Pre.facts), frame_kernel2, frame_kernel2Ideal, frame_reference2Ideal,
    frame_kernel3, frame_kernel3Ideal, frame_reference3Ideal,
    frame_kernel4, frame_kernel4Ideal, frame_kernel4Ideal_finite (hfinite4 := Cert.Proj.Pre.facts), frame_reference4Ideal,
    frame_reference4Ideal_finite (hfinite4 := Cert.Proj.Pre.facts),
    frame_kernel5, frame_kernel5Ideal, frame_kernel5Ideal_finite (hfinite5 := Cert.Fwd.Pre.facts), frame_reference5Ideal,
    frame_reference5Ideal_finite (hfinite5 := Cert.Fwd.Pre.facts),
    frame_kernel6, frame_kernel6Ideal, frame_kernel6Ideal_finite (hfinite6 := Cert.Head.Pre.facts), frame_reference6Ideal,
    frame_reference6Ideal_finite (hfinite6 := Cert.Head.Pre.facts),
    frame_kernel7, frame_kernel7Ideal, frame_reference7Ideal, frame_kernel8, frame_kernel8Ideal, frame_reference8Ideal,
    frame_kernel9, frame_kernel9Ideal, frame_reference9Ideal, frame_kernel10, frame_kernel10Ideal, frame_reference10Ideal,
    frame_kernel11, frame_kernel11Ideal, frame_reference11Ideal,
    frame_kernel12, frame_kernel12Ideal, frame_reference12Ideal,
    frame_kernel13, frame_kernel13Ideal, frame_reference13Ideal,
    frame_kernel14, frame_kernel14Ideal, frame_reference14Ideal,
    frame_kernel15, frame_kernel15Ideal, frame_reference15Ideal,
    frame_kernel16, frame_kernel16Ideal, frame_reference16Ideal,
    trivial, Cert.FfnClaim.algebraic (hfinite := Cert.Ffn.Pre.facts), trivial, Cert.Wgrad.algebraic,
    trivial, Cert.ProjWgrad.algebraic, trivial, Cert.ProjClaim.algebraic (hfinite := Cert.Proj.Pre.facts),
    trivial, Cert.FwdClaim.algebraic (hfinite5 := Cert.Fwd.Pre.facts), trivial, Cert.HeadClaim.algebraic (hfinite6 := Cert.Head.Pre.facts),
    trivial, Cert.EntryClaim.algebraic, trivial, Cert.OutWgrad.algebraic, trivial, Cert.BranchWgrad.algebraic,
    trivial, Cert.BranchWgrad2.algebraic,
    trivial, Cert.AdamThree.algebraic,
    trivial, Cert.AdamGate.algebraic,
    trivial, Cert.AdamIn.algebraic,
    trivial, Cert.AdamBranch.algebraic,
    trivial, Cert.AdamBranch2.algebraic,
    trivial, Cert.AdamOut.algebraic⟩

end Cert.Proof

end
